-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 24576]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![24576, 1536]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S7x192x768 : Shape := ⟨3, ![7, 192, 768]⟩
abbrev S192x768 : Shape := ⟨2, ![192, 768]⟩
abbrev S3x48x768 : Shape := ⟨3, ![3, 48, 768]⟩
abbrev S48x768 : Shape := ⟨2, ![48, 768]⟩
abbrev S7x4 : Shape := ⟨2, ![7, 4]⟩
abbrev S3 : Shape := ⟨1, ![3]⟩
abbrev S_ : Shape := ⟨0, ![]⟩
abbrev S192x1536 : Shape := ⟨2, ![192, 1536]⟩
abbrev S1x1 : Shape := ⟨2, ![1, 1]⟩
abbrev S1x48x768 : Shape := ⟨3, ![1, 48, 768]⟩
abbrev S1 : Shape := ⟨1, ![1]⟩

abbrev nBuf : Space → Nat
  | .hbm => 3
  | .vmem => 20
  | .smem => 0
  | _ => 0

abbrev bufTy : (tb : Table) → Fin (tcTables nBuf tb) → BufTy
  | .hbm, ⟨0, _⟩ => ⟨S1536x768, .f32⟩
  | .hbm, ⟨1, _⟩ => ⟨S768x1536, .f32⟩
  | .hbm, ⟨2, _⟩ => ⟨S1536x1536, .f32⟩
  | .local _ .vmem, ⟨0, _⟩ => ⟨S1536x768, .f32⟩
  | .local _ .vmem, ⟨1, _⟩ => ⟨S768x1536, .f32⟩
  | .local _ .vmem, ⟨2, _⟩ => ⟨S1536x1536, .f32⟩
  | .local _ .vmem, ⟨3, _⟩ => ⟨S768x1536, .bf16⟩
  | .local _ .vmem, ⟨4, _⟩ => ⟨S7x192x768, .bf16⟩
  | .local _ .vmem, ⟨5, _⟩ => ⟨S192x768, .bf16⟩
  | .local _ .vmem, ⟨6, _⟩ => ⟨S7x192x768, .bf16⟩
  | .local _ .vmem, ⟨7, _⟩ => ⟨S192x768, .bf16⟩
  | .local _ .vmem, ⟨8, _⟩ => ⟨S3x48x768, .bf16⟩
  | .local _ .vmem, ⟨9, _⟩ => ⟨S48x768, .bf16⟩
  | .local _ .vmem, ⟨10, _⟩ => ⟨S3x48x768, .bf16⟩
  | .local _ .vmem, ⟨11, _⟩ => ⟨S48x768, .bf16⟩
  | .local _ .vmem, ⟨12, _⟩ => ⟨S3x48x768, .bf16⟩
  | .local _ .vmem, ⟨13, _⟩ => ⟨S48x768, .bf16⟩
  | .local _ .vmem, ⟨14, _⟩ => ⟨S3x48x768, .bf16⟩
  | .local _ .vmem, ⟨15, _⟩ => ⟨S48x768, .bf16⟩
  | .local _ .vmem, ⟨16, _⟩ => ⟨S7x192x768, .bf16⟩
  | .local _ .vmem, ⟨17, _⟩ => ⟨S192x768, .bf16⟩
  | .local _ .vmem, ⟨18, _⟩ => ⟨S7x192x768, .bf16⟩
  | .local _ .vmem, ⟨19, _⟩ => ⟨S192x768, .bf16⟩
  | _, _ => ⟨S1536x768, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 1 → Bool
  | ⟨0, _⟩ => false
  | _ => false

abbrev dmaSemScoped : Fin 251 → Bool
  | ⟨i, _⟩ => dmaSemScopedAt i

abbrev sig : RefSig :=
  (ofTc nBuf bufTy 1 251 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_scratch16 : Ref sig .tc := ⟨.vmem, 19, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_60 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_59 : BitVec 32 := 1#32
  let v102 : BitVec 32 := Scalar.muli v91 c1_i32_59
  let v103 : BitVec 32 := Scalar.addi c0_i32_60 v102
  v103.toNat
def k0_dev2 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_62 : BitVec 32 := 1#32
  let v104 : BitVec 32 := Scalar.muli v72 c1_i32_62
  let v105 : BitVec 32 := Scalar.addi c0_i32_63 v104
  v105.toNat
def k0_dev3 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_54 : BitVec 32 := 4#32
  let v96 : BitVec 32 := Scalar.addi v19 c4_i32_54
  let c1_i32_55 : BitVec 32 := 1#32
  let v97 : BitVec 32 := Scalar.subi v96 c1_i32_55
  let c4_i32_56 : BitVec 32 := 4#32
  let v98 : BitVec 32 := Scalar.remsi v97 c4_i32_56
  let c8_i32_57 : BitVec 32 := 8#32
  let v99 : BitVec 32 := Scalar.muli v98 c8_i32_57
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v100 : BitVec 32 := Scalar.addi v99 v29
  let c1_i32_65 : BitVec 32 := 1#32
  let v106 : BitVec 32 := Scalar.muli v100 c1_i32_65
  let v107 : BitVec 32 := Scalar.addi c0_i32_66 v106
  v107.toNat
def k0_dev4 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v92 : BitVec 32 := Scalar.addi v19 c1_i32_51
  let c4_i32_52 : BitVec 32 := 4#32
  let v93 : BitVec 32 := Scalar.remsi v92 c4_i32_52
  let c8_i32_53 : BitVec 32 := 8#32
  let v94 : BitVec 32 := Scalar.muli v93 c8_i32_53
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v95 : BitVec 32 := Scalar.addi v94 v29
  let c1_i32_68 : BitVec 32 := 1#32
  let v108 : BitVec 32 := Scalar.muli v95 c1_i32_68
  let v109 : BitVec 32 := Scalar.addi c0_i32_69 v108
  v109.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c192_i32 : BitVec 32 := 192#32
  let v116 : BitVec 32 := Scalar.muli v29 c192_i32
  let v117 : Index := Scalar.indexCast v116
  let c0_74 : Index := 0#32
  ![v117.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c192_i32 : BitVec 32 := 192#32
  let v116 : BitVec 32 := Scalar.muli v29 c192_i32
  let v123 : Index := Scalar.indexCast v116
  let c0_77 : Index := 0#32
  ![v123.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c192_i32_78 : BitVec 32 := 192#32
  let v125 : BitVec 32 := Scalar.muli v29 c192_i32_78
  let v126 : Index := Scalar.indexCast v125
  let c0_79 : Index := 0#32
  ![v126.toNat, 0]
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c192_i32_78 : BitVec 32 := 192#32
  let v125 : BitVec 32 := Scalar.muli v29 c192_i32_78
  let v133 : Index := Scalar.indexCast v125
  let c768 : Index := 768#32
  ![v133.toNat, 768]
def k0_dev5 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_89 : BitVec 32 := 1#32
  let v140 : BitVec 32 := Scalar.muli v72 c1_i32_89
  let v141 : BitVec 32 := Scalar.addi c0_i32_90 v140
  v141.toNat
def k0_dev6 (d0 : Dev nD) : Nat :=
  let c0_i32_101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_100 : BitVec 32 := 1#32
  let v149 : BitVec 32 := Scalar.muli v91 c1_i32_100
  let v150 : BitVec 32 := Scalar.addi c0_i32_101 v149
  v150.toNat
def k0_dev7 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_111 : BitVec 32 := 1#32
  let v158 : BitVec 32 := Scalar.muli v72 c1_i32_111
  let v159 : BitVec 32 := Scalar.addi c0_i32_112 v158
  v159.toNat
def k0_dev8 (d0 : Dev nD) : Nat :=
  let c0_i32_122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_121 : BitVec 32 := 1#32
  let v167 : BitVec 32 := Scalar.muli v91 c1_i32_121
  let v168 : BitVec 32 := Scalar.addi c0_i32_122 v167
  v168.toNat
def k0_dev9 (d0 : Dev nD) : Nat :=
  let c0_i32_133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_132 : BitVec 32 := 1#32
  let v176 : BitVec 32 := Scalar.muli v72 c1_i32_132
  let v177 : BitVec 32 := Scalar.addi c0_i32_133 v176
  v177.toNat
def k0_dev10 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_142 : BitVec 32 := 1#32
  let v185 : BitVec 32 := Scalar.muli v91 c1_i32_142
  let v186 : BitVec 32 := Scalar.addi c0_i32_143 v185
  v186.toNat
def k0_dev11 (d0 : Dev nD) : Nat :=
  let c0_i32_153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_152 : BitVec 32 := 1#32
  let v194 : BitVec 32 := Scalar.muli v72 c1_i32_152
  let v195 : BitVec 32 := Scalar.addi c0_i32_153 v194
  v195.toNat
def k0_dev12 (d0 : Dev nD) : Nat :=
  let c0_i32_163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_162 : BitVec 32 := 1#32
  let v203 : BitVec 32 := Scalar.muli v91 c1_i32_162
  let v204 : BitVec 32 := Scalar.addi c0_i32_163 v203
  v204.toNat
def k0_off5 (d0 : Dev nD) : Fin 2 → Nat :=
  let c2_i32_179 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_168 : BitVec 32 := 1#32
  let v212 : BitVec 32 := Scalar.addi v54 c1_i32_168
  let c8_i32_169 : BitVec 32 := 8#32
  let v213 : BitVec 32 := Scalar.remsi v212 c8_i32_169
  let c0_i32_170 : BitVec 32 := 0#32
  let v214 : BitVec 1 := Scalar.cmpi .eq v213 c0_i32_170
  let c0_i32_174 : BitVec 32 := 0#32
  let c4_i32_171 : BitVec 32 := 4#32
  let v215 : BitVec 1 := Scalar.cmpi .sle v213 c4_i32_171
  let c1_i32_172 : BitVec 32 := 1#32
  let v216 : BitVec 32 := Scalar.subi v213 c1_i32_172
  let c8_i32_173 : BitVec 32 := 8#32
  let v217 : BitVec 32 := Scalar.subi c8_i32_173 v213
  let v218 : BitVec 32 := Scalar.select v215 v216 v217
  let v219 : BitVec 32 := Scalar.select v214 c0_i32_174 v218
  let v224 : BitVec 32 := Scalar.muli c2_i32_179 v219
  let c1_i32_175 : BitVec 32 := 1#32
  let v220 : BitVec 1 := Scalar.cmpi .sge v213 c1_i32_175
  let c4_i32_176 : BitVec 32 := 4#32
  let v221 : BitVec 1 := Scalar.cmpi .sle v213 c4_i32_176
  let v222 : BitVec 1 := Scalar.andi v220 v221
  let c1_i32_177 : BitVec 32 := 1#32
  let c0_i32_178 : BitVec 32 := 0#32
  let v223 : BitVec 32 := Scalar.select v222 c1_i32_177 c0_i32_178
  let v225 : BitVec 32 := Scalar.addi v223 v219
  let c2_i32_180 : BitVec 32 := 2#32
  let v226 : BitVec 32 := Scalar.remsi v225 c2_i32_180
  let v227 : BitVec 32 := Scalar.addi v224 v226
  let c192_i32_181 : BitVec 32 := 192#32
  let v228 : BitVec 32 := Scalar.muli v227 c192_i32_181
  let v229 : Index := Scalar.indexCast v228
  let c0_182 : Index := 0#32
  ![v229.toNat, 0]
def k0_off6 (d0 : Dev nD) : Fin 2 → Nat :=
  let c2_i32_179 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_168 : BitVec 32 := 1#32
  let v212 : BitVec 32 := Scalar.addi v54 c1_i32_168
  let c8_i32_169 : BitVec 32 := 8#32
  let v213 : BitVec 32 := Scalar.remsi v212 c8_i32_169
  let c0_i32_170 : BitVec 32 := 0#32
  let v214 : BitVec 1 := Scalar.cmpi .eq v213 c0_i32_170
  let c0_i32_174 : BitVec 32 := 0#32
  let c4_i32_171 : BitVec 32 := 4#32
  let v215 : BitVec 1 := Scalar.cmpi .sle v213 c4_i32_171
  let c1_i32_172 : BitVec 32 := 1#32
  let v216 : BitVec 32 := Scalar.subi v213 c1_i32_172
  let c8_i32_173 : BitVec 32 := 8#32
  let v217 : BitVec 32 := Scalar.subi c8_i32_173 v213
  let v218 : BitVec 32 := Scalar.select v215 v216 v217
  let v219 : BitVec 32 := Scalar.select v214 c0_i32_174 v218
  let v224 : BitVec 32 := Scalar.muli c2_i32_179 v219
  let c1_i32_175 : BitVec 32 := 1#32
  let v220 : BitVec 1 := Scalar.cmpi .sge v213 c1_i32_175
  let c4_i32_176 : BitVec 32 := 4#32
  let v221 : BitVec 1 := Scalar.cmpi .sle v213 c4_i32_176
  let v222 : BitVec 1 := Scalar.andi v220 v221
  let c1_i32_177 : BitVec 32 := 1#32
  let c0_i32_178 : BitVec 32 := 0#32
  let v223 : BitVec 32 := Scalar.select v222 c1_i32_177 c0_i32_178
  let v225 : BitVec 32 := Scalar.addi v223 v219
  let c2_i32_180 : BitVec 32 := 2#32
  let v226 : BitVec 32 := Scalar.remsi v225 c2_i32_180
  let v227 : BitVec 32 := Scalar.addi v224 v226
  let c192_i32_181 : BitVec 32 := 192#32
  let v228 : BitVec 32 := Scalar.muli v227 c192_i32_181
  let v235 : Index := Scalar.indexCast v228
  let c0_186 : Index := 0#32
  ![v235.toNat, 0]
def k0_off7 (d0 : Dev nD) : Fin 2 → Nat :=
  let c2_i32_199 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_187 : BitVec 32 := 8#32
  let v237 : BitVec 32 := Scalar.addi v54 c8_i32_187
  let c1_i32_188 : BitVec 32 := 1#32
  let v238 : BitVec 32 := Scalar.subi v237 c1_i32_188
  let c8_i32_189 : BitVec 32 := 8#32
  let v239 : BitVec 32 := Scalar.remsi v238 c8_i32_189
  let c0_i32_190 : BitVec 32 := 0#32
  let v240 : BitVec 1 := Scalar.cmpi .eq v239 c0_i32_190
  let c0_i32_194 : BitVec 32 := 0#32
  let c4_i32_191 : BitVec 32 := 4#32
  let v241 : BitVec 1 := Scalar.cmpi .sle v239 c4_i32_191
  let c1_i32_192 : BitVec 32 := 1#32
  let v242 : BitVec 32 := Scalar.subi v239 c1_i32_192
  let c8_i32_193 : BitVec 32 := 8#32
  let v243 : BitVec 32 := Scalar.subi c8_i32_193 v239
  let v244 : BitVec 32 := Scalar.select v241 v242 v243
  let v245 : BitVec 32 := Scalar.select v240 c0_i32_194 v244
  let v250 : BitVec 32 := Scalar.muli c2_i32_199 v245
  let c1_i32_195 : BitVec 32 := 1#32
  let v246 : BitVec 1 := Scalar.cmpi .sge v239 c1_i32_195
  let c4_i32_196 : BitVec 32 := 4#32
  let v247 : BitVec 1 := Scalar.cmpi .sle v239 c4_i32_196
  let v248 : BitVec 1 := Scalar.andi v246 v247
  let c1_i32_197 : BitVec 32 := 1#32
  let c0_i32_198 : BitVec 32 := 0#32
  let v249 : BitVec 32 := Scalar.select v248 c1_i32_197 c0_i32_198
  let v251 : BitVec 32 := Scalar.addi v249 v245
  let c2_i32_200 : BitVec 32 := 2#32
  let v252 : BitVec 32 := Scalar.remsi v251 c2_i32_200
  let v253 : BitVec 32 := Scalar.addi v250 v252
  let c192_i32_201 : BitVec 32 := 192#32
  let v254 : BitVec 32 := Scalar.muli v253 c192_i32_201
  let v255 : Index := Scalar.indexCast v254
  let c0_202 : Index := 0#32
  ![v255.toNat, 0]
def k0_off8 (d0 : Dev nD) : Fin 2 → Nat :=
  let c2_i32_199 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_187 : BitVec 32 := 8#32
  let v237 : BitVec 32 := Scalar.addi v54 c8_i32_187
  let c1_i32_188 : BitVec 32 := 1#32
  let v238 : BitVec 32 := Scalar.subi v237 c1_i32_188
  let c8_i32_189 : BitVec 32 := 8#32
  let v239 : BitVec 32 := Scalar.remsi v238 c8_i32_189
  let c0_i32_190 : BitVec 32 := 0#32
  let v240 : BitVec 1 := Scalar.cmpi .eq v239 c0_i32_190
  let c0_i32_194 : BitVec 32 := 0#32
  let c4_i32_191 : BitVec 32 := 4#32
  let v241 : BitVec 1 := Scalar.cmpi .sle v239 c4_i32_191
  let c1_i32_192 : BitVec 32 := 1#32
  let v242 : BitVec 32 := Scalar.subi v239 c1_i32_192
  let c8_i32_193 : BitVec 32 := 8#32
  let v243 : BitVec 32 := Scalar.subi c8_i32_193 v239
  let v244 : BitVec 32 := Scalar.select v241 v242 v243
  let v245 : BitVec 32 := Scalar.select v240 c0_i32_194 v244
  let v250 : BitVec 32 := Scalar.muli c2_i32_199 v245
  let c1_i32_195 : BitVec 32 := 1#32
  let v246 : BitVec 1 := Scalar.cmpi .sge v239 c1_i32_195
  let c4_i32_196 : BitVec 32 := 4#32
  let v247 : BitVec 1 := Scalar.cmpi .sle v239 c4_i32_196
  let v248 : BitVec 1 := Scalar.andi v246 v247
  let c1_i32_197 : BitVec 32 := 1#32
  let c0_i32_198 : BitVec 32 := 0#32
  let v249 : BitVec 32 := Scalar.select v248 c1_i32_197 c0_i32_198
  let v251 : BitVec 32 := Scalar.addi v249 v245
  let c2_i32_200 : BitVec 32 := 2#32
  let v252 : BitVec 32 := Scalar.remsi v251 c2_i32_200
  let v253 : BitVec 32 := Scalar.addi v250 v252
  let c192_i32_201 : BitVec 32 := 192#32
  let v254 : BitVec 32 := Scalar.muli v253 c192_i32_201
  let v261 : Index := Scalar.indexCast v254
  let c0_206 : Index := 0#32
  ![v261.toNat, 0]
def k0_off9 (d0 : Dev nD) (c0_i32_218 : BitVec 32) (c0_i32_234 : BitVec 32) : Fin 2 → Nat :=
  let c2_i32_231 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let v270 : BitVec 32 := Scalar.subi v54 c0_i32_218
  let c1_i32_219 : BitVec 32 := 1#32
  let v271 : BitVec 32 := Scalar.subi v270 c1_i32_219
  let c8_i32_220 : BitVec 32 := 8#32
  let v272 : BitVec 32 := Scalar.addi v271 c8_i32_220
  let c8_i32_221 : BitVec 32 := 8#32
  let v273 : BitVec 32 := Scalar.remsi v272 c8_i32_221
  let c0_i32_222 : BitVec 32 := 0#32
  let v274 : BitVec 1 := Scalar.cmpi .eq v273 c0_i32_222
  let c0_i32_226 : BitVec 32 := 0#32
  let c4_i32_223 : BitVec 32 := 4#32
  let v275 : BitVec 1 := Scalar.cmpi .sle v273 c4_i32_223
  let c1_i32_224 : BitVec 32 := 1#32
  let v276 : BitVec 32 := Scalar.subi v273 c1_i32_224
  let c8_i32_225 : BitVec 32 := 8#32
  let v277 : BitVec 32 := Scalar.subi c8_i32_225 v273
  let v278 : BitVec 32 := Scalar.select v275 v276 v277
  let v279 : BitVec 32 := Scalar.select v274 c0_i32_226 v278
  let v284 : BitVec 32 := Scalar.muli c2_i32_231 v279
  let c1_i32_227 : BitVec 32 := 1#32
  let v280 : BitVec 1 := Scalar.cmpi .sge v273 c1_i32_227
  let c4_i32_228 : BitVec 32 := 4#32
  let v281 : BitVec 1 := Scalar.cmpi .sle v273 c4_i32_228
  let v282 : BitVec 1 := Scalar.andi v280 v281
  let c1_i32_229 : BitVec 32 := 1#32
  let c0_i32_230 : BitVec 32 := 0#32
  let v283 : BitVec 32 := Scalar.select v282 c1_i32_229 c0_i32_230
  let v285 : BitVec 32 := Scalar.addi v283 v279
  let c2_i32_232 : BitVec 32 := 2#32
  let v286 : BitVec 32 := Scalar.remsi v285 c2_i32_232
  let v287 : BitVec 32 := Scalar.addi v284 v286
  let c192_i32_233 : BitVec 32 := 192#32
  let v288 : BitVec 32 := Scalar.muli v287 c192_i32_233
  let v289 : BitVec 32 := Scalar.addi v288 c0_i32_234
  let v290 : Index := Scalar.indexCast v289
  let c0_235 : Index := 0#32
  ![v290.toNat, 0]
def k0_dev13 (d0 : Dev nD) : Nat :=
  let c0_i32_257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_256 : BitVec 32 := 1#32
  let v306 : BitVec 32 := Scalar.muli v72 c1_i32_256
  let v307 : BitVec 32 := Scalar.addi c0_i32_257 v306
  v307.toNat
def k0_off10 (d0 : Dev nD) (c0_i32_273 : BitVec 32) (c0_i32_288 : BitVec 32) : Fin 2 → Nat :=
  let c2_i32_285 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let v322 : BitVec 32 := Scalar.addi v54 c0_i32_273
  let c1_i32_274 : BitVec 32 := 1#32
  let v323 : BitVec 32 := Scalar.addi v322 c1_i32_274
  let c8_i32_275 : BitVec 32 := 8#32
  let v324 : BitVec 32 := Scalar.remsi v323 c8_i32_275
  let c0_i32_276 : BitVec 32 := 0#32
  let v325 : BitVec 1 := Scalar.cmpi .eq v324 c0_i32_276
  let c0_i32_280 : BitVec 32 := 0#32
  let c4_i32_277 : BitVec 32 := 4#32
  let v326 : BitVec 1 := Scalar.cmpi .sle v324 c4_i32_277
  let c1_i32_278 : BitVec 32 := 1#32
  let v327 : BitVec 32 := Scalar.subi v324 c1_i32_278
  let c8_i32_279 : BitVec 32 := 8#32
  let v328 : BitVec 32 := Scalar.subi c8_i32_279 v324
  let v329 : BitVec 32 := Scalar.select v326 v327 v328
  let v330 : BitVec 32 := Scalar.select v325 c0_i32_280 v329
  let v335 : BitVec 32 := Scalar.muli c2_i32_285 v330
  let c1_i32_281 : BitVec 32 := 1#32
  let v331 : BitVec 1 := Scalar.cmpi .sge v324 c1_i32_281
  let c4_i32_282 : BitVec 32 := 4#32
  let v332 : BitVec 1 := Scalar.cmpi .sle v324 c4_i32_282
  let v333 : BitVec 1 := Scalar.andi v331 v332
  let c1_i32_283 : BitVec 32 := 1#32
  let c0_i32_284 : BitVec 32 := 0#32
  let v334 : BitVec 32 := Scalar.select v333 c1_i32_283 c0_i32_284
  let v336 : BitVec 32 := Scalar.addi v334 v330
  let c2_i32_286 : BitVec 32 := 2#32
  let v337 : BitVec 32 := Scalar.remsi v336 c2_i32_286
  let v338 : BitVec 32 := Scalar.addi v335 v337
  let c192_i32_287 : BitVec 32 := 192#32
  let v339 : BitVec 32 := Scalar.muli v338 c192_i32_287
  let v340 : BitVec 32 := Scalar.addi v339 c0_i32_288
  let v341 : Index := Scalar.indexCast v340
  let c768_289 : Index := 768#32
  ![v341.toNat, 768]
def k0_dev14 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_310 : BitVec 32 := 1#32
  let v357 : BitVec 32 := Scalar.muli v91 c1_i32_310
  let v358 : BitVec 32 := Scalar.addi c0_i32_311 v357
  v358.toNat
def k0_dev15 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_364 : BitVec 32 := 1#32
  let v409 : BitVec 32 := Scalar.muli v72 c1_i32_364
  let v410 : BitVec 32 := Scalar.addi c0_i32_365 v409
  v410.toNat
def k0_dev16 (d0 : Dev nD) : Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_418 : BitVec 32 := 1#32
  let v460 : BitVec 32 := Scalar.muli v91 c1_i32_418
  let v461 : BitVec 32 := Scalar.addi c0_i32_419 v460
  v461.toNat
def k0_dev17 (d0 : Dev nD) : Nat :=
  let c0_i32_473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_472 : BitVec 32 := 1#32
  let v512 : BitVec 32 := Scalar.muli v72 c1_i32_472
  let v513 : BitVec 32 := Scalar.addi c0_i32_473 v512
  v513.toNat
def k0_dev18 (d0 : Dev nD) : Nat :=
  let c0_i32_527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_526 : BitVec 32 := 1#32
  let v563 : BitVec 32 := Scalar.muli v91 c1_i32_526
  let v564 : BitVec 32 := Scalar.addi c0_i32_527 v563
  v564.toNat
def k0_dev19 (d0 : Dev nD) : Nat :=
  let c0_i32_581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_580 : BitVec 32 := 1#32
  let v615 : BitVec 32 := Scalar.muli v72 c1_i32_580
  let v616 : BitVec 32 := Scalar.addi c0_i32_581 v615
  v616.toNat
def k0_dev20 (d0 : Dev nD) : Nat :=
  let c0_i32_635 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_634 : BitVec 32 := 1#32
  let v666 : BitVec 32 := Scalar.muli v91 c1_i32_634
  let v667 : BitVec 32 := Scalar.addi c0_i32_635 v666
  v667.toNat
def k0_off11 (d0 : Dev nD) (c1_i32_640 : BitVec 32) : Fin 2 → Nat :=
  let c2_i32_652 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let v675 : BitVec 32 := Scalar.addi v54 c1_i32_640
  let c1_i32_641 : BitVec 32 := 1#32
  let v676 : BitVec 32 := Scalar.addi v675 c1_i32_641
  let c8_i32_642 : BitVec 32 := 8#32
  let v677 : BitVec 32 := Scalar.remsi v676 c8_i32_642
  let c0_i32_643 : BitVec 32 := 0#32
  let v678 : BitVec 1 := Scalar.cmpi .eq v677 c0_i32_643
  let c0_i32_647 : BitVec 32 := 0#32
  let c4_i32_644 : BitVec 32 := 4#32
  let v679 : BitVec 1 := Scalar.cmpi .sle v677 c4_i32_644
  let c1_i32_645 : BitVec 32 := 1#32
  let v680 : BitVec 32 := Scalar.subi v677 c1_i32_645
  let c8_i32_646 : BitVec 32 := 8#32
  let v681 : BitVec 32 := Scalar.subi c8_i32_646 v677
  let v682 : BitVec 32 := Scalar.select v679 v680 v681
  let v683 : BitVec 32 := Scalar.select v678 c0_i32_647 v682
  let v688 : BitVec 32 := Scalar.muli c2_i32_652 v683
  let c1_i32_648 : BitVec 32 := 1#32
  let v684 : BitVec 1 := Scalar.cmpi .sge v677 c1_i32_648
  let c4_i32_649 : BitVec 32 := 4#32
  let v685 : BitVec 1 := Scalar.cmpi .sle v677 c4_i32_649
  let v686 : BitVec 1 := Scalar.andi v684 v685
  let c1_i32_650 : BitVec 32 := 1#32
  let c0_i32_651 : BitVec 32 := 0#32
  let v687 : BitVec 32 := Scalar.select v686 c1_i32_650 c0_i32_651
  let v689 : BitVec 32 := Scalar.addi v687 v683
  let c2_i32_653 : BitVec 32 := 2#32
  let v690 : BitVec 32 := Scalar.remsi v689 c2_i32_653
  let v691 : BitVec 32 := Scalar.addi v688 v690
  let c192_i32_654 : BitVec 32 := 192#32
  let v692 : BitVec 32 := Scalar.muli v691 c192_i32_654
  let v693 : Index := Scalar.indexCast v692
  let c0_655 : Index := 0#32
  ![v693.toNat, 0]
def k0_off12 (d0 : Dev nD) (c1_i32_640 : BitVec 32) : Fin 2 → Nat :=
  let c2_i32_652 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let v675 : BitVec 32 := Scalar.addi v54 c1_i32_640
  let c1_i32_641 : BitVec 32 := 1#32
  let v676 : BitVec 32 := Scalar.addi v675 c1_i32_641
  let c8_i32_642 : BitVec 32 := 8#32
  let v677 : BitVec 32 := Scalar.remsi v676 c8_i32_642
  let c0_i32_643 : BitVec 32 := 0#32
  let v678 : BitVec 1 := Scalar.cmpi .eq v677 c0_i32_643
  let c0_i32_647 : BitVec 32 := 0#32
  let c4_i32_644 : BitVec 32 := 4#32
  let v679 : BitVec 1 := Scalar.cmpi .sle v677 c4_i32_644
  let c1_i32_645 : BitVec 32 := 1#32
  let v680 : BitVec 32 := Scalar.subi v677 c1_i32_645
  let c8_i32_646 : BitVec 32 := 8#32
  let v681 : BitVec 32 := Scalar.subi c8_i32_646 v677
  let v682 : BitVec 32 := Scalar.select v679 v680 v681
  let v683 : BitVec 32 := Scalar.select v678 c0_i32_647 v682
  let v688 : BitVec 32 := Scalar.muli c2_i32_652 v683
  let c1_i32_648 : BitVec 32 := 1#32
  let v684 : BitVec 1 := Scalar.cmpi .sge v677 c1_i32_648
  let c4_i32_649 : BitVec 32 := 4#32
  let v685 : BitVec 1 := Scalar.cmpi .sle v677 c4_i32_649
  let v686 : BitVec 1 := Scalar.andi v684 v685
  let c1_i32_650 : BitVec 32 := 1#32
  let c0_i32_651 : BitVec 32 := 0#32
  let v687 : BitVec 32 := Scalar.select v686 c1_i32_650 c0_i32_651
  let v689 : BitVec 32 := Scalar.addi v687 v683
  let c2_i32_653 : BitVec 32 := 2#32
  let v690 : BitVec 32 := Scalar.remsi v689 c2_i32_653
  let v691 : BitVec 32 := Scalar.addi v688 v690
  let c192_i32_654 : BitVec 32 := 192#32
  let v692 : BitVec 32 := Scalar.muli v691 c192_i32_654
  let v699 : Index := Scalar.indexCast v692
  let c0_659 : Index := 0#32
  ![v699.toNat, 0]
def k0_off13 (d0 : Dev nD) (c1_i32_661 : BitVec 32) : Fin 2 → Nat :=
  let c2_i32_673 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_660 : BitVec 32 := 8#32
  let v701 : BitVec 32 := Scalar.addi v54 c8_i32_660
  let v702 : BitVec 32 := Scalar.subi v701 c1_i32_661
  let c1_i32_662 : BitVec 32 := 1#32
  let v703 : BitVec 32 := Scalar.subi v702 c1_i32_662
  let c8_i32_663 : BitVec 32 := 8#32
  let v704 : BitVec 32 := Scalar.remsi v703 c8_i32_663
  let c0_i32_664 : BitVec 32 := 0#32
  let v705 : BitVec 1 := Scalar.cmpi .eq v704 c0_i32_664
  let c0_i32_668 : BitVec 32 := 0#32
  let c4_i32_665 : BitVec 32 := 4#32
  let v706 : BitVec 1 := Scalar.cmpi .sle v704 c4_i32_665
  let c1_i32_666 : BitVec 32 := 1#32
  let v707 : BitVec 32 := Scalar.subi v704 c1_i32_666
  let c8_i32_667 : BitVec 32 := 8#32
  let v708 : BitVec 32 := Scalar.subi c8_i32_667 v704
  let v709 : BitVec 32 := Scalar.select v706 v707 v708
  let v710 : BitVec 32 := Scalar.select v705 c0_i32_668 v709
  let v715 : BitVec 32 := Scalar.muli c2_i32_673 v710
  let c1_i32_669 : BitVec 32 := 1#32
  let v711 : BitVec 1 := Scalar.cmpi .sge v704 c1_i32_669
  let c4_i32_670 : BitVec 32 := 4#32
  let v712 : BitVec 1 := Scalar.cmpi .sle v704 c4_i32_670
  let v713 : BitVec 1 := Scalar.andi v711 v712
  let c1_i32_671 : BitVec 32 := 1#32
  let c0_i32_672 : BitVec 32 := 0#32
  let v714 : BitVec 32 := Scalar.select v713 c1_i32_671 c0_i32_672
  let v716 : BitVec 32 := Scalar.addi v714 v710
  let c2_i32_674 : BitVec 32 := 2#32
  let v717 : BitVec 32 := Scalar.remsi v716 c2_i32_674
  let v718 : BitVec 32 := Scalar.addi v715 v717
  let c192_i32_675 : BitVec 32 := 192#32
  let v719 : BitVec 32 := Scalar.muli v718 c192_i32_675
  let v720 : Index := Scalar.indexCast v719
  let c0_676 : Index := 0#32
  ![v720.toNat, 0]
def k0_off14 (d0 : Dev nD) (c1_i32_661 : BitVec 32) : Fin 2 → Nat :=
  let c2_i32_673 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_660 : BitVec 32 := 8#32
  let v701 : BitVec 32 := Scalar.addi v54 c8_i32_660
  let v702 : BitVec 32 := Scalar.subi v701 c1_i32_661
  let c1_i32_662 : BitVec 32 := 1#32
  let v703 : BitVec 32 := Scalar.subi v702 c1_i32_662
  let c8_i32_663 : BitVec 32 := 8#32
  let v704 : BitVec 32 := Scalar.remsi v703 c8_i32_663
  let c0_i32_664 : BitVec 32 := 0#32
  let v705 : BitVec 1 := Scalar.cmpi .eq v704 c0_i32_664
  let c0_i32_668 : BitVec 32 := 0#32
  let c4_i32_665 : BitVec 32 := 4#32
  let v706 : BitVec 1 := Scalar.cmpi .sle v704 c4_i32_665
  let c1_i32_666 : BitVec 32 := 1#32
  let v707 : BitVec 32 := Scalar.subi v704 c1_i32_666
  let c8_i32_667 : BitVec 32 := 8#32
  let v708 : BitVec 32 := Scalar.subi c8_i32_667 v704
  let v709 : BitVec 32 := Scalar.select v706 v707 v708
  let v710 : BitVec 32 := Scalar.select v705 c0_i32_668 v709
  let v715 : BitVec 32 := Scalar.muli c2_i32_673 v710
  let c1_i32_669 : BitVec 32 := 1#32
  let v711 : BitVec 1 := Scalar.cmpi .sge v704 c1_i32_669
  let c4_i32_670 : BitVec 32 := 4#32
  let v712 : BitVec 1 := Scalar.cmpi .sle v704 c4_i32_670
  let v713 : BitVec 1 := Scalar.andi v711 v712
  let c1_i32_671 : BitVec 32 := 1#32
  let c0_i32_672 : BitVec 32 := 0#32
  let v714 : BitVec 32 := Scalar.select v713 c1_i32_671 c0_i32_672
  let v716 : BitVec 32 := Scalar.addi v714 v710
  let c2_i32_674 : BitVec 32 := 2#32
  let v717 : BitVec 32 := Scalar.remsi v716 c2_i32_674
  let v718 : BitVec 32 := Scalar.addi v715 v717
  let c192_i32_675 : BitVec 32 := 192#32
  let v719 : BitVec 32 := Scalar.muli v718 c192_i32_675
  let v726 : Index := Scalar.indexCast v719
  let c0_680 : Index := 0#32
  ![v726.toNat, 0]
def k0_dev21 (d0 : Dev nD) : Nat :=
  let c0_i32_730 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_729 : BitVec 32 := 1#32
  let v771 : BitVec 32 := Scalar.muli v72 c1_i32_729
  let v772 : BitVec 32 := Scalar.addi c0_i32_730 v771
  v772.toNat
def k0_dev22 (d0 : Dev nD) : Nat :=
  let c0_i32_784 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_783 : BitVec 32 := 1#32
  let v822 : BitVec 32 := Scalar.muli v91 c1_i32_783
  let v823 : BitVec 32 := Scalar.addi c0_i32_784 v822
  v823.toNat
def k0_dev23 (d0 : Dev nD) : Nat :=
  let c0_i32_839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_838 : BitVec 32 := 1#32
  let v874 : BitVec 32 := Scalar.muli v72 c1_i32_838
  let v875 : BitVec 32 := Scalar.addi c0_i32_839 v874
  v875.toNat
def k0_dev24 (d0 : Dev nD) : Nat :=
  let c0_i32_893 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_892 : BitVec 32 := 1#32
  let v925 : BitVec 32 := Scalar.muli v91 c1_i32_892
  let v926 : BitVec 32 := Scalar.addi c0_i32_893 v925
  v926.toNat
def k0_dev25 (d0 : Dev nD) : Nat :=
  let c0_i32_948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_947 : BitVec 32 := 1#32
  let v977 : BitVec 32 := Scalar.muli v72 c1_i32_947
  let v978 : BitVec 32 := Scalar.addi c0_i32_948 v977
  v978.toNat
def k0_dev26 (d0 : Dev nD) : Nat :=
  let c0_i32_1002 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_1001 : BitVec 32 := 1#32
  let v1028 : BitVec 32 := Scalar.muli v91 c1_i32_1001
  let v1029 : BitVec 32 := Scalar.addi c0_i32_1002 v1028
  v1029.toNat
def k0_dev27 (d0 : Dev nD) : Nat :=
  let c0_i32_1057 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_1056 : BitVec 32 := 1#32
  let v1080 : BitVec 32 := Scalar.muli v72 c1_i32_1056
  let v1081 : BitVec 32 := Scalar.addi c0_i32_1057 v1080
  v1081.toNat
def k0_dev28 (d0 : Dev nD) : Nat :=
  let c0_i32_1111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_1110 : BitVec 32 := 1#32
  let v1131 : BitVec 32 := Scalar.muli v91 c1_i32_1110
  let v1132 : BitVec 32 := Scalar.addi c0_i32_1111 v1131
  v1132.toNat
def k0_dev29 (d0 : Dev nD) : Nat :=
  let c0_i32_1206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_1205 : BitVec 32 := 1#32
  let v1236 : BitVec 32 := Scalar.muli v72 c1_i32_1205
  let v1237 : BitVec 32 := Scalar.addi c0_i32_1206 v1236
  v1237.toNat
def k0_dev30 (d0 : Dev nD) : Nat :=
  let c0_i32_1260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_1259 : BitVec 32 := 1#32
  let v1287 : BitVec 32 := Scalar.muli v91 c1_i32_1259
  let v1288 : BitVec 32 := Scalar.addi c0_i32_1260 v1287
  v1288.toNat
def k0_dev31 (d0 : Dev nD) : Nat :=
  let c0_i32_1315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_1314 : BitVec 32 := 1#32
  let v1339 : BitVec 32 := Scalar.muli v72 c1_i32_1314
  let v1340 : BitVec 32 := Scalar.addi c0_i32_1315 v1339
  v1340.toNat
def k0_dev32 (d0 : Dev nD) : Nat :=
  let c0_i32_1369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_1368 : BitVec 32 := 1#32
  let v1390 : BitVec 32 := Scalar.muli v91 c1_i32_1368
  let v1391 : BitVec 32 := Scalar.addi c0_i32_1369 v1390
  v1391.toNat
def k0_dev33 (d0 : Dev nD) : Nat :=
  let c0_i32_1424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_1423 : BitVec 32 := 1#32
  let v1442 : BitVec 32 := Scalar.muli v72 c1_i32_1423
  let v1443 : BitVec 32 := Scalar.addi c0_i32_1424 v1442
  v1443.toNat
def k0_dev34 (d0 : Dev nD) : Nat :=
  let c0_i32_1478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_1477 : BitVec 32 := 1#32
  let v1493 : BitVec 32 := Scalar.muli v91 c1_i32_1477
  let v1494 : BitVec 32 := Scalar.addi c0_i32_1478 v1493
  v1494.toNat
def k0_dev35 (d0 : Dev nD) : Nat :=
  let c0_i32_1533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_1532 : BitVec 32 := 1#32
  let v1545 : BitVec 32 := Scalar.muli v72 c1_i32_1532
  let v1546 : BitVec 32 := Scalar.addi c0_i32_1533 v1545
  v1546.toNat
def k0_dev36 (d0 : Dev nD) : Nat :=
  let c0_i32_1587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_1586 : BitVec 32 := 1#32
  let v1596 : BitVec 32 := Scalar.muli v91 c1_i32_1586
  let v1597 : BitVec 32 := Scalar.addi c0_i32_1587 v1596
  v1597.toNat
def k0_dev37 (d0 : Dev nD) : Nat :=
  let c0_i32_1661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_1660 : BitVec 32 := 1#32
  let v1674 : BitVec 32 := Scalar.muli v72 c1_i32_1660
  let v1675 : BitVec 32 := Scalar.addi c0_i32_1661 v1674
  v1675.toNat
def k0_dev38 (d0 : Dev nD) : Nat :=
  let c0_i32_1715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_1714 : BitVec 32 := 1#32
  let v1725 : BitVec 32 := Scalar.muli v91 c1_i32_1714
  let v1726 : BitVec 32 := Scalar.addi c0_i32_1715 v1725
  v1726.toNat
def k0_dev39 (d0 : Dev nD) : Nat :=
  let c0_i32_1770 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_1769 : BitVec 32 := 1#32
  let v1777 : BitVec 32 := Scalar.muli v72 c1_i32_1769
  let v1778 : BitVec 32 := Scalar.addi c0_i32_1770 v1777
  v1778.toNat
def k0_dev40 (d0 : Dev nD) : Nat :=
  let c0_i32_1824 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_1823 : BitVec 32 := 1#32
  let v1828 : BitVec 32 := Scalar.muli v91 c1_i32_1823
  let v1829 : BitVec 32 := Scalar.addi c0_i32_1824 v1828
  v1829.toNat
def k0_dev41 (d0 : Dev nD) : Nat :=
  let c0_i32_1879 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_1878 : BitVec 32 := 1#32
  let v1880 : BitVec 32 := Scalar.muli v72 c1_i32_1878
  let v1881 : BitVec 32 := Scalar.addi c0_i32_1879 v1880
  v1881.toNat
def k0_dev42 (d0 : Dev nD) : Nat :=
  let c0_i32_1933 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_1932 : BitVec 32 := 1#32
  let v1931 : BitVec 32 := Scalar.muli v91 c1_i32_1932
  let v1932 : BitVec 32 := Scalar.addi c0_i32_1933 v1931
  v1932.toNat
def k0_dev43 (d0 : Dev nD) : Nat :=
  let c0_i32_1988 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_1987 : BitVec 32 := 1#32
  let v1983 : BitVec 32 := Scalar.muli v72 c1_i32_1987
  let v1984 : BitVec 32 := Scalar.addi c0_i32_1988 v1983
  v1984.toNat
def k0_dev44 (d0 : Dev nD) : Nat :=
  let c0_i32_2042 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_2041 : BitVec 32 := 1#32
  let v2034 : BitVec 32 := Scalar.muli v91 c1_i32_2041
  let v2035 : BitVec 32 := Scalar.addi c0_i32_2042 v2034
  v2035.toNat
def k0_dev45 (d0 : Dev nD) : Nat :=
  let c0_i32_2095 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_2094 : BitVec 32 := 1#32
  let v2086 : BitVec 32 := Scalar.muli v72 c1_i32_2094
  let v2087 : BitVec 32 := Scalar.addi c0_i32_2095 v2086
  v2087.toNat
def k0_dev46 (d0 : Dev nD) : Nat :=
  let c0_i32_2149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_2148 : BitVec 32 := 1#32
  let v2137 : BitVec 32 := Scalar.muli v91 c1_i32_2148
  let v2138 : BitVec 32 := Scalar.addi c0_i32_2149 v2137
  v2138.toNat
def k0_dev47 (d0 : Dev nD) : Nat :=
  let c0_i32_2204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_2203 : BitVec 32 := 1#32
  let v2189 : BitVec 32 := Scalar.muli v72 c1_i32_2203
  let v2190 : BitVec 32 := Scalar.addi c0_i32_2204 v2189
  v2190.toNat
def k0_dev48 (d0 : Dev nD) : Nat :=
  let c0_i32_2258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_2257 : BitVec 32 := 1#32
  let v2240 : BitVec 32 := Scalar.muli v91 c1_i32_2257
  let v2241 : BitVec 32 := Scalar.addi c0_i32_2258 v2240
  v2241.toNat
def k0_dev49 (d0 : Dev nD) : Nat :=
  let c0_i32_2313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_2312 : BitVec 32 := 1#32
  let v2292 : BitVec 32 := Scalar.muli v72 c1_i32_2312
  let v2293 : BitVec 32 := Scalar.addi c0_i32_2313 v2292
  v2293.toNat
def k0_dev50 (d0 : Dev nD) : Nat :=
  let c0_i32_2367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_2366 : BitVec 32 := 1#32
  let v2343 : BitVec 32 := Scalar.muli v91 c1_i32_2366
  let v2344 : BitVec 32 := Scalar.addi c0_i32_2367 v2343
  v2344.toNat
def k0_dev51 (d0 : Dev nD) : Nat :=
  let c0_i32_2422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_2421 : BitVec 32 := 1#32
  let v2395 : BitVec 32 := Scalar.muli v72 c1_i32_2421
  let v2396 : BitVec 32 := Scalar.addi c0_i32_2422 v2395
  v2396.toNat
def k0_dev52 (d0 : Dev nD) : Nat :=
  let c0_i32_2476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_2475 : BitVec 32 := 1#32
  let v2446 : BitVec 32 := Scalar.muli v91 c1_i32_2475
  let v2447 : BitVec 32 := Scalar.addi c0_i32_2476 v2446
  v2447.toNat
def k0_dev53 (d0 : Dev nD) : Nat :=
  let c0_i32_2529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_2528 : BitVec 32 := 1#32
  let v2498 : BitVec 32 := Scalar.muli v72 c1_i32_2528
  let v2499 : BitVec 32 := Scalar.addi c0_i32_2529 v2498
  v2499.toNat
def k0_dev54 (d0 : Dev nD) : Nat :=
  let c0_i32_2583 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_2582 : BitVec 32 := 1#32
  let v2549 : BitVec 32 := Scalar.muli v91 c1_i32_2582
  let v2550 : BitVec 32 := Scalar.addi c0_i32_2583 v2549
  v2550.toNat
def k0_dev55 (d0 : Dev nD) : Nat :=
  let c0_i32_2638 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_2637 : BitVec 32 := 1#32
  let v2601 : BitVec 32 := Scalar.muli v72 c1_i32_2637
  let v2602 : BitVec 32 := Scalar.addi c0_i32_2638 v2601
  v2602.toNat
def k0_dev56 (d0 : Dev nD) : Nat :=
  let c0_i32_2692 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_2691 : BitVec 32 := 1#32
  let v2652 : BitVec 32 := Scalar.muli v91 c1_i32_2691
  let v2653 : BitVec 32 := Scalar.addi c0_i32_2692 v2652
  v2653.toNat
def k0_dev57 (d0 : Dev nD) : Nat :=
  let c0_i32_2747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_2746 : BitVec 32 := 1#32
  let v2704 : BitVec 32 := Scalar.muli v72 c1_i32_2746
  let v2705 : BitVec 32 := Scalar.addi c0_i32_2747 v2704
  v2705.toNat
def k0_dev58 (d0 : Dev nD) : Nat :=
  let c0_i32_2801 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_2800 : BitVec 32 := 1#32
  let v2755 : BitVec 32 := Scalar.muli v91 c1_i32_2800
  let v2756 : BitVec 32 := Scalar.addi c0_i32_2801 v2755
  v2756.toNat
def k0_dev59 (d0 : Dev nD) : Nat :=
  let c0_i32_2856 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_2855 : BitVec 32 := 1#32
  let v2807 : BitVec 32 := Scalar.muli v72 c1_i32_2855
  let v2808 : BitVec 32 := Scalar.addi c0_i32_2856 v2807
  v2808.toNat
def k0_dev60 (d0 : Dev nD) : Nat :=
  let c0_i32_2910 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_2909 : BitVec 32 := 1#32
  let v2858 : BitVec 32 := Scalar.muli v91 c1_i32_2909
  let v2859 : BitVec 32 := Scalar.addi c0_i32_2910 v2858
  v2859.toNat
def k0_off15 (d0 : Dev nD) : Fin 2 → Nat :=
  let c2_i32_3265 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_3254 : BitVec 32 := 1#32
  let v3191 : BitVec 32 := Scalar.addi v54 c1_i32_3254
  let c8_i32_3255 : BitVec 32 := 8#32
  let v3192 : BitVec 32 := Scalar.remsi v3191 c8_i32_3255
  let c0_i32_3256 : BitVec 32 := 0#32
  let v3193 : BitVec 1 := Scalar.cmpi .eq v3192 c0_i32_3256
  let c0_i32_3260 : BitVec 32 := 0#32
  let c4_i32_3257 : BitVec 32 := 4#32
  let v3194 : BitVec 1 := Scalar.cmpi .sle v3192 c4_i32_3257
  let c1_i32_3258 : BitVec 32 := 1#32
  let v3195 : BitVec 32 := Scalar.subi v3192 c1_i32_3258
  let c8_i32_3259 : BitVec 32 := 8#32
  let v3196 : BitVec 32 := Scalar.subi c8_i32_3259 v3192
  let v3197 : BitVec 32 := Scalar.select v3194 v3195 v3196
  let v3198 : BitVec 32 := Scalar.select v3193 c0_i32_3260 v3197
  let v3203 : BitVec 32 := Scalar.muli c2_i32_3265 v3198
  let c1_i32_3261 : BitVec 32 := 1#32
  let v3199 : BitVec 1 := Scalar.cmpi .sge v3192 c1_i32_3261
  let c4_i32_3262 : BitVec 32 := 4#32
  let v3200 : BitVec 1 := Scalar.cmpi .sle v3192 c4_i32_3262
  let v3201 : BitVec 1 := Scalar.andi v3199 v3200
  let c1_i32_3263 : BitVec 32 := 1#32
  let c0_i32_3264 : BitVec 32 := 0#32
  let v3202 : BitVec 32 := Scalar.select v3201 c1_i32_3263 c0_i32_3264
  let v3204 : BitVec 32 := Scalar.addi v3202 v3198
  let c2_i32_3266 : BitVec 32 := 2#32
  let v3205 : BitVec 32 := Scalar.remsi v3204 c2_i32_3266
  let v3206 : BitVec 32 := Scalar.addi v3203 v3205
  let c192_i32_3281 : BitVec 32 := 192#32
  let v3224 : BitVec 32 := Scalar.muli v3206 c192_i32_3281
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c48_i32_3288 : BitVec 32 := 48#32
  let v3231 : BitVec 32 := Scalar.muli v19 c48_i32_3288
  let v3232 : BitVec 32 := Scalar.addi v3224 v3231
  let v3233 : Index := Scalar.indexCast v3232
  let c0_3289 : Index := 0#32
  ![v3233.toNat, 0]
def k0_off16 (d0 : Dev nD) : Fin 2 → Nat :=
  let c2_i32_3279 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_3267 : BitVec 32 := 8#32
  let v3207 : BitVec 32 := Scalar.addi v54 c8_i32_3267
  let c1_i32_3268 : BitVec 32 := 1#32
  let v3208 : BitVec 32 := Scalar.subi v3207 c1_i32_3268
  let c8_i32_3269 : BitVec 32 := 8#32
  let v3209 : BitVec 32 := Scalar.remsi v3208 c8_i32_3269
  let c0_i32_3270 : BitVec 32 := 0#32
  let v3210 : BitVec 1 := Scalar.cmpi .eq v3209 c0_i32_3270
  let c0_i32_3274 : BitVec 32 := 0#32
  let c4_i32_3271 : BitVec 32 := 4#32
  let v3211 : BitVec 1 := Scalar.cmpi .sle v3209 c4_i32_3271
  let c1_i32_3272 : BitVec 32 := 1#32
  let v3212 : BitVec 32 := Scalar.subi v3209 c1_i32_3272
  let c8_i32_3273 : BitVec 32 := 8#32
  let v3213 : BitVec 32 := Scalar.subi c8_i32_3273 v3209
  let v3214 : BitVec 32 := Scalar.select v3211 v3212 v3213
  let v3215 : BitVec 32 := Scalar.select v3210 c0_i32_3274 v3214
  let v3220 : BitVec 32 := Scalar.muli c2_i32_3279 v3215
  let c1_i32_3275 : BitVec 32 := 1#32
  let v3216 : BitVec 1 := Scalar.cmpi .sge v3209 c1_i32_3275
  let c4_i32_3276 : BitVec 32 := 4#32
  let v3217 : BitVec 1 := Scalar.cmpi .sle v3209 c4_i32_3276
  let v3218 : BitVec 1 := Scalar.andi v3216 v3217
  let c1_i32_3277 : BitVec 32 := 1#32
  let c0_i32_3278 : BitVec 32 := 0#32
  let v3219 : BitVec 32 := Scalar.select v3218 c1_i32_3277 c0_i32_3278
  let v3221 : BitVec 32 := Scalar.addi v3219 v3215
  let c2_i32_3280 : BitVec 32 := 2#32
  let v3222 : BitVec 32 := Scalar.remsi v3221 c2_i32_3280
  let v3223 : BitVec 32 := Scalar.addi v3220 v3222
  let c192_i32_3282 : BitVec 32 := 192#32
  let v3225 : BitVec 32 := Scalar.muli v3223 c192_i32_3282
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c48_i32_3292 : BitVec 32 := 48#32
  let v3240 : BitVec 32 := Scalar.muli v19 c48_i32_3292
  let v3241 : BitVec 32 := Scalar.addi v3225 v3240
  let v3242 : Index := Scalar.indexCast v3241
  let c768_3293 : Index := 768#32
  ![v3242.toNat, 768]
def k0_dev61 (d0 : Dev nD) : Nat :=
  let c0_i32_3300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v92 : BitVec 32 := Scalar.addi v19 c1_i32_51
  let c4_i32_52 : BitVec 32 := 4#32
  let v93 : BitVec 32 := Scalar.remsi v92 c4_i32_52
  let c8_i32_53 : BitVec 32 := 8#32
  let v94 : BitVec 32 := Scalar.muli v93 c8_i32_53
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v95 : BitVec 32 := Scalar.addi v94 v29
  let c1_i32_3299 : BitVec 32 := 1#32
  let v3249 : BitVec 32 := Scalar.muli v95 c1_i32_3299
  let v3250 : BitVec 32 := Scalar.addi c0_i32_3300 v3249
  v3250.toNat
def k0_dev62 (d0 : Dev nD) : Nat :=
  let c0_i32_3307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_54 : BitVec 32 := 4#32
  let v96 : BitVec 32 := Scalar.addi v19 c4_i32_54
  let c1_i32_55 : BitVec 32 := 1#32
  let v97 : BitVec 32 := Scalar.subi v96 c1_i32_55
  let c4_i32_56 : BitVec 32 := 4#32
  let v98 : BitVec 32 := Scalar.remsi v97 c4_i32_56
  let c8_i32_57 : BitVec 32 := 8#32
  let v99 : BitVec 32 := Scalar.muli v98 c8_i32_57
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v100 : BitVec 32 := Scalar.addi v99 v29
  let c1_i32_3306 : BitVec 32 := 1#32
  let v3257 : BitVec 32 := Scalar.muli v100 c1_i32_3306
  let v3258 : BitVec 32 := Scalar.addi c0_i32_3307 v3257
  v3258.toNat
def k0_off17 (d0 : Dev nD) (c0_i32_3317 : BitVec 32) : Fin 2 → Nat :=
  let c2_i32_3265 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_3254 : BitVec 32 := 1#32
  let v3191 : BitVec 32 := Scalar.addi v54 c1_i32_3254
  let c8_i32_3255 : BitVec 32 := 8#32
  let v3192 : BitVec 32 := Scalar.remsi v3191 c8_i32_3255
  let c0_i32_3256 : BitVec 32 := 0#32
  let v3193 : BitVec 1 := Scalar.cmpi .eq v3192 c0_i32_3256
  let c0_i32_3260 : BitVec 32 := 0#32
  let c4_i32_3257 : BitVec 32 := 4#32
  let v3194 : BitVec 1 := Scalar.cmpi .sle v3192 c4_i32_3257
  let c1_i32_3258 : BitVec 32 := 1#32
  let v3195 : BitVec 32 := Scalar.subi v3192 c1_i32_3258
  let c8_i32_3259 : BitVec 32 := 8#32
  let v3196 : BitVec 32 := Scalar.subi c8_i32_3259 v3192
  let v3197 : BitVec 32 := Scalar.select v3194 v3195 v3196
  let v3198 : BitVec 32 := Scalar.select v3193 c0_i32_3260 v3197
  let v3203 : BitVec 32 := Scalar.muli c2_i32_3265 v3198
  let c1_i32_3261 : BitVec 32 := 1#32
  let v3199 : BitVec 1 := Scalar.cmpi .sge v3192 c1_i32_3261
  let c4_i32_3262 : BitVec 32 := 4#32
  let v3200 : BitVec 1 := Scalar.cmpi .sle v3192 c4_i32_3262
  let v3201 : BitVec 1 := Scalar.andi v3199 v3200
  let c1_i32_3263 : BitVec 32 := 1#32
  let c0_i32_3264 : BitVec 32 := 0#32
  let v3202 : BitVec 32 := Scalar.select v3201 c1_i32_3263 c0_i32_3264
  let v3204 : BitVec 32 := Scalar.addi v3202 v3198
  let c2_i32_3266 : BitVec 32 := 2#32
  let v3205 : BitVec 32 := Scalar.remsi v3204 c2_i32_3266
  let v3206 : BitVec 32 := Scalar.addi v3203 v3205
  let c192_i32_3281 : BitVec 32 := 192#32
  let v3224 : BitVec 32 := Scalar.muli v3206 c192_i32_3281
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3271 : BitVec 32 := Scalar.subi v19 c0_i32_3317
  let c1_i32_3318 : BitVec 32 := 1#32
  let v3272 : BitVec 32 := Scalar.subi v3271 c1_i32_3318
  let c4_i32_3319 : BitVec 32 := 4#32
  let v3273 : BitVec 32 := Scalar.addi v3272 c4_i32_3319
  let c4_i32_3320 : BitVec 32 := 4#32
  let v3274 : BitVec 32 := Scalar.remsi v3273 c4_i32_3320
  let c48_i32_3321 : BitVec 32 := 48#32
  let v3275 : BitVec 32 := Scalar.muli v3274 c48_i32_3321
  let v3276 : BitVec 32 := Scalar.addi v3224 v3275
  let v3277 : Index := Scalar.indexCast v3276
  let c0_3322 : Index := 0#32
  ![v3277.toNat, 0]
def k0_dev63 (d0 : Dev nD) : Nat :=
  let c0_i32_3338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v92 : BitVec 32 := Scalar.addi v19 c1_i32_51
  let c4_i32_52 : BitVec 32 := 4#32
  let v93 : BitVec 32 := Scalar.remsi v92 c4_i32_52
  let c8_i32_53 : BitVec 32 := 8#32
  let v94 : BitVec 32 := Scalar.muli v93 c8_i32_53
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v95 : BitVec 32 := Scalar.addi v94 v29
  let c1_i32_3337 : BitVec 32 := 1#32
  let v3292 : BitVec 32 := Scalar.muli v95 c1_i32_3337
  let v3293 : BitVec 32 := Scalar.addi c0_i32_3338 v3292
  v3293.toNat
def k0_off18 (d0 : Dev nD) (c0_i32_3348 : BitVec 32) : Fin 2 → Nat :=
  let c2_i32_3279 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_3267 : BitVec 32 := 8#32
  let v3207 : BitVec 32 := Scalar.addi v54 c8_i32_3267
  let c1_i32_3268 : BitVec 32 := 1#32
  let v3208 : BitVec 32 := Scalar.subi v3207 c1_i32_3268
  let c8_i32_3269 : BitVec 32 := 8#32
  let v3209 : BitVec 32 := Scalar.remsi v3208 c8_i32_3269
  let c0_i32_3270 : BitVec 32 := 0#32
  let v3210 : BitVec 1 := Scalar.cmpi .eq v3209 c0_i32_3270
  let c0_i32_3274 : BitVec 32 := 0#32
  let c4_i32_3271 : BitVec 32 := 4#32
  let v3211 : BitVec 1 := Scalar.cmpi .sle v3209 c4_i32_3271
  let c1_i32_3272 : BitVec 32 := 1#32
  let v3212 : BitVec 32 := Scalar.subi v3209 c1_i32_3272
  let c8_i32_3273 : BitVec 32 := 8#32
  let v3213 : BitVec 32 := Scalar.subi c8_i32_3273 v3209
  let v3214 : BitVec 32 := Scalar.select v3211 v3212 v3213
  let v3215 : BitVec 32 := Scalar.select v3210 c0_i32_3274 v3214
  let v3220 : BitVec 32 := Scalar.muli c2_i32_3279 v3215
  let c1_i32_3275 : BitVec 32 := 1#32
  let v3216 : BitVec 1 := Scalar.cmpi .sge v3209 c1_i32_3275
  let c4_i32_3276 : BitVec 32 := 4#32
  let v3217 : BitVec 1 := Scalar.cmpi .sle v3209 c4_i32_3276
  let v3218 : BitVec 1 := Scalar.andi v3216 v3217
  let c1_i32_3277 : BitVec 32 := 1#32
  let c0_i32_3278 : BitVec 32 := 0#32
  let v3219 : BitVec 32 := Scalar.select v3218 c1_i32_3277 c0_i32_3278
  let v3221 : BitVec 32 := Scalar.addi v3219 v3215
  let c2_i32_3280 : BitVec 32 := 2#32
  let v3222 : BitVec 32 := Scalar.remsi v3221 c2_i32_3280
  let v3223 : BitVec 32 := Scalar.addi v3220 v3222
  let c192_i32_3282 : BitVec 32 := 192#32
  let v3225 : BitVec 32 := Scalar.muli v3223 c192_i32_3282
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3306 : BitVec 32 := Scalar.addi v19 c0_i32_3348
  let c1_i32_3349 : BitVec 32 := 1#32
  let v3307 : BitVec 32 := Scalar.addi v3306 c1_i32_3349
  let c4_i32_3350 : BitVec 32 := 4#32
  let v3308 : BitVec 32 := Scalar.remsi v3307 c4_i32_3350
  let c48_i32_3351 : BitVec 32 := 48#32
  let v3309 : BitVec 32 := Scalar.muli v3308 c48_i32_3351
  let v3310 : BitVec 32 := Scalar.addi v3225 v3309
  let v3311 : Index := Scalar.indexCast v3310
  let c768_3352 : Index := 768#32
  ![v3311.toNat, 768]
def k0_dev64 (d0 : Dev nD) : Nat :=
  let c0_i32_3368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_54 : BitVec 32 := 4#32
  let v96 : BitVec 32 := Scalar.addi v19 c4_i32_54
  let c1_i32_55 : BitVec 32 := 1#32
  let v97 : BitVec 32 := Scalar.subi v96 c1_i32_55
  let c4_i32_56 : BitVec 32 := 4#32
  let v98 : BitVec 32 := Scalar.remsi v97 c4_i32_56
  let c8_i32_57 : BitVec 32 := 8#32
  let v99 : BitVec 32 := Scalar.muli v98 c8_i32_57
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v100 : BitVec 32 := Scalar.addi v99 v29
  let c1_i32_3367 : BitVec 32 := 1#32
  let v3326 : BitVec 32 := Scalar.muli v100 c1_i32_3367
  let v3327 : BitVec 32 := Scalar.addi c0_i32_3368 v3326
  v3327.toNat
def k0_dev65 (d0 : Dev nD) : Nat :=
  let c0_i32_3399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v92 : BitVec 32 := Scalar.addi v19 c1_i32_51
  let c4_i32_52 : BitVec 32 := 4#32
  let v93 : BitVec 32 := Scalar.remsi v92 c4_i32_52
  let c8_i32_53 : BitVec 32 := 8#32
  let v94 : BitVec 32 := Scalar.muli v93 c8_i32_53
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v95 : BitVec 32 := Scalar.addi v94 v29
  let c1_i32_3398 : BitVec 32 := 1#32
  let v3361 : BitVec 32 := Scalar.muli v95 c1_i32_3398
  let v3362 : BitVec 32 := Scalar.addi c0_i32_3399 v3361
  v3362.toNat
def k0_dev66 (d0 : Dev nD) : Nat :=
  let c0_i32_3429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_54 : BitVec 32 := 4#32
  let v96 : BitVec 32 := Scalar.addi v19 c4_i32_54
  let c1_i32_55 : BitVec 32 := 1#32
  let v97 : BitVec 32 := Scalar.subi v96 c1_i32_55
  let c4_i32_56 : BitVec 32 := 4#32
  let v98 : BitVec 32 := Scalar.remsi v97 c4_i32_56
  let c8_i32_57 : BitVec 32 := 8#32
  let v99 : BitVec 32 := Scalar.muli v98 c8_i32_57
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v100 : BitVec 32 := Scalar.addi v99 v29
  let c1_i32_3428 : BitVec 32 := 1#32
  let v3395 : BitVec 32 := Scalar.muli v100 c1_i32_3428
  let v3396 : BitVec 32 := Scalar.addi c0_i32_3429 v3395
  v3396.toNat
def k0_off19 (d0 : Dev nD) (c1_i32_3283 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3226 : BitVec 32 := Scalar.addi v19 c1_i32_3283
  let c4_i32_3284 : BitVec 32 := 4#32
  let v3227 : BitVec 32 := Scalar.remsi v3226 c4_i32_3284
  let c48_i32_3457 : BitVec 32 := 48#32
  let v3432 : BitVec 32 := Scalar.muli v3227 c48_i32_3457
  let v3433 : Index := Scalar.indexCast v3432
  let c0_3458 : Index := 0#32
  ![v3433.toNat, 0]
def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_3285 : BitVec 32 := 4#32
  let v3228 : BitVec 32 := Scalar.addi v19 c4_i32_3285
  let c1_i32_3286 : BitVec 32 := 1#32
  let v3229 : BitVec 32 := Scalar.subi v3228 c1_i32_3286
  let c4_i32_3287 : BitVec 32 := 4#32
  let v3230 : BitVec 32 := Scalar.remsi v3229 c4_i32_3287
  let c48_i32_3483 : BitVec 32 := 48#32
  let v3465 : BitVec 32 := Scalar.muli v3230 c48_i32_3483
  let v3466 : Index := Scalar.indexCast v3465
  let c0_3484 : Index := 0#32
  ![v3466.toNat, 0]
def k0_dev67 (d0 : Dev nD) : Nat :=
  let c0_i32_3489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v92 : BitVec 32 := Scalar.addi v19 c1_i32_51
  let c4_i32_52 : BitVec 32 := 4#32
  let v93 : BitVec 32 := Scalar.remsi v92 c4_i32_52
  let c8_i32_53 : BitVec 32 := 8#32
  let v94 : BitVec 32 := Scalar.muli v93 c8_i32_53
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v95 : BitVec 32 := Scalar.addi v94 v29
  let c1_i32_3488 : BitVec 32 := 1#32
  let v3470 : BitVec 32 := Scalar.muli v95 c1_i32_3488
  let v3471 : BitVec 32 := Scalar.addi c0_i32_3489 v3470
  v3471.toNat
def k0_dev68 (d0 : Dev nD) : Nat :=
  let c0_i32_3496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_54 : BitVec 32 := 4#32
  let v96 : BitVec 32 := Scalar.addi v19 c4_i32_54
  let c1_i32_55 : BitVec 32 := 1#32
  let v97 : BitVec 32 := Scalar.subi v96 c1_i32_55
  let c4_i32_56 : BitVec 32 := 4#32
  let v98 : BitVec 32 := Scalar.remsi v97 c4_i32_56
  let c8_i32_57 : BitVec 32 := 8#32
  let v99 : BitVec 32 := Scalar.muli v98 c8_i32_57
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v100 : BitVec 32 := Scalar.addi v99 v29
  let c1_i32_3495 : BitVec 32 := 1#32
  let v3478 : BitVec 32 := Scalar.muli v100 c1_i32_3495
  let v3479 : BitVec 32 := Scalar.addi c0_i32_3496 v3478
  v3479.toNat
def k0_off21 (d0 : Dev nD) (c1_i32_3283 : BitVec 32) : Fin 2 → Nat :=
  let c0_i32_3502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3226 : BitVec 32 := Scalar.addi v19 c1_i32_3283
  let c4_i32_3284 : BitVec 32 := 4#32
  let v3227 : BitVec 32 := Scalar.remsi v3226 c4_i32_3284
  ![0, v3227.toNat]
def k0_off22 (d0 : Dev nD) (c1_i32_3283 : BitVec 32) : Fin 3 → Nat :=
  let c0_i32_3500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3226 : BitVec 32 := Scalar.addi v19 c1_i32_3283
  let c4_i32_3284 : BitVec 32 := 4#32
  let v3227 : BitVec 32 := Scalar.remsi v3226 c4_i32_3284
  let c48_i32_3499 : BitVec 32 := 48#32
  let v3486 : BitVec 32 := Scalar.muli v3227 c48_i32_3499
  let c0_i32_3505 : BitVec 32 := 0#32
  ![0, v3486.toNat, 0]
def k0_off23 (d0 : Dev nD) (c1_i32_3283 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3226 : BitVec 32 := Scalar.addi v19 c1_i32_3283
  let c4_i32_3284 : BitVec 32 := 4#32
  let v3227 : BitVec 32 := Scalar.remsi v3226 c4_i32_3284
  let c48_i32_3499 : BitVec 32 := 48#32
  let v3486 : BitVec 32 := Scalar.muli v3227 c48_i32_3499
  let c0_i32_3506 : BitVec 32 := 0#32
  ![v3486.toNat, 0]
def k0_dev69 (d0 : Dev nD) : Nat :=
  let c0_i32_3504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_3503 : BitVec 32 := 1#32
  let v3487 : BitVec 32 := Scalar.muli v72 c1_i32_3503
  let v3488 : BitVec 32 := Scalar.addi c0_i32_3504 v3487
  v3488.toNat
def k0_off24 (d0 : Dev nD) : Fin 2 → Nat :=
  let c0_i32_3510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_3285 : BitVec 32 := 4#32
  let v3228 : BitVec 32 := Scalar.addi v19 c4_i32_3285
  let c1_i32_3286 : BitVec 32 := 1#32
  let v3229 : BitVec 32 := Scalar.subi v3228 c1_i32_3286
  let c4_i32_3287 : BitVec 32 := 4#32
  let v3230 : BitVec 32 := Scalar.remsi v3229 c4_i32_3287
  ![0, v3230.toNat]
def k0_off25 (d0 : Dev nD) : Fin 3 → Nat :=
  let c0_i32_3508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_3285 : BitVec 32 := 4#32
  let v3228 : BitVec 32 := Scalar.addi v19 c4_i32_3285
  let c1_i32_3286 : BitVec 32 := 1#32
  let v3229 : BitVec 32 := Scalar.subi v3228 c1_i32_3286
  let c4_i32_3287 : BitVec 32 := 4#32
  let v3230 : BitVec 32 := Scalar.remsi v3229 c4_i32_3287
  let c48_i32_3507 : BitVec 32 := 48#32
  let v3496 : BitVec 32 := Scalar.muli v3230 c48_i32_3507
  let c0_i32_3513 : BitVec 32 := 0#32
  ![0, v3496.toNat, 0]
def k0_off26 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_3285 : BitVec 32 := 4#32
  let v3228 : BitVec 32 := Scalar.addi v19 c4_i32_3285
  let c1_i32_3286 : BitVec 32 := 1#32
  let v3229 : BitVec 32 := Scalar.subi v3228 c1_i32_3286
  let c4_i32_3287 : BitVec 32 := 4#32
  let v3230 : BitVec 32 := Scalar.remsi v3229 c4_i32_3287
  let c48_i32_3507 : BitVec 32 := 48#32
  let v3496 : BitVec 32 := Scalar.muli v3230 c48_i32_3507
  let c0_i32_3514 : BitVec 32 := 0#32
  ![v3496.toNat, 0]
def k0_dev70 (d0 : Dev nD) : Nat :=
  let c0_i32_3512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_3511 : BitVec 32 := 1#32
  let v3497 : BitVec 32 := Scalar.muli v91 c1_i32_3511
  let v3498 : BitVec 32 := Scalar.addi c0_i32_3512 v3497
  v3498.toNat
def k0_dev71 (d0 : Dev nD) : Nat :=
  let c0_i32_3527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v92 : BitVec 32 := Scalar.addi v19 c1_i32_51
  let c4_i32_52 : BitVec 32 := 4#32
  let v93 : BitVec 32 := Scalar.remsi v92 c4_i32_52
  let c8_i32_53 : BitVec 32 := 8#32
  let v94 : BitVec 32 := Scalar.muli v93 c8_i32_53
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v95 : BitVec 32 := Scalar.addi v94 v29
  let c1_i32_3526 : BitVec 32 := 1#32
  let v3512 : BitVec 32 := Scalar.muli v95 c1_i32_3526
  let v3513 : BitVec 32 := Scalar.addi c0_i32_3527 v3512
  v3513.toNat
def k0_off27 (d0 : Dev nD) (c0_i32_3532 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3522 : BitVec 32 := Scalar.subi v19 c0_i32_3532
  let c4_i32_3533 : BitVec 32 := 4#32
  let v3523 : BitVec 32 := Scalar.addi v3522 c4_i32_3533
  let c4_i32_3534 : BitVec 32 := 4#32
  let v3524 : BitVec 32 := Scalar.remsi v3523 c4_i32_3534
  let c48_i32_3538 : BitVec 32 := 48#32
  let v3527 : BitVec 32 := Scalar.muli v3524 c48_i32_3538
  let v3528 : Index := Scalar.indexCast v3527
  let c0_3539 : Index := 0#32
  ![v3528.toNat, 0]
def k0_off28 (d0 : Dev nD) (c0_i32_3532 : BitVec 32) : Fin 2 → Nat :=
  let c0_i32_3543 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3522 : BitVec 32 := Scalar.subi v19 c0_i32_3532
  let c4_i32_3533 : BitVec 32 := 4#32
  let v3523 : BitVec 32 := Scalar.addi v3522 c4_i32_3533
  let c4_i32_3534 : BitVec 32 := 4#32
  let v3524 : BitVec 32 := Scalar.remsi v3523 c4_i32_3534
  ![0, v3524.toNat]
def k0_off29 (d0 : Dev nD) (c0_i32_3532 : BitVec 32) : Fin 3 → Nat :=
  let c0_i32_3541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3522 : BitVec 32 := Scalar.subi v19 c0_i32_3532
  let c4_i32_3533 : BitVec 32 := 4#32
  let v3523 : BitVec 32 := Scalar.addi v3522 c4_i32_3533
  let c4_i32_3534 : BitVec 32 := 4#32
  let v3524 : BitVec 32 := Scalar.remsi v3523 c4_i32_3534
  let c48_i32_3540 : BitVec 32 := 48#32
  let v3532 : BitVec 32 := Scalar.muli v3524 c48_i32_3540
  let c0_i32_3546 : BitVec 32 := 0#32
  ![0, v3532.toNat, 0]
def k0_off30 (d0 : Dev nD) (c0_i32_3532 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3522 : BitVec 32 := Scalar.subi v19 c0_i32_3532
  let c4_i32_3533 : BitVec 32 := 4#32
  let v3523 : BitVec 32 := Scalar.addi v3522 c4_i32_3533
  let c4_i32_3534 : BitVec 32 := 4#32
  let v3524 : BitVec 32 := Scalar.remsi v3523 c4_i32_3534
  let c48_i32_3540 : BitVec 32 := 48#32
  let v3532 : BitVec 32 := Scalar.muli v3524 c48_i32_3540
  let c0_i32_3547 : BitVec 32 := 0#32
  ![v3532.toNat, 0]
def k0_dev72 (d0 : Dev nD) : Nat :=
  let c0_i32_3545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_3544 : BitVec 32 := 1#32
  let v3533 : BitVec 32 := Scalar.muli v72 c1_i32_3544
  let v3534 : BitVec 32 := Scalar.addi c0_i32_3545 v3533
  v3534.toNat
def k0_off31 (d0 : Dev nD) (c0_i32_3532 : BitVec 32) : Fin 2 → Nat :=
  let c2_i32_3265 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_3254 : BitVec 32 := 1#32
  let v3191 : BitVec 32 := Scalar.addi v54 c1_i32_3254
  let c8_i32_3255 : BitVec 32 := 8#32
  let v3192 : BitVec 32 := Scalar.remsi v3191 c8_i32_3255
  let c0_i32_3256 : BitVec 32 := 0#32
  let v3193 : BitVec 1 := Scalar.cmpi .eq v3192 c0_i32_3256
  let c0_i32_3260 : BitVec 32 := 0#32
  let c4_i32_3257 : BitVec 32 := 4#32
  let v3194 : BitVec 1 := Scalar.cmpi .sle v3192 c4_i32_3257
  let c1_i32_3258 : BitVec 32 := 1#32
  let v3195 : BitVec 32 := Scalar.subi v3192 c1_i32_3258
  let c8_i32_3259 : BitVec 32 := 8#32
  let v3196 : BitVec 32 := Scalar.subi c8_i32_3259 v3192
  let v3197 : BitVec 32 := Scalar.select v3194 v3195 v3196
  let v3198 : BitVec 32 := Scalar.select v3193 c0_i32_3260 v3197
  let v3203 : BitVec 32 := Scalar.muli c2_i32_3265 v3198
  let c1_i32_3261 : BitVec 32 := 1#32
  let v3199 : BitVec 1 := Scalar.cmpi .sge v3192 c1_i32_3261
  let c4_i32_3262 : BitVec 32 := 4#32
  let v3200 : BitVec 1 := Scalar.cmpi .sle v3192 c4_i32_3262
  let v3201 : BitVec 1 := Scalar.andi v3199 v3200
  let c1_i32_3263 : BitVec 32 := 1#32
  let c0_i32_3264 : BitVec 32 := 0#32
  let v3202 : BitVec 32 := Scalar.select v3201 c1_i32_3263 c0_i32_3264
  let v3204 : BitVec 32 := Scalar.addi v3202 v3198
  let c2_i32_3266 : BitVec 32 := 2#32
  let v3205 : BitVec 32 := Scalar.remsi v3204 c2_i32_3266
  let v3206 : BitVec 32 := Scalar.addi v3203 v3205
  let c192_i32_3281 : BitVec 32 := 192#32
  let v3224 : BitVec 32 := Scalar.muli v3206 c192_i32_3281
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3522 : BitVec 32 := Scalar.subi v19 c0_i32_3532
  let c4_i32_3533 : BitVec 32 := 4#32
  let v3523 : BitVec 32 := Scalar.addi v3522 c4_i32_3533
  let c4_i32_3534 : BitVec 32 := 4#32
  let v3524 : BitVec 32 := Scalar.remsi v3523 c4_i32_3534
  let c48_i32_3551 : BitVec 32 := 48#32
  let v3545 : BitVec 32 := Scalar.muli v3524 c48_i32_3551
  let v3546 : BitVec 32 := Scalar.addi v3224 v3545
  let v3547 : Index := Scalar.indexCast v3546
  let c0_3552 : Index := 0#32
  ![v3547.toNat, 0]
def k0_dev73 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_54 : BitVec 32 := 4#32
  let v96 : BitVec 32 := Scalar.addi v19 c4_i32_54
  let c1_i32_55 : BitVec 32 := 1#32
  let v97 : BitVec 32 := Scalar.subi v96 c1_i32_55
  let c4_i32_56 : BitVec 32 := 4#32
  let v98 : BitVec 32 := Scalar.remsi v97 c4_i32_56
  let c8_i32_57 : BitVec 32 := 8#32
  let v99 : BitVec 32 := Scalar.muli v98 c8_i32_57
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v100 : BitVec 32 := Scalar.addi v99 v29
  let c1_i32_3564 : BitVec 32 := 1#32
  let v3555 : BitVec 32 := Scalar.muli v100 c1_i32_3564
  let v3556 : BitVec 32 := Scalar.addi c0_i32_3565 v3555
  v3556.toNat
def k0_dev74 (d0 : Dev nD) : Nat :=
  let c0_i32_3582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_3581 : BitVec 32 := 1#32
  let v3575 : BitVec 32 := Scalar.muli v91 c1_i32_3581
  let v3576 : BitVec 32 := Scalar.addi c0_i32_3582 v3575
  v3576.toNat
def k0_off32 (d0 : Dev nD) (c0_i32_3570 : BitVec 32) : Fin 2 → Nat :=
  let c2_i32_3279 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_3267 : BitVec 32 := 8#32
  let v3207 : BitVec 32 := Scalar.addi v54 c8_i32_3267
  let c1_i32_3268 : BitVec 32 := 1#32
  let v3208 : BitVec 32 := Scalar.subi v3207 c1_i32_3268
  let c8_i32_3269 : BitVec 32 := 8#32
  let v3209 : BitVec 32 := Scalar.remsi v3208 c8_i32_3269
  let c0_i32_3270 : BitVec 32 := 0#32
  let v3210 : BitVec 1 := Scalar.cmpi .eq v3209 c0_i32_3270
  let c0_i32_3274 : BitVec 32 := 0#32
  let c4_i32_3271 : BitVec 32 := 4#32
  let v3211 : BitVec 1 := Scalar.cmpi .sle v3209 c4_i32_3271
  let c1_i32_3272 : BitVec 32 := 1#32
  let v3212 : BitVec 32 := Scalar.subi v3209 c1_i32_3272
  let c8_i32_3273 : BitVec 32 := 8#32
  let v3213 : BitVec 32 := Scalar.subi c8_i32_3273 v3209
  let v3214 : BitVec 32 := Scalar.select v3211 v3212 v3213
  let v3215 : BitVec 32 := Scalar.select v3210 c0_i32_3274 v3214
  let v3220 : BitVec 32 := Scalar.muli c2_i32_3279 v3215
  let c1_i32_3275 : BitVec 32 := 1#32
  let v3216 : BitVec 1 := Scalar.cmpi .sge v3209 c1_i32_3275
  let c4_i32_3276 : BitVec 32 := 4#32
  let v3217 : BitVec 1 := Scalar.cmpi .sle v3209 c4_i32_3276
  let v3218 : BitVec 1 := Scalar.andi v3216 v3217
  let c1_i32_3277 : BitVec 32 := 1#32
  let c0_i32_3278 : BitVec 32 := 0#32
  let v3219 : BitVec 32 := Scalar.select v3218 c1_i32_3277 c0_i32_3278
  let v3221 : BitVec 32 := Scalar.addi v3219 v3215
  let c2_i32_3280 : BitVec 32 := 2#32
  let v3222 : BitVec 32 := Scalar.remsi v3221 c2_i32_3280
  let v3223 : BitVec 32 := Scalar.addi v3220 v3222
  let c192_i32_3282 : BitVec 32 := 192#32
  let v3225 : BitVec 32 := Scalar.muli v3223 c192_i32_3282
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3565 : BitVec 32 := Scalar.addi v19 c0_i32_3570
  let c4_i32_3571 : BitVec 32 := 4#32
  let v3566 : BitVec 32 := Scalar.remsi v3565 c4_i32_3571
  let c48_i32_3588 : BitVec 32 := 48#32
  let v3587 : BitVec 32 := Scalar.muli v3566 c48_i32_3588
  let v3588 : BitVec 32 := Scalar.addi v3225 v3587
  let v3589 : Index := Scalar.indexCast v3588
  let c768_3589 : Index := 768#32
  ![v3589.toNat, 768]
def k0_dev75 (d0 : Dev nD) : Nat :=
  let c0_i32_3605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v92 : BitVec 32 := Scalar.addi v19 c1_i32_51
  let c4_i32_52 : BitVec 32 := 4#32
  let v93 : BitVec 32 := Scalar.remsi v92 c4_i32_52
  let c8_i32_53 : BitVec 32 := 8#32
  let v94 : BitVec 32 := Scalar.muli v93 c8_i32_53
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v95 : BitVec 32 := Scalar.addi v94 v29
  let c1_i32_3604 : BitVec 32 := 1#32
  let v3599 : BitVec 32 := Scalar.muli v95 c1_i32_3604
  let v3600 : BitVec 32 := Scalar.addi c0_i32_3605 v3599
  v3600.toNat
def k0_dev76 (d0 : Dev nD) : Nat :=
  let c0_i32_3623 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_3622 : BitVec 32 := 1#32
  let v3620 : BitVec 32 := Scalar.muli v72 c1_i32_3622
  let v3621 : BitVec 32 := Scalar.addi c0_i32_3623 v3620
  v3621.toNat
def k0_dev77 (d0 : Dev nD) : Nat :=
  let c0_i32_3646 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_54 : BitVec 32 := 4#32
  let v96 : BitVec 32 := Scalar.addi v19 c4_i32_54
  let c1_i32_55 : BitVec 32 := 1#32
  let v97 : BitVec 32 := Scalar.subi v96 c1_i32_55
  let c4_i32_56 : BitVec 32 := 4#32
  let v98 : BitVec 32 := Scalar.remsi v97 c4_i32_56
  let c8_i32_57 : BitVec 32 := 8#32
  let v99 : BitVec 32 := Scalar.muli v98 c8_i32_57
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v100 : BitVec 32 := Scalar.addi v99 v29
  let c1_i32_3645 : BitVec 32 := 1#32
  let v3644 : BitVec 32 := Scalar.muli v100 c1_i32_3645
  let v3645 : BitVec 32 := Scalar.addi c0_i32_3646 v3644
  v3645.toNat
def k0_dev78 (d0 : Dev nD) : Nat :=
  let c0_i32_3663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_3662 : BitVec 32 := 1#32
  let v3664 : BitVec 32 := Scalar.muli v91 c1_i32_3662
  let v3665 : BitVec 32 := Scalar.addi c0_i32_3663 v3664
  v3665.toNat
def k0_dev79 (d0 : Dev nD) : Nat :=
  let c0_i32_3694 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_3693 : BitVec 32 := 1#32
  let v3699 : BitVec 32 := Scalar.muli v72 c1_i32_3693
  let v3700 : BitVec 32 := Scalar.addi c0_i32_3694 v3699
  v3700.toNat
def k0_dev80 (d0 : Dev nD) : Nat :=
  let c0_i32_3724 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_3723 : BitVec 32 := 1#32
  let v3733 : BitVec 32 := Scalar.muli v91 c1_i32_3723
  let v3734 : BitVec 32 := Scalar.addi c0_i32_3724 v3733
  v3734.toNat
def k0_dev81 (d0 : Dev nD) : Nat :=
  let c0_i32_3750 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_3749 : BitVec 32 := 1#32
  let v3756 : BitVec 32 := Scalar.muli v72 c1_i32_3749
  let v3757 : BitVec 32 := Scalar.addi c0_i32_3750 v3756
  v3757.toNat
def k0_off33 (d0 : Dev nD) (c0_i32_3755 : BitVec 32) (c0_i32_3774 : BitVec 32) : Fin 2 → Nat :=
  let c2_i32_3767 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let v3766 : BitVec 32 := Scalar.subi v54 c0_i32_3755
  let c8_i32_3756 : BitVec 32 := 8#32
  let v3767 : BitVec 32 := Scalar.addi v3766 c8_i32_3756
  let c8_i32_3757 : BitVec 32 := 8#32
  let v3768 : BitVec 32 := Scalar.remsi v3767 c8_i32_3757
  let c0_i32_3758 : BitVec 32 := 0#32
  let v3769 : BitVec 1 := Scalar.cmpi .eq v3768 c0_i32_3758
  let c0_i32_3762 : BitVec 32 := 0#32
  let c4_i32_3759 : BitVec 32 := 4#32
  let v3770 : BitVec 1 := Scalar.cmpi .sle v3768 c4_i32_3759
  let c1_i32_3760 : BitVec 32 := 1#32
  let v3771 : BitVec 32 := Scalar.subi v3768 c1_i32_3760
  let c8_i32_3761 : BitVec 32 := 8#32
  let v3772 : BitVec 32 := Scalar.subi c8_i32_3761 v3768
  let v3773 : BitVec 32 := Scalar.select v3770 v3771 v3772
  let v3774 : BitVec 32 := Scalar.select v3769 c0_i32_3762 v3773
  let v3779 : BitVec 32 := Scalar.muli c2_i32_3767 v3774
  let c1_i32_3763 : BitVec 32 := 1#32
  let v3775 : BitVec 1 := Scalar.cmpi .sge v3768 c1_i32_3763
  let c4_i32_3764 : BitVec 32 := 4#32
  let v3776 : BitVec 1 := Scalar.cmpi .sle v3768 c4_i32_3764
  let v3777 : BitVec 1 := Scalar.andi v3775 v3776
  let c1_i32_3765 : BitVec 32 := 1#32
  let c0_i32_3766 : BitVec 32 := 0#32
  let v3778 : BitVec 32 := Scalar.select v3777 c1_i32_3765 c0_i32_3766
  let v3780 : BitVec 32 := Scalar.addi v3778 v3774
  let c2_i32_3768 : BitVec 32 := 2#32
  let v3781 : BitVec 32 := Scalar.remsi v3780 c2_i32_3768
  let v3782 : BitVec 32 := Scalar.addi v3779 v3781
  let c192_i32_3773 : BitVec 32 := 192#32
  let v3788 : BitVec 32 := Scalar.muli v3782 c192_i32_3773
  let v3789 : BitVec 32 := Scalar.addi v3788 c0_i32_3774
  let v3790 : Index := Scalar.indexCast v3789
  let c0_3775 : Index := 0#32
  ![v3790.toNat, 0]
def k0_dev82 (d0 : Dev nD) : Nat :=
  let c0_i32_3794 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_3793 : BitVec 32 := 1#32
  let v3799 : BitVec 32 := Scalar.muli v91 c1_i32_3793
  let v3800 : BitVec 32 := Scalar.addi c0_i32_3794 v3799
  v3800.toNat
def k0_off34 (d0 : Dev nD) (c0_i32_3799 : BitVec 32) (c0_i32_3817 : BitVec 32) : Fin 2 → Nat :=
  let c2_i32_3810 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let v3809 : BitVec 32 := Scalar.addi v54 c0_i32_3799
  let c8_i32_3800 : BitVec 32 := 8#32
  let v3810 : BitVec 32 := Scalar.remsi v3809 c8_i32_3800
  let c0_i32_3801 : BitVec 32 := 0#32
  let v3811 : BitVec 1 := Scalar.cmpi .eq v3810 c0_i32_3801
  let c0_i32_3805 : BitVec 32 := 0#32
  let c4_i32_3802 : BitVec 32 := 4#32
  let v3812 : BitVec 1 := Scalar.cmpi .sle v3810 c4_i32_3802
  let c1_i32_3803 : BitVec 32 := 1#32
  let v3813 : BitVec 32 := Scalar.subi v3810 c1_i32_3803
  let c8_i32_3804 : BitVec 32 := 8#32
  let v3814 : BitVec 32 := Scalar.subi c8_i32_3804 v3810
  let v3815 : BitVec 32 := Scalar.select v3812 v3813 v3814
  let v3816 : BitVec 32 := Scalar.select v3811 c0_i32_3805 v3815
  let v3821 : BitVec 32 := Scalar.muli c2_i32_3810 v3816
  let c1_i32_3806 : BitVec 32 := 1#32
  let v3817 : BitVec 1 := Scalar.cmpi .sge v3810 c1_i32_3806
  let c4_i32_3807 : BitVec 32 := 4#32
  let v3818 : BitVec 1 := Scalar.cmpi .sle v3810 c4_i32_3807
  let v3819 : BitVec 1 := Scalar.andi v3817 v3818
  let c1_i32_3808 : BitVec 32 := 1#32
  let c0_i32_3809 : BitVec 32 := 0#32
  let v3820 : BitVec 32 := Scalar.select v3819 c1_i32_3808 c0_i32_3809
  let v3822 : BitVec 32 := Scalar.addi v3820 v3816
  let c2_i32_3811 : BitVec 32 := 2#32
  let v3823 : BitVec 32 := Scalar.remsi v3822 c2_i32_3811
  let v3824 : BitVec 32 := Scalar.addi v3821 v3823
  let c192_i32_3816 : BitVec 32 := 192#32
  let v3830 : BitVec 32 := Scalar.muli v3824 c192_i32_3816
  let v3831 : BitVec 32 := Scalar.addi v3830 c0_i32_3817
  let v3832 : Index := Scalar.indexCast v3831
  let c768_3818 : Index := 768#32
  ![v3832.toNat, 768]
def k0_dev83 (d0 : Dev nD) : Nat :=
  let c0_i32_3837 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_3836 : BitVec 32 := 1#32
  let v3841 : BitVec 32 := Scalar.muli v72 c1_i32_3836
  let v3842 : BitVec 32 := Scalar.addi c0_i32_3837 v3841
  v3842.toNat
def k0_dev84 (d0 : Dev nD) : Nat :=
  let c0_i32_3881 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_3880 : BitVec 32 := 1#32
  let v3884 : BitVec 32 := Scalar.muli v91 c1_i32_3880
  let v3885 : BitVec 32 := Scalar.addi c0_i32_3881 v3884
  v3885.toNat
def k0_dev85 (d0 : Dev nD) : Nat :=
  let c0_i32_3924 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_3923 : BitVec 32 := 1#32
  let v3926 : BitVec 32 := Scalar.muli v72 c1_i32_3923
  let v3927 : BitVec 32 := Scalar.addi c0_i32_3924 v3926
  v3927.toNat
def k0_dev86 (d0 : Dev nD) : Nat :=
  let c0_i32_3968 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_3967 : BitVec 32 := 1#32
  let v3969 : BitVec 32 := Scalar.muli v91 c1_i32_3967
  let v3970 : BitVec 32 := Scalar.addi c0_i32_3968 v3969
  v3970.toNat
def k0_dev87 (d0 : Dev nD) : Nat :=
  let c0_i32_4011 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_4010 : BitVec 32 := 1#32
  let v4011 : BitVec 32 := Scalar.muli v72 c1_i32_4010
  let v4012 : BitVec 32 := Scalar.addi c0_i32_4011 v4011
  v4012.toNat
def k0_dev88 (d0 : Dev nD) : Nat :=
  let c0_i32_4055 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_4054 : BitVec 32 := 1#32
  let v4054 : BitVec 32 := Scalar.muli v91 c1_i32_4054
  let v4055 : BitVec 32 := Scalar.addi c0_i32_4055 v4054
  v4055.toNat
def k0_dev89 (d0 : Dev nD) : Nat :=
  let c0_i32_4099 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_4098 : BitVec 32 := 1#32
  let v4097 : BitVec 32 := Scalar.muli v72 c1_i32_4098
  let v4098 : BitVec 32 := Scalar.addi c0_i32_4099 v4097
  v4098.toNat
def k0_dev90 (d0 : Dev nD) : Nat :=
  let c0_i32_4144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_4143 : BitVec 32 := 1#32
  let v4141 : BitVec 32 := Scalar.muli v91 c1_i32_4143
  let v4142 : BitVec 32 := Scalar.addi c0_i32_4144 v4141
  v4142.toNat
def k0_dev91 (d0 : Dev nD) : Nat :=
  let c0_i32_4188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_4187 : BitVec 32 := 1#32
  let v4184 : BitVec 32 := Scalar.muli v72 c1_i32_4187
  let v4185 : BitVec 32 := Scalar.addi c0_i32_4188 v4184
  v4185.toNat
def k0_dev92 (d0 : Dev nD) : Nat :=
  let c0_i32_4233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_4232 : BitVec 32 := 1#32
  let v4228 : BitVec 32 := Scalar.muli v91 c1_i32_4232
  let v4229 : BitVec 32 := Scalar.addi c0_i32_4233 v4228
  v4229.toNat
def k0_dev93 (d0 : Dev nD) : Nat :=
  let c0_i32_4277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_4276 : BitVec 32 := 1#32
  let v4271 : BitVec 32 := Scalar.muli v72 c1_i32_4276
  let v4272 : BitVec 32 := Scalar.addi c0_i32_4277 v4271
  v4272.toNat
def k0_dev94 (d0 : Dev nD) : Nat :=
  let c0_i32_4322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_4321 : BitVec 32 := 1#32
  let v4315 : BitVec 32 := Scalar.muli v91 c1_i32_4321
  let v4316 : BitVec 32 := Scalar.addi c0_i32_4322 v4315
  v4316.toNat
def k0_dev95 (d0 : Dev nD) : Nat :=
  let c0_i32_4366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_4365 : BitVec 32 := 1#32
  let v4358 : BitVec 32 := Scalar.muli v72 c1_i32_4365
  let v4359 : BitVec 32 := Scalar.addi c0_i32_4366 v4358
  v4359.toNat
def k0_dev96 (d0 : Dev nD) : Nat :=
  let c0_i32_4411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_4410 : BitVec 32 := 1#32
  let v4402 : BitVec 32 := Scalar.muli v91 c1_i32_4410
  let v4403 : BitVec 32 := Scalar.addi c0_i32_4411 v4402
  v4403.toNat
def k0_dev97 (d0 : Dev nD) : Nat :=
  let c0_i32_4455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_4454 : BitVec 32 := 1#32
  let v4445 : BitVec 32 := Scalar.muli v72 c1_i32_4454
  let v4446 : BitVec 32 := Scalar.addi c0_i32_4455 v4445
  v4446.toNat
def k0_dev98 (d0 : Dev nD) : Nat :=
  let c0_i32_4500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_4499 : BitVec 32 := 1#32
  let v4489 : BitVec 32 := Scalar.muli v91 c1_i32_4499
  let v4490 : BitVec 32 := Scalar.addi c0_i32_4500 v4489
  v4490.toNat
def k0_dev99 (d0 : Dev nD) : Nat :=
  let c0_i32_4544 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_4543 : BitVec 32 := 1#32
  let v4532 : BitVec 32 := Scalar.muli v72 c1_i32_4543
  let v4533 : BitVec 32 := Scalar.addi c0_i32_4544 v4532
  v4533.toNat
def k0_dev100 (d0 : Dev nD) : Nat :=
  let c0_i32_4589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_4588 : BitVec 32 := 1#32
  let v4576 : BitVec 32 := Scalar.muli v91 c1_i32_4588
  let v4577 : BitVec 32 := Scalar.addi c0_i32_4589 v4576
  v4577.toNat
def k0_dev101 (d0 : Dev nD) : Nat :=
  let c0_i32_4633 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_4632 : BitVec 32 := 1#32
  let v4619 : BitVec 32 := Scalar.muli v72 c1_i32_4632
  let v4620 : BitVec 32 := Scalar.addi c0_i32_4633 v4619
  v4620.toNat
def k0_dev102 (d0 : Dev nD) : Nat :=
  let c0_i32_4678 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_4677 : BitVec 32 := 1#32
  let v4663 : BitVec 32 := Scalar.muli v91 c1_i32_4677
  let v4664 : BitVec 32 := Scalar.addi c0_i32_4678 v4663
  v4664.toNat
def k0_dev103 (d0 : Dev nD) : Nat :=
  let c0_i32_4722 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_4721 : BitVec 32 := 1#32
  let v4706 : BitVec 32 := Scalar.muli v72 c1_i32_4721
  let v4707 : BitVec 32 := Scalar.addi c0_i32_4722 v4706
  v4707.toNat
def k0_dev104 (d0 : Dev nD) : Nat :=
  let c0_i32_4767 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_4766 : BitVec 32 := 1#32
  let v4750 : BitVec 32 := Scalar.muli v91 c1_i32_4766
  let v4751 : BitVec 32 := Scalar.addi c0_i32_4767 v4750
  v4751.toNat
def k0_dev105 (d0 : Dev nD) : Nat :=
  let c0_i32_4811 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_4810 : BitVec 32 := 1#32
  let v4793 : BitVec 32 := Scalar.muli v72 c1_i32_4810
  let v4794 : BitVec 32 := Scalar.addi c0_i32_4811 v4793
  v4794.toNat
def k0_dev106 (d0 : Dev nD) : Nat :=
  let c0_i32_4856 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_4855 : BitVec 32 := 1#32
  let v4837 : BitVec 32 := Scalar.muli v91 c1_i32_4855
  let v4838 : BitVec 32 := Scalar.addi c0_i32_4856 v4837
  v4838.toNat
def k0_dev107 (d0 : Dev nD) : Nat :=
  let c0_i32_4900 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_4899 : BitVec 32 := 1#32
  let v4880 : BitVec 32 := Scalar.muli v72 c1_i32_4899
  let v4881 : BitVec 32 := Scalar.addi c0_i32_4900 v4880
  v4881.toNat
def k0_dev108 (d0 : Dev nD) : Nat :=
  let c0_i32_4945 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_4944 : BitVec 32 := 1#32
  let v4924 : BitVec 32 := Scalar.muli v91 c1_i32_4944
  let v4925 : BitVec 32 := Scalar.addi c0_i32_4945 v4924
  v4925.toNat
def k0_dev109 (d0 : Dev nD) : Nat :=
  let c0_i32_4989 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_4988 : BitVec 32 := 1#32
  let v4967 : BitVec 32 := Scalar.muli v72 c1_i32_4988
  let v4968 : BitVec 32 := Scalar.addi c0_i32_4989 v4967
  v4968.toNat
def k0_dev110 (d0 : Dev nD) : Nat :=
  let c0_i32_5034 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_5033 : BitVec 32 := 1#32
  let v5011 : BitVec 32 := Scalar.muli v91 c1_i32_5033
  let v5012 : BitVec 32 := Scalar.addi c0_i32_5034 v5011
  v5012.toNat
def k0_dev111 (d0 : Dev nD) : Nat :=
  let c0_i32_5078 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_5077 : BitVec 32 := 1#32
  let v5054 : BitVec 32 := Scalar.muli v72 c1_i32_5077
  let v5055 : BitVec 32 := Scalar.addi c0_i32_5078 v5054
  v5055.toNat
def k0_dev112 (d0 : Dev nD) : Nat :=
  let c0_i32_5123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_5122 : BitVec 32 := 1#32
  let v5098 : BitVec 32 := Scalar.muli v91 c1_i32_5122
  let v5099 : BitVec 32 := Scalar.addi c0_i32_5123 v5098
  v5099.toNat
def k0_dev113 (d0 : Dev nD) : Nat :=
  let c0_i32_5167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_5166 : BitVec 32 := 1#32
  let v5141 : BitVec 32 := Scalar.muli v72 c1_i32_5166
  let v5142 : BitVec 32 := Scalar.addi c0_i32_5167 v5141
  v5142.toNat
def k0_dev114 (d0 : Dev nD) : Nat :=
  let c0_i32_5212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_5211 : BitVec 32 := 1#32
  let v5185 : BitVec 32 := Scalar.muli v91 c1_i32_5211
  let v5186 : BitVec 32 := Scalar.addi c0_i32_5212 v5185
  v5186.toNat
def k0_dev115 (d0 : Dev nD) : Nat :=
  let c0_i32_5256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_5255 : BitVec 32 := 1#32
  let v5228 : BitVec 32 := Scalar.muli v72 c1_i32_5255
  let v5229 : BitVec 32 := Scalar.addi c0_i32_5256 v5228
  v5229.toNat
def k0_dev116 (d0 : Dev nD) : Nat :=
  let c0_i32_5301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_5300 : BitVec 32 := 1#32
  let v5272 : BitVec 32 := Scalar.muli v91 c1_i32_5300
  let v5273 : BitVec 32 := Scalar.addi c0_i32_5301 v5272
  v5273.toNat
def k0_dev117 (d0 : Dev nD) : Nat :=
  let c0_i32_5345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_5344 : BitVec 32 := 1#32
  let v5315 : BitVec 32 := Scalar.muli v72 c1_i32_5344
  let v5316 : BitVec 32 := Scalar.addi c0_i32_5345 v5315
  v5316.toNat
def k0_dev118 (d0 : Dev nD) : Nat :=
  let c0_i32_5390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_5389 : BitVec 32 := 1#32
  let v5359 : BitVec 32 := Scalar.muli v91 c1_i32_5389
  let v5360 : BitVec 32 := Scalar.addi c0_i32_5390 v5359
  v5360.toNat
def k0_dev119 (d0 : Dev nD) : Nat :=
  let c0_i32_5434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_5433 : BitVec 32 := 1#32
  let v5402 : BitVec 32 := Scalar.muli v72 c1_i32_5433
  let v5403 : BitVec 32 := Scalar.addi c0_i32_5434 v5402
  v5403.toNat
def k0_dev120 (d0 : Dev nD) : Nat :=
  let c0_i32_5479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_5478 : BitVec 32 := 1#32
  let v5446 : BitVec 32 := Scalar.muli v91 c1_i32_5478
  let v5447 : BitVec 32 := Scalar.addi c0_i32_5479 v5446
  v5447.toNat
def k0_dev121 (d0 : Dev nD) : Nat :=
  let c0_i32_5523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_5522 : BitVec 32 := 1#32
  let v5489 : BitVec 32 := Scalar.muli v72 c1_i32_5522
  let v5490 : BitVec 32 := Scalar.addi c0_i32_5523 v5489
  v5490.toNat
def k0_dev122 (d0 : Dev nD) : Nat :=
  let c0_i32_5568 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_5567 : BitVec 32 := 1#32
  let v5533 : BitVec 32 := Scalar.muli v91 c1_i32_5567
  let v5534 : BitVec 32 := Scalar.addi c0_i32_5568 v5533
  v5534.toNat
def k0_dev123 (d0 : Dev nD) : Nat :=
  let c0_i32_5612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_5611 : BitVec 32 := 1#32
  let v5576 : BitVec 32 := Scalar.muli v72 c1_i32_5611
  let v5577 : BitVec 32 := Scalar.addi c0_i32_5612 v5576
  v5577.toNat
def k0_dev124 (d0 : Dev nD) : Nat :=
  let c0_i32_5657 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_5656 : BitVec 32 := 1#32
  let v5620 : BitVec 32 := Scalar.muli v91 c1_i32_5656
  let v5621 : BitVec 32 := Scalar.addi c0_i32_5657 v5620
  v5621.toNat
def k0_dev125 (d0 : Dev nD) : Nat :=
  let c0_i32_5701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_5700 : BitVec 32 := 1#32
  let v5663 : BitVec 32 := Scalar.muli v72 c1_i32_5700
  let v5664 : BitVec 32 := Scalar.addi c0_i32_5701 v5663
  v5664.toNat
def k0_dev126 (d0 : Dev nD) : Nat :=
  let c0_i32_5746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_5745 : BitVec 32 := 1#32
  let v5707 : BitVec 32 := Scalar.muli v91 c1_i32_5745
  let v5708 : BitVec 32 := Scalar.addi c0_i32_5746 v5707
  v5708.toNat
def k0_dev127 (d0 : Dev nD) : Nat :=
  let c0_i32_5790 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v55 : BitVec 32 := Scalar.muli v19 c8_i32_23
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_24 : BitVec 32 := 1#32
  let v56 : BitVec 32 := Scalar.addi v54 c1_i32_24
  let c8_i32_25 : BitVec 32 := 8#32
  let v57 : BitVec 32 := Scalar.remsi v56 c8_i32_25
  let c0_i32_26 : BitVec 32 := 0#32
  let v58 : BitVec 1 := Scalar.cmpi .eq v57 c0_i32_26
  let c0_i32_29 : BitVec 32 := 0#32
  let c4_i32 : BitVec 32 := 4#32
  let v59 : BitVec 1 := Scalar.cmpi .sle v57 c4_i32
  let c1_i32_27 : BitVec 32 := 1#32
  let v60 : BitVec 32 := Scalar.subi v57 c1_i32_27
  let c8_i32_28 : BitVec 32 := 8#32
  let v61 : BitVec 32 := Scalar.subi c8_i32_28 v57
  let v62 : BitVec 32 := Scalar.select v59 v60 v61
  let v63 : BitVec 32 := Scalar.select v58 c0_i32_29 v62
  let v68 : BitVec 32 := Scalar.muli c2_i32_34 v63
  let c1_i32_30 : BitVec 32 := 1#32
  let v64 : BitVec 1 := Scalar.cmpi .sge v57 c1_i32_30
  let c4_i32_31 : BitVec 32 := 4#32
  let v65 : BitVec 1 := Scalar.cmpi .sle v57 c4_i32_31
  let v66 : BitVec 1 := Scalar.andi v64 v65
  let c1_i32_32 : BitVec 32 := 1#32
  let c0_i32_33 : BitVec 32 := 0#32
  let v67 : BitVec 32 := Scalar.select v66 c1_i32_32 c0_i32_33
  let v69 : BitVec 32 := Scalar.addi v67 v63
  let c2_i32_35 : BitVec 32 := 2#32
  let v70 : BitVec 32 := Scalar.remsi v69 c2_i32_35
  let v71 : BitVec 32 := Scalar.addi v68 v70
  let v72 : BitVec 32 := Scalar.addi v55 v71
  let c1_i32_5789 : BitVec 32 := 1#32
  let v5750 : BitVec 32 := Scalar.muli v72 c1_i32_5789
  let v5751 : BitVec 32 := Scalar.addi c0_i32_5790 v5750
  v5751.toNat
def k0_dev128 (d0 : Dev nD) : Nat :=
  let c0_i32_5835 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v73 : BitVec 32 := Scalar.muli v19 c8_i32_36
  let c2_i32_49 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_37 : BitVec 32 := 8#32
  let v74 : BitVec 32 := Scalar.addi v54 c8_i32_37
  let c1_i32_38 : BitVec 32 := 1#32
  let v75 : BitVec 32 := Scalar.subi v74 c1_i32_38
  let c8_i32_39 : BitVec 32 := 8#32
  let v76 : BitVec 32 := Scalar.remsi v75 c8_i32_39
  let c0_i32_40 : BitVec 32 := 0#32
  let v77 : BitVec 1 := Scalar.cmpi .eq v76 c0_i32_40
  let c0_i32_44 : BitVec 32 := 0#32
  let c4_i32_41 : BitVec 32 := 4#32
  let v78 : BitVec 1 := Scalar.cmpi .sle v76 c4_i32_41
  let c1_i32_42 : BitVec 32 := 1#32
  let v79 : BitVec 32 := Scalar.subi v76 c1_i32_42
  let c8_i32_43 : BitVec 32 := 8#32
  let v80 : BitVec 32 := Scalar.subi c8_i32_43 v76
  let v81 : BitVec 32 := Scalar.select v78 v79 v80
  let v82 : BitVec 32 := Scalar.select v77 c0_i32_44 v81
  let v87 : BitVec 32 := Scalar.muli c2_i32_49 v82
  let c1_i32_45 : BitVec 32 := 1#32
  let v83 : BitVec 1 := Scalar.cmpi .sge v76 c1_i32_45
  let c4_i32_46 : BitVec 32 := 4#32
  let v84 : BitVec 1 := Scalar.cmpi .sle v76 c4_i32_46
  let v85 : BitVec 1 := Scalar.andi v83 v84
  let c1_i32_47 : BitVec 32 := 1#32
  let c0_i32_48 : BitVec 32 := 0#32
  let v86 : BitVec 32 := Scalar.select v85 c1_i32_47 c0_i32_48
  let v88 : BitVec 32 := Scalar.addi v86 v82
  let c2_i32_50 : BitVec 32 := 2#32
  let v89 : BitVec 32 := Scalar.remsi v88 c2_i32_50
  let v90 : BitVec 32 := Scalar.addi v87 v89
  let v91 : BitVec 32 := Scalar.addi v73 v90
  let c1_i32_5834 : BitVec 32 := 1#32
  let v5794 : BitVec 32 := Scalar.muli v91 c1_i32_5834
  let v5795 : BitVec 32 := Scalar.addi c0_i32_5835 v5794
  v5795.toNat
def k0_off35 (d0 : Dev nD) : Fin 2 → Nat :=
  let c2_i32_3265 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c1_i32_3254 : BitVec 32 := 1#32
  let v3191 : BitVec 32 := Scalar.addi v54 c1_i32_3254
  let c8_i32_3255 : BitVec 32 := 8#32
  let v3192 : BitVec 32 := Scalar.remsi v3191 c8_i32_3255
  let c0_i32_3256 : BitVec 32 := 0#32
  let v3193 : BitVec 1 := Scalar.cmpi .eq v3192 c0_i32_3256
  let c0_i32_3260 : BitVec 32 := 0#32
  let c4_i32_3257 : BitVec 32 := 4#32
  let v3194 : BitVec 1 := Scalar.cmpi .sle v3192 c4_i32_3257
  let c1_i32_3258 : BitVec 32 := 1#32
  let v3195 : BitVec 32 := Scalar.subi v3192 c1_i32_3258
  let c8_i32_3259 : BitVec 32 := 8#32
  let v3196 : BitVec 32 := Scalar.subi c8_i32_3259 v3192
  let v3197 : BitVec 32 := Scalar.select v3194 v3195 v3196
  let v3198 : BitVec 32 := Scalar.select v3193 c0_i32_3260 v3197
  let v3203 : BitVec 32 := Scalar.muli c2_i32_3265 v3198
  let c1_i32_3261 : BitVec 32 := 1#32
  let v3199 : BitVec 1 := Scalar.cmpi .sge v3192 c1_i32_3261
  let c4_i32_3262 : BitVec 32 := 4#32
  let v3200 : BitVec 1 := Scalar.cmpi .sle v3192 c4_i32_3262
  let v3201 : BitVec 1 := Scalar.andi v3199 v3200
  let c1_i32_3263 : BitVec 32 := 1#32
  let c0_i32_3264 : BitVec 32 := 0#32
  let v3202 : BitVec 32 := Scalar.select v3201 c1_i32_3263 c0_i32_3264
  let v3204 : BitVec 32 := Scalar.addi v3202 v3198
  let c2_i32_3266 : BitVec 32 := 2#32
  let v3205 : BitVec 32 := Scalar.remsi v3204 c2_i32_3266
  let v3206 : BitVec 32 := Scalar.addi v3203 v3205
  let c192_i32_3281 : BitVec 32 := 192#32
  let v3224 : BitVec 32 := Scalar.muli v3206 c192_i32_3281
  let v6097 : Index := Scalar.indexCast v3224
  let c0_6120 : Index := 0#32
  ![v6097.toNat, 0]
def k0_off36 (d0 : Dev nD) : Fin 2 → Nat :=
  let c2_i32_3279 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let v48 : BitVec 32 := Scalar.remsi v47 c2_i32_17
  let c1_i32_18 : BitVec 32 := 1#32
  let v49 : BitVec 1 := Scalar.cmpi .eq v48 c1_i32_18
  let c1_i32_19 : BitVec 32 := 1#32
  let v50 : BitVec 32 := Scalar.addi v46 c1_i32_19
  let c0_i32_20 : BitVec 32 := 0#32
  let v51 : BitVec 1 := Scalar.cmpi .eq v46 c0_i32_20
  let c0_i32_22 : BitVec 32 := 0#32
  let c8_i32_21 : BitVec 32 := 8#32
  let v52 : BitVec 32 := Scalar.subi c8_i32_21 v46
  let v53 : BitVec 32 := Scalar.select v51 c0_i32_22 v52
  let v54 : BitVec 32 := Scalar.select v49 v50 v53
  let c8_i32_3267 : BitVec 32 := 8#32
  let v3207 : BitVec 32 := Scalar.addi v54 c8_i32_3267
  let c1_i32_3268 : BitVec 32 := 1#32
  let v3208 : BitVec 32 := Scalar.subi v3207 c1_i32_3268
  let c8_i32_3269 : BitVec 32 := 8#32
  let v3209 : BitVec 32 := Scalar.remsi v3208 c8_i32_3269
  let c0_i32_3270 : BitVec 32 := 0#32
  let v3210 : BitVec 1 := Scalar.cmpi .eq v3209 c0_i32_3270
  let c0_i32_3274 : BitVec 32 := 0#32
  let c4_i32_3271 : BitVec 32 := 4#32
  let v3211 : BitVec 1 := Scalar.cmpi .sle v3209 c4_i32_3271
  let c1_i32_3272 : BitVec 32 := 1#32
  let v3212 : BitVec 32 := Scalar.subi v3209 c1_i32_3272
  let c8_i32_3273 : BitVec 32 := 8#32
  let v3213 : BitVec 32 := Scalar.subi c8_i32_3273 v3209
  let v3214 : BitVec 32 := Scalar.select v3211 v3212 v3213
  let v3215 : BitVec 32 := Scalar.select v3210 c0_i32_3274 v3214
  let v3220 : BitVec 32 := Scalar.muli c2_i32_3279 v3215
  let c1_i32_3275 : BitVec 32 := 1#32
  let v3216 : BitVec 1 := Scalar.cmpi .sge v3209 c1_i32_3275
  let c4_i32_3276 : BitVec 32 := 4#32
  let v3217 : BitVec 1 := Scalar.cmpi .sle v3209 c4_i32_3276
  let v3218 : BitVec 1 := Scalar.andi v3216 v3217
  let c1_i32_3277 : BitVec 32 := 1#32
  let c0_i32_3278 : BitVec 32 := 0#32
  let v3219 : BitVec 32 := Scalar.select v3218 c1_i32_3277 c0_i32_3278
  let v3221 : BitVec 32 := Scalar.addi v3219 v3215
  let c2_i32_3280 : BitVec 32 := 2#32
  let v3222 : BitVec 32 := Scalar.remsi v3221 c2_i32_3280
  let v3223 : BitVec 32 := Scalar.addi v3220 v3222
  let c192_i32_3282 : BitVec 32 := 192#32
  let v3225 : BitVec 32 := Scalar.muli v3223 c192_i32_3282
  let v6104 : Index := Scalar.indexCast v3225
  let c768_6123 : Index := 768#32
  ![v6104.toNat, 768]
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x24576 : Shape := ⟨2, ![1536, 24576]⟩
abbrev S24576x1536 : Shape := ⟨2, ![24576, 1536]⟩
abbrev S1536x1536 : Shape := ⟨2, ![1536, 1536]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1536x24576, .f32⟩
  | .hbm, ⟨1, _⟩ => ⟨S24576x1536, .f32⟩
  | .hbm, ⟨2, _⟩ => ⟨S1536x1536, .f32⟩
  | .hbm, ⟨3, _⟩ => ⟨S_, .f32⟩
  | .hbm, ⟨4, _⟩ => ⟨S1536x1536, .f32⟩
  | .hbm, ⟨5, _⟩ => ⟨S1536x1536, .f32⟩
  | _, _ => ⟨S1536x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Same.lean ====
/-
The program and its idealization are the same text: no operation was replaced, so at any float values the two
tables of bodies and the two bodies of `@main` are equal. What is proved of one is proved of the other.
-/
module

public import proofs.«01_k».proof.Proof.Gen.Kernel
public import proofs.«01_k».proof.Proof.Gen.KernelIdeal

@[expose] public section

noncomputable section

namespace Cert.Proof

open Idealize.ShloMosaic

variable {F : FTy → Type} [FloatOps F]

set_option maxRecDepth 100000 in
set_option maxHeartbeats 0 in
/-- One body table: at the one label both call the same body on the same buffers. -/
theorem same_bodies : Cert.Kernel.defs₀ (F := F) = Cert.KernelIdeal.defs₀ (F := F) := by
  unfold Cert.Kernel.defs₀ Cert.KernelIdeal.defs₀
  refine congrArg (fun x => Defs.onTc (nD := Cert.Kernel.nD) (τ := Cert.Kernel.τ) (sig := Cert.Kernel.sig) (Val := Elt F) (Λ := Cert.Kernel.Λ₀) x) ?_
  funext ℓ a
  obtain ⟨ℓ, hℓ⟩ := ℓ
  cases ℓ with
  | zero => obtain ⟨t, s⟩ := a; rfl
  | succ n => exact absurd hℓ (Nat.not_lt.2 (Nat.le_add_left _ _))

theorem same_defs : Cert.Kernel.defs (F := F) = Cert.KernelIdeal.defs (F := F) :=
  congrArg (Pipeline.defs (Cert.Kernel.pcfgs (F := F))) same_bodies

end Cert.Proof

end
-- ==== Proof.Model.lean ====
/-
The kernel body as a short program with loops.

The printed body is one straight line of about nine hundred memory operations. They come from a few
small steps repeated over the stages of the two rings, the units of a block and the two directions.
Here those steps are written once, with the repetitions as loops over explicit lists, and the
printed body is shown equal to this short program by unfolding both (`Flat.lean`).

Direction `false` ("plus") carries the left 768 columns of the result, direction `true` ("minus")
the right 768 columns.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Run

open Cert.KernelIdeal Cert.KernelIdeal.Gen
open Idealize.ShloMosaic Idealize.ShloMosaic.TcCoe
open Idealize.SL Idealize.SL.Sem

variable {F : FTy → Type} [FloatOps F]

/-! ## The buffers -/

abbrev aM : Memref sig .tc .vmem S1536x768 .f32 := Memref.whole cc0_stg0_0
abbrev bM : Memref sig .tc .vmem S768x1536 .f32 := Memref.whole cc0_stg1_0
abbrev oM : Memref sig .tc .vmem S1536x1536 .f32 := Memref.whole cc0_stg2_0
abbrev bbM : Memref sig .tc .vmem S768x1536 .bf16 := Memref.whole cc0_scratch0

/-- Landing slots of the row-ring reduction. -/
abbrev l1M : Bool → Memref sig .tc .vmem S7x192x768 .bf16
  | false => Memref.whole cc0_scratch1
  | true => Memref.whole cc0_scratch3
/-- Staging block of the row-ring reduction. -/
abbrev s1M : Bool → Memref sig .tc .vmem S192x768 .bf16
  | false => Memref.whole cc0_scratch2
  | true => Memref.whole cc0_scratch4
/-- Landing slots of the column-ring reduction. -/
abbrev l2aM : Bool → Memref sig .tc .vmem S3x48x768 .bf16
  | false => Memref.whole cc0_scratch5
  | true => Memref.whole cc0_scratch7
/-- Staging unit of the column-ring reduction. -/
abbrev s2aM : Bool → Memref sig .tc .vmem S48x768 .bf16
  | false => Memref.whole cc0_scratch6
  | true => Memref.whole cc0_scratch8
/-- Landing slots of the column-ring broadcast. -/
abbrev l2bM : Bool → Memref sig .tc .vmem S3x48x768 .bf16
  | false => Memref.whole cc0_scratch9
  | true => Memref.whole cc0_scratch11
/-- Staging unit of the column-ring broadcast. -/
abbrev s2bM : Bool → Memref sig .tc .vmem S48x768 .bf16
  | false => Memref.whole cc0_scratch10
  | true => Memref.whole cc0_scratch12
/-- Landing slots of the row-ring broadcast. -/
abbrev l3M : Bool → Memref sig .tc .vmem S7x192x768 .bf16
  | false => Memref.whole cc0_scratch13
  | true => Memref.whole cc0_scratch15
/-- Staging block of the row-ring broadcast. -/
abbrev s3M : Bool → Memref sig .tc .vmem S192x768 .bf16
  | false => Memref.whole cc0_scratch14
  | true => Memref.whole cc0_scratch16

theorem l1M_whole (h : Bool) : (l1M h).IsWhole := by cases h <;> exact Memref.isWhole_whole _
theorem s1M_whole (h : Bool) : (s1M h).IsWhole := by cases h <;> exact Memref.isWhole_whole _
theorem l2aM_whole (h : Bool) : (l2aM h).IsWhole := by cases h <;> exact Memref.isWhole_whole _
theorem s2aM_whole (h : Bool) : (s2aM h).IsWhole := by cases h <;> exact Memref.isWhole_whole _
theorem l2bM_whole (h : Bool) : (l2bM h).IsWhole := by cases h <;> exact Memref.isWhole_whole _
theorem s2bM_whole (h : Bool) : (s2bM h).IsWhole := by cases h <;> exact Memref.isWhole_whole _
theorem l3M_whole (h : Bool) : (l3M h).IsWhole := by cases h <;> exact Memref.isWhole_whole _
theorem s3M_whole (h : Bool) : (s3M h).IsWhole := by cases h <;> exact Memref.isWhole_whole _

/-! ## The semaphore arrays: `ss` counts sends, `rs` counts arrivals -/

abbrev ss1 : Bool → DmaSems sig S7x4
  | false => cc0_scratch17
  | true => cc0_scratch19
abbrev rs1 : Bool → DmaSems sig S7x4
  | false => cc0_scratch18
  | true => cc0_scratch20
abbrev ss2a : Bool → DmaSems sig S3
  | false => cc0_scratch21
  | true => cc0_scratch23
abbrev rs2a : Bool → DmaSems sig S3
  | false => cc0_scratch22
  | true => cc0_scratch24
abbrev ss2b : Bool → DmaSems sig S3
  | false => cc0_scratch25
  | true => cc0_scratch27
abbrev rs2b : Bool → DmaSems sig S3
  | false => cc0_scratch26
  | true => cc0_scratch28
abbrev ss3 : Bool → DmaSems sig S7x4
  | false => cc0_scratch29
  | true => cc0_scratch31
abbrev rs3 : Bool → DmaSems sig S7x4
  | false => cc0_scratch30
  | true => cc0_scratch32

/-! ## The static offsets stay inside their arrays -/

theorem inbL (s : Fin 7) (u : Fin 4) : ∀ a, (![s.val, 48 * u.val, 0] : Fin 3 → ℕ) a + S1x48x768.size a ≤ S7x192x768.size a := by
  revert s u; decide +kernel
theorem inbS (u : Fin 4) : ∀ a, (![48 * u.val, 0] : Fin 2 → ℕ) a + S48x768.size a ≤ S192x768.size a := by
  revert u; decide +kernel
theorem inbT (t : Fin 3) : ∀ a, (![t.val, 0, 0] : Fin 3 → ℕ) a + S1x48x768.size a ≤ S3x48x768.size a := by
  revert t; decide +kernel
theorem inbC (s : Fin 7) (u : Fin 4) : ∀ a, (![s.val, u.val] : Fin 2 → ℕ) a + S1x1.size a ≤ S7x4.size a := by
  revert s u; decide +kernel
theorem inbC3 (t : Fin 3) : ∀ a, (![t.val] : Fin 1 → ℕ) a + S1.size a ≤ S3.size a := by
  revert t; decide +kernel
theorem wordsL (s : Fin 7) (u : Fin 4) : (Rect.unit (s := S7x192x768) ![s.val, 48 * u.val, 0] S1x48x768.size (inbL s u)).WholeWords (EltTy.packing .bf16) := by
  revert s u; decide +kernel
theorem wordsS (u : Fin 4) : (Rect.unit (s := S192x768) ![48 * u.val, 0] S48x768.size (inbS u)).WholeWords (EltTy.packing .bf16) := by
  revert u; decide +kernel
theorem wordsT (t : Fin 3) : (Rect.unit (s := S3x48x768) ![t.val, 0, 0] S1x48x768.size (inbT t)).WholeWords (EltTy.packing .bf16) := by
  revert t; decide +kernel
theorem packedS (u : Fin 4) : (Rect.unit (s := S192x768) ![48 * u.val, 0] S48x768.size (inbS u)).PackedRows (EltTy.packing .bf16) := by
  revert u; decide +kernel

/-! ## Slots, units and cells -/

/-- Slot `(s, u)` of a ring's landing array, as a 48×768 array. -/
abbrev slotM (m : Memref sig .tc .vmem S7x192x768 .bf16) (s : Fin 7) (u : Fin 4) : Memref sig .tc .vmem S48x768 .bf16 :=
  (m.slice (Rect.unit (s := S7x192x768) ![s.val, 48 * u.val, 0] S1x48x768.size (inbL s u)) (fun _ => rfl)).squeeze S48x768 squeezes_S1x48x768_S48x768
/-- Unit `u` (48 rows) of a staging block. -/
abbrev unitM (m : Memref sig .tc .vmem S192x768 .bf16) (u : Fin 4) : Memref sig .tc .vmem S48x768 .bf16 :=
  m.slice (Rect.unit (s := S192x768) ![48 * u.val, 0] S48x768.size (inbS u)) (fun _ => rfl)
/-- Slot `t` of a column ring's landing array. -/
abbrev slot3M (m : Memref sig .tc .vmem S3x48x768 .bf16) (t : Fin 3) : Memref sig .tc .vmem S48x768 .bf16 :=
  (m.slice (Rect.unit (s := S3x48x768) ![t.val, 0, 0] S1x48x768.size (inbT t)) (fun _ => rfl)).squeeze S48x768 squeezes_S1x48x768_S48x768
/-- Cell `(s, u)` of a 7×4 semaphore array. -/
abbrev cellD (m : DmaSems sig S7x4) (s : Fin 7) (u : Fin 4) : DmaSem sig :=
  ((m.slice (Rect.unit (s := S7x4) ![s.val, u.val] S1x1.size (inbC s u))).squeeze S_ squeezes_S1x1_S_).sem
/-- Cell `t` of a semaphore array of three. -/
abbrev cellD3 (m : DmaSems sig S3) (t : Fin 3) : DmaSem sig :=
  ((m.slice (Rect.unit (s := S3) ![t.val] S1.size (inbC3 t))).squeeze S_ squeezes_S1_S_).sem

theorem slotM_exact {m : Memref sig .tc .vmem S7x192x768 .bf16} (hm : m.IsWhole) (s : Fin 7) (u : Fin 4) : (slotM m s u).view.WordExact :=
  (hm.wordExact_slice rfl _ (wordsL s u)).reshape _ _
theorem unitM_exact {m : Memref sig .tc .vmem S192x768 .bf16} (hm : m.IsWhole) (u : Fin 4) : (unitM m u).view.WordExact :=
  hm.wordExact_slice rfl _ (wordsS u)
theorem slot3M_exact {m : Memref sig .tc .vmem S3x48x768 .bf16} (hm : m.IsWhole) (t : Fin 3) : (slot3M m t).view.WordExact :=
  (hm.wordExact_slice rfl _ (wordsT t)).reshape _ _

/-! ## The remote copies -/

/-- A remote copy a device issues: its phase, direction and position. -/
inductive Copy where
  /-- row-ring reduction: direction, step, unit -/
  | p1 (h : Bool) (s : Fin 7) (u : Fin 4)
  /-- column-ring reduction: direction, step -/
  | p2a (h : Bool) (t : Fin 3)
  /-- column-ring broadcast: direction, step -/
  | p2b (h : Bool) (t : Fin 3)
  /-- row-ring broadcast: direction, step, unit -/
  | p3 (h : Bool) (t : Fin 7) (u : Fin 4)
  deriving DecidableEq

/-- The left neighbour in the row ring, as the program computes it. -/
abbrev rowL (c : Dev nD) : Dev nD := ⟨k0_dev1 c, k0_dev1_lt c⟩
/-- The right neighbour in the row ring. -/
abbrev rowR (c : Dev nD) : Dev nD := ⟨k0_dev2 c, k0_dev2_lt c⟩
/-- The previous device of the column ring. -/
abbrev colP (c : Dev nD) : Dev nD := ⟨k0_dev3 c, k0_dev3_lt c⟩
/-- The next device of the column ring. -/
abbrev colN (c : Dev nD) : Dev nD := ⟨k0_dev4 c, k0_dev4_lt c⟩

/-- The next device along the row ring in a direction. -/
abbrev rowTo (h : Bool) (c : Dev nD) : Dev nD := match h with | false => rowR c | true => rowL c
/-- The next device along the column ring in a direction. -/
abbrev colTo (h : Bool) (c : Dev nD) : Dev nD := match h with | false => colN c | true => colP c

namespace Copy

/-- Where a copy of device `c` lands. -/
abbrev dst (c : Dev nD) : Copy → Dev nD
  | .p1 h _ _ => rowTo h c
  | .p2a h _ => colTo h c
  | .p2b h _ => colTo h c
  | .p3 h _ _ => rowTo h c

/-- The landing slot of a copy, on the receiving device. -/
abbrev land : Copy → Memref sig .tc .vmem S48x768 .bf16
  | .p1 h s u => slotM (l1M h) s u
  | .p2a h t => slot3M (l2aM h) t
  | .p2b h t => slot3M (l2bM h) t
  | .p3 h t u => slotM (l3M h) t u

/-- What a copy reads, on the sending device: a staging unit, or (for the broadcasts' forwarding
    steps) the slot the previous copy arrived in. -/
abbrev src : Copy → Memref sig .tc .vmem S48x768 .bf16
  | .p1 h _ u => unitM (s1M h) u
  | .p2a h _ => s2aM h
  | .p2b h ⟨0, _⟩ => s2bM h
  | .p2b h ⟨t + 1, ht⟩ => slot3M (l2bM h) ⟨t, Nat.lt_of_succ_lt ht⟩
  | .p3 h ⟨0, _⟩ u => unitM (s3M h) u
  | .p3 h ⟨t + 1, ht⟩ u => slotM (l3M h) ⟨t, Nat.lt_of_succ_lt ht⟩ u

/-- The cell of the sender credited when the copy has been read. -/
abbrev ssem : Copy → DmaSem sig
  | .p1 h s u => cellD (ss1 h) s u
  | .p2a h t => cellD3 (ss2a h) t
  | .p2b h t => cellD3 (ss2b h) t
  | .p3 h t u => cellD (ss3 h) t u

/-- The cell of the receiver credited when the copy has landed. -/
abbrev rsem : Copy → DmaSem sig
  | .p1 h s u => cellD (rs1 h) s u
  | .p2a h t => cellD3 (rs2a h) t
  | .p2b h t => cellD3 (rs2b h) t
  | .p3 h t u => cellD (rs3 h) t u

theorem land_exact : ∀ i : Copy, i.land.view.WordExact
  | .p1 h s u => slotM_exact (l1M_whole h) s u
  | .p2a h t => slot3M_exact (l2aM_whole h) t
  | .p2b h t => slot3M_exact (l2bM_whole h) t
  | .p3 h t u => slotM_exact (l3M_whole h) t u

theorem src_exact : ∀ i : Copy, i.src.view.WordExact
  | .p1 h _ u => unitM_exact (s1M_whole h) u
  | .p2a h _ => (s2aM_whole h).wordExact
  | .p2b h ⟨0, _⟩ => (s2bM_whole h).wordExact
  | .p2b h ⟨_ + 1, _⟩ => slot3M_exact (l2bM_whole h) _
  | .p3 h ⟨0, _⟩ u => unitM_exact (s3M_whole h) u
  | .p3 h ⟨_ + 1, _⟩ u => slotM_exact (l3M_whole h) _ u

end Copy

/-! ## The steps, each followed by the rest `k` of the program -/

/-- Programs of a core. -/
abbrev Pg (F : FTy → Type) [FloatOps F] : Type 1 := Prog (TpuEff nD τ sig (Elt F) Λ₀ .tc) PUnit

/-- `f` for every element of a list, then `k`. -/
def each {α : Type} : List α → (α → Pg F → Pg F) → Pg F → Pg F
  | [], _, k => k
  | a :: l, f, k => f a (each l f k)

/-- Send `sm` to slot `lm` of device `d`. -/
def sendTo (d : Dev nD) (sm lm : Memref sig .tc .vmem S48x768 .bf16) (ssc rsc : DmaSem sig) (hs : sm.view.WordExact) (hl : lm.view.WordExact) (k : Pg F) : Pg F :=
  .op (.enqueueDma sm (.remote (Dev.tc d) lm (.dma ssc)) (.dma rsc) hs hl ⟨⟨rfl, Or.inl rfl⟩, trivial⟩) (fun _ => k)

/-- Issue copy `i`. -/
def start (c : Dev nD) (i : Copy) (k : Pg F) : Pg F := sendTo (i.dst c) i.src i.land i.ssem i.rsem i.src_exact i.land_exact k

/-- Wait until the copy `i` addressed to this device has landed. -/
def waitRecv (i : Copy) (k : Pg F) : Pg F :=
  .op (.waitDma2 i.rsem i.src i.land i.src_exact i.land_exact) (fun _ => k)

/-- Wait until this device's copy `i` has been read. -/
def waitSend (i : Copy) (k : Pg F) : Pg F :=
  .op (.waitDma2 i.ssem i.land i.src i.land_exact i.src_exact) (fun _ => k)

/-- Read a 48×768 tile of the result. -/
def ldOut (off : Fin 2 → ℕ) (inb : ∀ a, off a + S48x768.size a ≤ S1536x1536.size a) (k : Vec F S48x768 .f32 → Pg F) : Pg F :=
  .op (.load oM (Rect.unit (s := S1536x1536) off S48x768.size inb).toLoadRect (View.loadsAt_vmem h_S48x768)) k

/-- Write a 48×768 tile of the result. -/
def stOut (off : Fin 2 → ℕ) (inb : ∀ a, off a + S48x768.size a ≤ S1536x1536.size a) (v : Vec F S48x768 .f32) (k : Pg F) : Pg F :=
  .op (.store oM (Rect.unit (s := S1536x1536) off S48x768.size inb) v Finset.univ (View.stores_vmem_bits_univ h_S48x768 rfl) (.inl rfl)) (fun _ => k)

/-- Read a slot of a row ring's landing array. -/
def ldSlot (m : Memref sig .tc .vmem S7x192x768 .bf16) (s : Fin 7) (u : Fin 4) (k : Vec F S1x48x768 .bf16 → Pg F) : Pg F :=
  .op (.load m (Rect.unit (s := S7x192x768) ![s.val, 48 * u.val, 0] S1x48x768.size (inbL s u)).toLoadRect (View.loadsAt_vmem h_S1x48x768)) k

/-- Read a slot of a column ring's landing array. -/
def ldSlot3 (m : Memref sig .tc .vmem S3x48x768 .bf16) (t : Fin 3) (k : Vec F S1x48x768 .bf16 → Pg F) : Pg F :=
  .op (.load m (Rect.unit (s := S3x48x768) ![t.val, 0, 0] S1x48x768.size (inbT t)).toLoadRect (View.loadsAt_vmem h_S1x48x768)) k

/-- Overwrite 48 rows of a staging block (its old value is read and dropped). -/
def fillUnit (m : Memref sig .tc .vmem S192x768 .bf16) (hm : m.IsWhole) (off : Fin 2 → ℕ) (inb : ∀ a, off a + S48x768.size a ≤ S192x768.size a)
    (hp : (Rect.unit (s := S192x768) off S48x768.size inb).PackedRows (EltTy.packing .bf16)) (v : Vec F S48x768 .bf16) (k : Pg F) : Pg F :=
  .op (.load m (Rect.unit (s := S192x768) off S48x768.size inb).toLoadRect (View.loadsAt_vmem h_S48x768)) fun _ =>
  .op (.store m (Rect.unit (s := S192x768) off S48x768.size inb) v Finset.univ (View.stores_vmem h_S48x768 (hm.storeExact_slice rfl _ hp) (fun _ => rfl)) (.inl rfl)) fun _ => k

/-- Overwrite a whole staging unit. -/
def fillStage (m : Memref sig .tc .vmem S48x768 .bf16) (hm : m.IsWhole) (v : Vec F S48x768 .bf16) (k : Pg F) : Pg F :=
  .op (.load m (Rect.unit (s := S48x768) ![0, 0] S48x768.size inb_S48x768_S48x768_0_0).toLoadRect (View.loadsAt_vmem h_S48x768)) fun _ =>
  .op (.store m (Rect.unit (s := S48x768) ![0, 0] S48x768.size inb_S48x768_S48x768_0_0) v Finset.univ
    (View.stores_vmem h_S48x768 (hm.storeExact_slice rfl _ packedbf16_S48x768_S48x768_0_0) (fun _ => rfl)) (.inl rfl)) fun _ => k

/-- Overwrite a whole staging block. -/
def fillBlock (m : Memref sig .tc .vmem S192x768 .bf16) (hm : m.IsWhole) (v : Vec F S192x768 .bf16) (k : Pg F) : Pg F :=
  .op (.load m (Rect.unit (s := S192x768) ![0, 0] S192x768.size inb_S192x768_S192x768_0_0).toLoadRect (View.loadsAt_vmem h_S192x768)) fun _ =>
  .op (.store m (Rect.unit (s := S192x768) ![0, 0] S192x768.size inb_S192x768_S192x768_0_0) v Finset.univ
    (View.stores_vmem h_S192x768 (hm.storeExact_slice rfl _ packedbf16_S192x768_S192x768_0_0) (fun _ => rfl)) (.inl rfl)) fun _ => k

/-- Read 192 rows of half the result. -/
def ldBlk (off : Fin 2 → ℕ) (inb : ∀ a, off a + S192x768.size a ≤ S1536x1536.size a) (k : Vec F S192x768 .f32 → Pg F) : Pg F :=
  .op (.load oM (Rect.unit (s := S1536x1536) off S192x768.size inb).toLoadRect (View.loadsAt_vmem h_S192x768)) k

/-- Take the positive part of 192 rows of half the result. -/
def reluBlk (off : Fin 2 → ℕ) (inb : ∀ a, off a + S192x768.size a ≤ S1536x1536.size a) (k : Pg F) : Pg F :=
  ldBlk off inb fun v => ldBlk off inb fun _ =>
  .op (.store oM (Rect.unit (s := S1536x1536) off S192x768.size inb) (k0_pay183 v) Finset.univ (View.stores_vmem_bits_univ h_S192x768 rfl) (.inl rfl)) fun _ => k

/-- One block of 192 rows of the partial product `A·B`. -/
def dot (ao : Fin 2 → ℕ) (ai : ∀ a, ao a + S192x768.size a ≤ S1536x768.size a) (oo : Fin 2 → ℕ) (oi : ∀ a, oo a + S192x1536.size a ≤ S1536x1536.size a) (k : Pg F) : Pg F :=
  .op (.load aM (Rect.unit (s := S1536x768) ao S192x768.size ai).toLoadRect (View.loadsAt_vmem h_S192x768)) fun v =>
  .op (.load bbM (Rect.unit (s := S768x1536) ![0, 0] S768x1536.size inb_S768x1536_S768x1536_0_0).toLoadRect (View.loadsAt_vmem h_S768x1536)) fun w =>
  .op (.load oM (Rect.unit (s := S1536x1536) oo S192x1536.size oi).toLoadRect (View.loadsAt_vmem h_S192x1536)) fun _ =>
  .op (.store oM (Rect.unit (s := S1536x1536) oo S192x1536.size oi) (k0_pay2 v w) Finset.univ (View.stores_vmem_bits_univ h_S192x1536 rfl) (.inl rfl)) fun _ => k

/-! ## Row-ring reduction -/

/-- The tile of the result that step `s` of the row-ring reduction adds into. -/
abbrev off1 : Bool → Dev nD → Fin 7 → Fin 4 → Fin 2 → ℕ
  | false, c, s, u => k0_off9 c (BitVec.ofNat 32 s.val) (BitVec.ofNat 32 (48 * u.val))
  | true, c, s, u => k0_off10 c (BitVec.ofNat 32 s.val) (BitVec.ofNat 32 (48 * u.val))
theorem off1_inb : ∀ (h : Bool) (c : Dev nD) (s : Fin 7) (u : Fin 4), ∀ a, off1 h c s u a + S48x768.size a ≤ S1536x1536.size a
  | false, c, s, u => k0_off9_inb c s u
  | true, c, s, u => k0_off10_inb c s u

/-- A step that adds the arrived partial sum to the own tile and sends the sum on. -/
def add1 (c : Dev nD) (s s' : Fin 7) (p : Fin 4 × Bool) (k : Pg F) : Pg F :=
  waitRecv (.p1 p.2 s p.1) <| ldOut (off1 p.2 c s p.1) (off1_inb p.2 c s p.1) fun v => ldSlot (l1M p.2) s p.1 fun w =>
  waitSend (.p1 p.2 s p.1) <| fillUnit (s1M p.2) (s1M_whole p.2) ![48 * p.1.val, 0] (inbS p.1) (packedS p.1) (k0_pay8 v w) <|
  start c (.p1 p.2 s' p.1) k

/-- The last step: the sum stays. -/
def fin1 (c : Dev nD) (p : Fin 4 × Bool) (k : Pg F) : Pg F :=
  waitRecv (.p1 p.2 6 p.1) <| ldOut (off1 p.2 c 6 p.1) (off1_inb p.2 c 6 p.1) fun v => ldSlot (l1M p.2) 6 p.1 fun w =>
  waitSend (.p1 p.2 6 p.1) <| ldOut (off1 p.2 c 6 p.1) (off1_inb p.2 c 6 p.1) fun _ =>
  stOut (off1 p.2 c 6 p.1) (off1_inb p.2 c 6 p.1) (k0_pay86 v w) k

/-- Units and directions in the order the program visits them. -/
abbrev lanes : List (Fin 4 × Bool) := [(0, false), (0, true), (1, false), (1, true), (2, false), (2, true), (3, false), (3, true)]
/-- The two directions in order. -/
abbrev dirs : List Bool := [false, true]

/-! ## Column-ring reduction -/

abbrev off2f : Bool → Dev nD → Fin 2 → ℕ
  | false, c => k0_off15 c
  | true, c => k0_off16 c
theorem off2f_inb : ∀ (h : Bool) (c : Dev nD), ∀ a, off2f h c a + S48x768.size a ≤ S1536x1536.size a
  | false, c => k0_off15_inb c
  | true, c => k0_off16_inb c
abbrev off2a : Bool → Dev nD → Fin 3 → Fin 2 → ℕ
  | false, c, t => k0_off17 c (BitVec.ofNat 32 t.val)
  | true, c, t => k0_off18 c (BitVec.ofNat 32 t.val)
theorem off2a_inb : ∀ (h : Bool) (c : Dev nD) (t : Fin 3), ∀ a, off2a h c t a + S48x768.size a ≤ S1536x1536.size a
  | false, c, t => k0_off17_inb c t
  | true, c, t => k0_off18_inb c t

/-- Stage the own tile. -/
def fill2 (c : Dev nD) (h : Bool) (k : Pg F) : Pg F :=
  ldOut (off2f h c) (off2f_inb h c) fun v => fillStage (s2aM h) (s2aM_whole h) (k0_pay95 v) k

def add2 (c : Dev nD) (t t' : Fin 3) (h : Bool) (k : Pg F) : Pg F :=
  waitRecv (.p2a h t) <| ldOut (off2a h c t) (off2a_inb h c t) fun v => ldSlot3 (l2aM h) t fun w =>
  waitSend (.p2a h t) <| fillStage (s2aM h) (s2aM_whole h) (k0_pay97 v w) <| start c (.p2a h t') k

/-- The 48 rows of the row broadcast's staging block that hold the own finished tile. -/
abbrev off3o : Bool → Dev nD → Fin 2 → ℕ
  | false, c => k0_off19 c 1#32
  | true, c => k0_off20 c
theorem off3o_inb : ∀ (h : Bool) (c : Dev nD), ∀ a, off3o h c a + S48x768.size a ≤ S192x768.size a
  | false, c => k0_off19_inb c 1
  | true, c => k0_off20_inb c
theorem off3o_packed : ∀ (h : Bool) (c : Dev nD), (Rect.unit (s := S192x768) (off3o h c) S48x768.size (off3o_inb h c)).PackedRows (EltTy.packing .bf16)
  | false, c => k0_off19_packedbf16 c 1
  | true, c => k0_off20_packedbf16 c

def fin2 (c : Dev nD) (h : Bool) (k : Pg F) : Pg F :=
  waitRecv (.p2a h 2) <| ldOut (off2a h c 2) (off2a_inb h c 2) fun v => ldSlot3 (l2aM h) 2 fun w =>
  waitSend (.p2a h 2) <| ldOut (off2a h c 2) (off2a_inb h c 2) fun _ =>
  stOut (off2a h c 2) (off2a_inb h c 2) (k0_pay103 v w) <|
  fillStage (s2bM h) (s2bM_whole h) (k0_pay105 v w) <|
  fillUnit (s3M h) (s3M_whole h) (off3o h c) (off3o_inb h c) (off3o_packed h c) (k0_pay106 v w) k

/-! ## Column-ring broadcast, and the first step of the row-ring broadcast

Which unit the first copies of the row-ring broadcast carry depends on the device's row: the program
computes the slot, the rows and the cell at run time. -/

/-- Send rows `so` of the staging block to the slot at `lo`, over the cells at `co`. -/
def startAt (c : Dev nD) (h : Bool) (co so : Fin 2 → ℕ) (lo : Fin 3 → ℕ) (ci : ∀ a, co a + S1x1.size a ≤ S7x4.size a)
    (si : ∀ a, so a + S48x768.size a ≤ S192x768.size a) (li : ∀ a, lo a + S1x48x768.size a ≤ S7x192x768.size a)
    (sw : (Rect.unit (s := S192x768) so S48x768.size si).WholeWords (EltTy.packing .bf16))
    (lw : (Rect.unit (s := S7x192x768) lo S1x48x768.size li).WholeWords (EltTy.packing .bf16)) (k : Pg F) : Pg F :=
  sendTo (rowTo h c) ((s3M h).slice (Rect.unit (s := S192x768) so S48x768.size si) (fun _ => rfl))
    (((l3M h).slice (Rect.unit (s := S7x192x768) lo S1x48x768.size li) (fun _ => rfl)).squeeze S48x768 squeezes_S1x48x768_S48x768)
    (((ss3 h).slice (Rect.unit (s := S7x4) co S1x1.size ci)).squeeze S_ squeezes_S1x1_S_).sem
    (((rs3 h).slice (Rect.unit (s := S7x4) co S1x1.size ci)).squeeze S_ squeezes_S1x1_S_).sem
    ((s3M_whole h).wordExact_slice rfl _ sw) (((l3M_whole h).wordExact_slice rfl _ lw).reshape _ _) k

/-- Send the own finished tile along the row. -/
def startOwn (c : Dev nD) : Bool → Pg F → Pg F
  | false => startAt c false (k0_off21 c 1#32) (k0_off23 c 1#32) (k0_off22 c 1#32) (k0_off21_inb c 1) (k0_off23_inb c 1) (k0_off22_inb c 1) (k0_off23_wordsbf16 c 1) (k0_off22_wordsbf16 c 1)
  | true => startAt c true (k0_off24 c) (k0_off26 c) (k0_off25 c) (k0_off24_inb c) (k0_off26_inb c) (k0_off25_inb c) (k0_off26_wordsbf16 c) (k0_off25_wordsbf16 c)

/-- Send the tile that arrived at step `t` of the column broadcast along the row. -/
def startCol (c : Dev nD) (t : Fin 3) : Bool → Pg F → Pg F
  | false => startAt c false (k0_off28 c (BitVec.ofNat 32 t.val)) (k0_off30 c (BitVec.ofNat 32 t.val)) (k0_off29 c (BitVec.ofNat 32 t.val)) (k0_off28_inb c t) (k0_off30_inb c t) (k0_off29_inb c t) (k0_off30_wordsbf16 c t) (k0_off29_wordsbf16 c t)
  | true => startAt c true (k0_off21 c (BitVec.ofNat 32 t.val)) (k0_off23 c (BitVec.ofNat 32 t.val)) (k0_off22 c (BitVec.ofNat 32 t.val)) (k0_off21_inb c t) (k0_off23_inb c t) (k0_off22_inb c t) (k0_off23_wordsbf16 c t) (k0_off22_wordsbf16 c t)

/-- The rows of the staging block for the tile arrived at step `t` of the column broadcast. -/
abbrev off3c : Bool → Dev nD → Fin 3 → Fin 2 → ℕ
  | false, c, t => k0_off27 c (BitVec.ofNat 32 t.val)
  | true, c, t => k0_off19 c (BitVec.ofNat 32 t.val)
theorem off3c_inb : ∀ (h : Bool) (c : Dev nD) (t : Fin 3), ∀ a, off3c h c t a + S48x768.size a ≤ S192x768.size a
  | false, c, t => k0_off27_inb c t
  | true, c, t => k0_off19_inb c t
theorem off3c_packed : ∀ (h : Bool) (c : Dev nD) (t : Fin 3), (Rect.unit (s := S192x768) (off3c h c t) S48x768.size (off3c_inb h c t)).PackedRows (EltTy.packing .bf16)
  | false, c, t => k0_off27_packedbf16 c t
  | true, c, t => k0_off19_packedbf16 c t
/-- The tile of the result the column broadcast's step `t` fills. -/
abbrev off2b : Bool → Dev nD → Fin 3 → Fin 2 → ℕ
  | false, c, t => k0_off31 c (BitVec.ofNat 32 t.val)
  | true, c, t => k0_off32 c (BitVec.ofNat 32 t.val)
theorem off2b_inb : ∀ (h : Bool) (c : Dev nD) (t : Fin 3), ∀ a, off2b h c t a + S48x768.size a ≤ S1536x1536.size a
  | false, c, t => k0_off31_inb c t
  | true, c, t => k0_off32_inb c t

/-- Take over an arrived tile: stage it for the row broadcast, send it there, store it. -/
def take2 (c : Dev nD) (t : Fin 3) (h : Bool) (k : Pg F) : Pg F :=
  ldSlot3 (l2bM h) t fun w => fillUnit (s3M h) (s3M_whole h) (off3c h c t) (off3c_inb h c t) (off3c_packed h c t) (k0_pay111 w) <|
  startCol c t h <| ldSlot3 (l2bM h) t fun w => ldOut (off2b h c t) (off2b_inb h c t) fun _ =>
  stOut (off2b h c t) (off2b_inb h c t) (k0_pay112 w) k

def pass2 (c : Dev nD) (t t' : Fin 3) (h : Bool) (k : Pg F) : Pg F :=
  waitRecv (.p2b h t) <| start c (.p2b h t') <| take2 c t h k

def last2 (c : Dev nD) (h : Bool) (k : Pg F) : Pg F := waitRecv (.p2b h 2) <| take2 c 2 h k

/-! ## Row-ring broadcast -/

abbrev off3 : Bool → Dev nD → Fin 7 → Fin 4 → Fin 2 → ℕ
  | false, c, s, u => k0_off33 c (BitVec.ofNat 32 s.val) (BitVec.ofNat 32 (48 * u.val))
  | true, c, s, u => k0_off34 c (BitVec.ofNat 32 s.val) (BitVec.ofNat 32 (48 * u.val))
theorem off3_inb : ∀ (h : Bool) (c : Dev nD) (s : Fin 7) (u : Fin 4), ∀ a, off3 h c s u a + S48x768.size a ≤ S1536x1536.size a
  | false, c, s, u => k0_off33_inb c s u
  | true, c, s, u => k0_off34_inb c s u

/-- Store the positive part of an arrived tile. -/
def take3 (c : Dev nD) (t : Fin 7) (p : Fin 4 × Bool) (k : Pg F) : Pg F :=
  ldSlot (l3M p.2) t p.1 fun w => ldOut (off3 p.2 c t p.1) (off3_inb p.2 c t p.1) fun _ =>
  stOut (off3 p.2 c t p.1) (off3_inb p.2 c t p.1) (k0_pay123 w) k

def pass3 (c : Dev nD) (t t' : Fin 7) (p : Fin 4 × Bool) (k : Pg F) : Pg F :=
  waitRecv (.p3 p.2 t p.1) <| start c (.p3 p.2 t' p.1) <| take3 c t p k

def last3 (c : Dev nD) (p : Fin 4 × Bool) (k : Pg F) : Pg F := waitRecv (.p3 p.2 6 p.1) <| take3 c 6 p k

/-! ## The parts of the body -/

/-- The barrier: signal the four neighbours, wait for the four signals. -/
def barrier (c : Dev nD) (k : Pg F) : Pg F :=
  .op (.semSignal (rowL c, .tc) (sig.barrier 0 rfl) (1#32).toInt) fun _ =>
  .op (.semSignal (rowR c, .tc) (sig.barrier 0 rfl) (1#32).toInt) fun _ =>
  .op (.semSignal (colP c, .tc) (sig.barrier 0 rfl) (1#32).toInt) fun _ =>
  .op (.semSignal (colN c, .tc) (sig.barrier 0 rfl) (1#32).toInt) fun _ =>
  .op (.semWait (sig.barrier 0 rfl) (4#32).toInt) fun _ => k

/-- Round `B` to the narrow type. -/
def castB (k : Pg F) : Pg F :=
  .op (.load bM (Rect.unit (s := S768x1536) ![0, 0] S768x1536.size inb_S768x1536_S768x1536_0_0).toLoadRect (View.loadsAt_vmem h_S768x1536)) fun v =>
  .op (.load bbM (Rect.unit (s := S768x1536) ![0, 0] S768x1536.size inb_S768x1536_S768x1536_0_0).toLoadRect (View.loadsAt_vmem h_S768x1536)) fun _ =>
  .op (.store bbM (Rect.unit (s := S768x1536) ![0, 0] S768x1536.size inb_S768x1536_S768x1536_0_0) (k0_pay1 v) Finset.univ
    (View.stores_vmem h_S768x1536 ((Memref.isWhole_whole cc0_scratch0).storeExact_slice rfl _ packedbf16_S768x1536_S768x1536_0_0) (fun _ => rfl)) (.inl rfl)) fun _ => k

/-- Stage the own block of the partial product, both directions. -/
def stage1 (c : Dev nD) (k : Pg F) : Pg F :=
  ldBlk (k0_off3 c) (k0_off3_inb c) fun v => fillBlock (s1M false) (s1M_whole false) (k0_pay3 v) <|
  ldBlk (k0_off4 c) (k0_off4_inb c) fun v => fillBlock (s1M true) (s1M_whole true) (k0_pay3 v) k

def dotA (c : Dev nD) (s : Fin 3) (k : Pg F) : Pg F :=
  dot (k0_off11 c (BitVec.ofNat 32 (1 + s.val))) (k0_off11_inb c s) (k0_off12 c (BitVec.ofNat 32 (1 + s.val))) (k0_off12_inb c s) k
def dotB (c : Dev nD) (s : Fin 2) (k : Pg F) : Pg F :=
  dot (k0_off13 c (BitVec.ofNat 32 (1 + s.val))) (k0_off13_inb c s) (k0_off14 c (BitVec.ofNat 32 (1 + s.val))) (k0_off14_inb c s) k

/-- Everything up to the first copies. -/
def head (c : Dev nD) (k : Pg F) : Pg F :=
  castB <| dot (k0_off1 c) (k0_off1_inb c) (k0_off2 c) (k0_off2_inb c) <| stage1 c <|
  each lanes (fun p => start c (.p1 p.2 0 p.1)) <|
  dot (k0_off5 c) (k0_off5_inb c) (k0_off6 c) (k0_off6_inb c) <| dot (k0_off7 c) (k0_off7_inb c) (k0_off8 c) (k0_off8_inb c) k

/-- The row-ring reduction. -/
def ring1 (c : Dev nD) (k : Pg F) : Pg F :=
  each lanes (add1 c 0 1) <| dotA c 0 <| dotB c 0 <| each lanes (add1 c 1 2) <| dotA c 1 <| dotB c 1 <| each lanes (add1 c 2 3) <|
  dotA c 2 <| each lanes (add1 c 3 4) <| each lanes (add1 c 4 5) <| each lanes (add1 c 5 6) <| each lanes (fin1 c) k

/-- The column-ring reduction. -/
def ring2 (c : Dev nD) (k : Pg F) : Pg F :=
  each dirs (fill2 c) <| each dirs (fun h => start c (.p2a h 0)) <|
  each dirs (add2 c 0 1) <| each dirs (add2 c 1 2) <| each dirs (fin2 c) k

/-- The column-ring broadcast. -/
def ring2b (c : Dev nD) (k : Pg F) : Pg F :=
  each dirs (fun h => start c (.p2b h 0)) <| each dirs (startOwn c) <|
  each dirs (pass2 c 0 1) <| each dirs (pass2 c 1 2) <| each dirs (last2 c) k

/-- The row-ring broadcast. -/
def ring3 (c : Dev nD) (k : Pg F) : Pg F :=
  each lanes (pass3 c 0 1) <| each lanes (pass3 c 1 2) <| each lanes (pass3 c 2 3) <| each lanes (pass3 c 3 4) <|
  each lanes (pass3 c 4 5) <| each lanes (pass3 c 5 6) <| each lanes (last3 c) k

/-- The broadcasts' sends, awaited at the end. -/
def drain (k : Pg F) : Pg F :=
  each [0, 1, 2] (fun t : Fin 3 => each dirs fun h => waitSend (.p2b h t)) <|
  each [0, 1, 2, 3, 4, 5, 6] (fun t : Fin 7 => each lanes fun p => waitSend (.p3 p.2 t p.1)) k

/-- The whole body after the device id is read. -/
def model (c : Dev nD) : Pg F :=
  barrier c <| head c <| ring1 c <| ring2 c <| ring2b c <| ring3 c <|
  reluBlk (k0_off35 c) (k0_off35_inb c) <| reluBlk (k0_off36 c) (k0_off36_inb c) <| drain (.ret ⟨⟩)

end Cert.KernelIdeal.Run
end
-- ==== Proof.Flat.lean ====
/-
The printed body is the short program of `Model.lean`.
-/
module

public import proofs.«01_k».proof.Proof.Model

@[expose] public section

noncomputable section

namespace Cert.KernelIdeal.Run

open Cert.KernelIdeal Cert.KernelIdeal.Gen
open Idealize.ShloMosaic Idealize.ShloMosaic.TcCoe
open Idealize.SL Idealize.SL.Sem

variable {F : FTy → Type} [FloatOps F]

set_option maxRecDepth 1000000 in
set_option maxHeartbeats 0 in
/-- The body the pipeline runs at its one point reads its device and continues as the short program: both
    sides unfold to the same sequence of operations. -/
theorem body_eq (t : Fin cfg0.N) : bodyAt0 (F := F) t = .op .deviceId (fun c => model c) := by
  rfl

end Cert.KernelIdeal.Run
end
-- ==== Proof.Ring.lean ====
/-
The geometry of the exchange: rings, units, and the order in which a device issues its copies.

The 32 devices form four rows of eight. `rowTo h` and `colTo h` step along the row ring and the column
ring in direction `h`; `rowFr h` and `colFr h` step back. A row's eight blocks of the result are visited
in ring order, a block's four units of 48 rows in column order.
-/
module

public import proofs.«01_k».proof.Proof.Model
public import Mathlib.Tactic.DeriveFintype

@[expose] public section

noncomputable section

namespace Cert.KernelIdeal.Run

open Cert.KernelIdeal Cert.KernelIdeal.Gen
open Idealize.ShloMosaic Idealize.ShloMosaic.TcCoe

deriving instance Fintype for Copy

/-- The previous device along the row ring in a direction. -/
abbrev rowFr (h : Bool) (c : Dev nD) : Dev nD := rowTo (!h) c
/-- The previous device along the column ring in a direction. -/
abbrev colFr (h : Bool) (c : Dev nD) : Dev nD := colTo (!h) c

theorem rowFr_rowTo (h : Bool) (c : Dev nD) : rowFr h (rowTo h c) = c := by revert h c; decide +kernel
theorem rowTo_rowFr (h : Bool) (c : Dev nD) : rowTo h (rowFr h c) = c := by revert h c; decide +kernel
theorem colFr_colTo (h : Bool) (c : Dev nD) : colFr h (colTo h c) = c := by revert h c; decide +kernel
theorem colTo_colFr (h : Bool) (c : Dev nD) : colTo h (colFr h c) = c := by revert h c; decide +kernel

/-- The device a copy arriving at `c` was sent by. -/
def Copy.from (c : Dev nD) : Copy → Dev nD
  | .p1 h _ _ => rowFr h c
  | .p2a h _ => colFr h c
  | .p2b h _ => colFr h c
  | .p3 h _ _ => rowFr h c

theorem Copy.from_dst (c : Dev nD) (i : Copy) : i.from (i.dst c) = c := by
  cases i with
  | p1 h s u => exact rowFr_rowTo h c
  | p2a h t => exact colFr_colTo h c
  | p2b h t => exact colFr_colTo h c
  | p3 h t u => exact rowFr_rowTo h c
theorem Copy.dst_from (c : Dev nD) (i : Copy) : i.dst (i.from c) = c := by
  cases i with
  | p1 h s u => exact rowTo_rowFr h c
  | p2a h t => exact colTo_colFr h c
  | p2b h t => exact colTo_colFr h c
  | p3 h t u => exact rowTo_rowFr h c

/-- Stepping along a copy's ring is a permutation of the devices. -/
def Copy.ring (i : Copy) : Dev nD ≃ Dev nD := ⟨fun c => i.dst c, i.from, fun c => i.from_dst c, fun c => i.dst_from c⟩

/-- The row of a device. -/
def rowNo (c : Dev nD) : Fin 4 := ⟨c.val / 8 % 4, Nat.mod_lt _ (by decide)⟩
/-- The position in its row. -/
def colNo (c : Dev nD) : Fin 8 := ⟨c.val % 8, Nat.mod_lt _ (by decide)⟩

/-- Block at a place of the row ring. -/
def qOf : Fin 8 → Fin 8 := ![0, 1, 2, 5, 6, 7, 4, 3]
/-- Place of a block in the row ring. -/
def kOf : Fin 8 → Fin 8 := ![0, 1, 2, 7, 6, 3, 4, 5]

theorem kOf_qOf (k : Fin 8) : kOf (qOf k) = k := by revert k; decide

/-- The block `e` places after the device's own along direction `h` (backwards for plus). -/
def blkAt (h : Bool) (c : Dev nD) (e : Fin 8) : Fin 8 := match h with
  | false => qOf (kOf (colNo c) - e)
  | true => qOf (kOf (colNo c) + e)

theorem kOf_inj : Function.Injective kOf := by decide
theorem qOf_inj : Function.Injective qOf := by decide

theorem blkAt_inj (h : Bool) (c : Dev nD) : Function.Injective (blkAt h c) := by
  have key : ∀ k a b : Fin 8, (k - a = k - b → a = b) ∧ (k + a = k + b → a = b) := by decide
  intro a b hab
  cases h
  · exact (key _ a b).1 (qOf_inj hab)
  · exact (key _ a b).2 (qOf_inj hab)

/-- The block a device holds the row's sum of: the one after the last step of the reduction. -/
def jOwn (h : Bool) (c : Dev nD) : Fin 8 := blkAt h c 7
/-- The block step `s` of the row-ring reduction adds into. -/
def j1 (h : Bool) (c : Dev nD) (s : Fin 7) : Fin 8 := blkAt h c s.succ
/-- The block that arrives at step `t` of the row-ring broadcast. -/
def j3 (h : Bool) (c : Dev nD) (t : Fin 7) : Fin 8 := blkAt h c t.castSucc

/-- The unit at position `t` of the column ring's order: the one first sent, … , the one kept. -/
def unitAt (h : Bool) (c : Dev nD) (t : Fin 4) : Fin 4 := match h with
  | false => rowNo c - t
  | true => rowNo c + t
/-- The position of a unit. -/
def posOf (h : Bool) (c : Dev nD) (u : Fin 4) : Fin 4 := match h with
  | false => rowNo c - u
  | true => u - rowNo c

theorem posOf_unitAt (h : Bool) (c : Dev nD) (t : Fin 4) : posOf h c (unitAt h c t) = t := by
  have key : ∀ r t : Fin 4, r - (r - t) = t ∧ r + t - r = t := by decide
  cases h
  · exact (key _ _).1
  · exact (key _ _).2
theorem unitAt_posOf (h : Bool) (c : Dev nD) (u : Fin 4) : unitAt h c (posOf h c u) = u := by
  have key : ∀ r t : Fin 4, r - (r - t) = t ∧ r + (t - r) = t := by decide
  cases h
  · exact (key _ _).1
  · exact (key _ _).2

/-- Positions and units correspond. -/
def unitEquiv (h : Bool) (c : Dev nD) : Fin 4 ≃ Fin 4 := ⟨unitAt h c, posOf h c, posOf_unitAt h c, unitAt_posOf h c⟩

/-! ## The offsets in closed form -/

/-- Where the tile of block `j`, unit `u`, half `h` begins. -/
abbrev tOff (j : Fin 8) (u : Fin 4) (h : Bool) : Fin 2 → ℕ := ![192 * j.val + 48 * u.val, if h then 768 else 0]

theorem off1_eq (h : Bool) (c : Dev nD) (s : Fin 7) (u : Fin 4) : off1 h c s u = tOff (j1 h c s) u h := by
  revert h c s u; decide +kernel
theorem off2f_eq (h : Bool) (c : Dev nD) : off2f h c = tOff (jOwn h c) (unitAt h c 0) h := by revert h c; decide +kernel
theorem off2a_eq (h : Bool) (c : Dev nD) (t : Fin 3) : off2a h c t = tOff (jOwn h c) (unitAt h c t.succ) h := by revert h c t; decide +kernel
theorem off2b_eq (h : Bool) (c : Dev nD) (t : Fin 3) : off2b h c t = tOff (jOwn h c) (unitAt h c t.castSucc) h := by revert h c t; decide +kernel
theorem off3_eq (h : Bool) (c : Dev nD) (t : Fin 7) (u : Fin 4) : off3 h c t u = tOff (j3 h c t) u h := by
  revert h c t u; decide +kernel
theorem off3o_eq (h : Bool) (c : Dev nD) : off3o h c = ![48 * (unitAt h c 3).val, 0] := by revert h c; decide +kernel
theorem off3c_eq (h : Bool) (c : Dev nD) (t : Fin 3) : off3c h c t = ![48 * (unitAt h c t.castSucc).val, 0] := by revert h c t; decide +kernel

/-- The two blocks whose sums the device keeps, where the last step takes the positive part. -/
theorem off35_eq (c : Dev nD) : k0_off35 c = ![192 * (jOwn false c).val, 0] := by revert c; decide +kernel
theorem off36_eq (c : Dev nD) : k0_off36 c = ![192 * (jOwn true c).val, 768] := by revert c; decide +kernel
theorem off3s_eq (c : Dev nD) : k0_off3 c = ![192 * (blkAt false c 0).val, 0] := by revert c; decide +kernel
theorem off4s_eq (c : Dev nD) : k0_off4 c = ![192 * (blkAt true c 0).val, 768] := by revert c; decide +kernel

theorem offA0 (c : Dev nD) : k0_off1 c = ![192 * (blkAt true c 0).val, 0] ∧ k0_off2 c = ![192 * (blkAt true c 0).val, 0] := by revert c; decide +kernel
theorem offA1 (c : Dev nD) : k0_off5 c = ![192 * (blkAt true c 1).val, 0] ∧ k0_off6 c = ![192 * (blkAt true c 1).val, 0] := by revert c; decide +kernel
theorem offA7 (c : Dev nD) : k0_off7 c = ![192 * (blkAt true c 7).val, 0] ∧ k0_off8 c = ![192 * (blkAt true c 7).val, 0] := by revert c; decide +kernel
/-- The block of the partial product made at a step of the reduction. -/
def eA (s : Fin 3) : Fin 8 := ![2, 3, 4] s
def eB (s : Fin 2) : Fin 8 := ![6, 5] s
theorem offdA (c : Dev nD) (s : Fin 3) : k0_off11 c (BitVec.ofNat 32 (1 + s.val)) = ![192 * (blkAt true c (eA s)).val, 0]
    ∧ k0_off12 c (BitVec.ofNat 32 (1 + s.val)) = ![192 * (blkAt true c (eA s)).val, 0] := by revert c s; decide +kernel
theorem offdB (c : Dev nD) (s : Fin 2) : k0_off13 c (BitVec.ofNat 32 (1 + s.val)) = ![192 * (blkAt true c (eB s)).val, 0]
    ∧ k0_off14 c (BitVec.ofNat 32 (1 + s.val)) = ![192 * (blkAt true c (eB s)).val, 0] := by revert c s; decide +kernel

theorem blkAt_false (c : Dev nD) (e : Fin 8) : blkAt false c e = blkAt true c (-e) := by
  have key : ∀ k e : Fin 8, k - e = k + -e := by decide
  exact congrArg qOf (key _ _)

/-! ## What a step along a ring does to the closed forms -/

theorem j1_next (h : Bool) (c : Dev nD) (e e' : Fin 8) (he : e' = e + 1) : blkAt h (rowTo h c) e' = blkAt h c e := by
  subst he; revert h c e; decide +kernel
theorem jOwn_colTo (h h' : Bool) (c : Dev nD) (e : Fin 8) : blkAt h' (colTo h c) e = blkAt h' c e := by
  revert h h' c e; decide +kernel
theorem unitAt_colTo (h : Bool) (c : Dev nD) (t t' : Fin 4) (ht : t' = t + 1) : unitAt h (colTo h c) t' = unitAt h c t := by
  subst ht; revert h c t; decide +kernel
theorem rowNo_rowTo (h : Bool) (c : Dev nD) : rowNo (rowTo h c) = rowNo c := by revert h c; decide +kernel

theorem posOf_rowTo (h h' : Bool) (c : Dev nD) (u : Fin 4) : posOf h' (rowTo h c) u = posOf h' c u := by
  cases h' <;> simp only [posOf, rowNo_rowTo]
theorem unitAt_rowTo (h h' : Bool) (c : Dev nD) (u : Fin 4) : unitAt h' (rowTo h c) u = unitAt h' c u := by
  cases h' <;> simp only [unitAt, rowNo_rowTo]

/-! ## The order of a device's copies -/

/-- Two for the two directions. -/
abbrev hN (h : Bool) : ℕ := if h then 1 else 0

/-- The place of a copy among the 124 that a device issues. The first copies of the row-ring broadcast
    are issued as the column ring delivers them, in an order that depends on the row. -/
def rank (c : Dev nD) : Copy → ℕ
  | .p1 h s u => 8 * s.val + 2 * u.val + hN h
  | .p2a h t => 56 + 2 * t.val + hN h
  | .p2b h t => match t.val with
    | 0 => 62 + hN h
    | t + 1 => 66 + 4 * t + 2 * hN h
  | .p3 h t u => match t.val with
    | 0 => (match (posOf h c u).val with
      | 3 => 64 + hN h
      | 2 => 74 + hN h
      | t => 67 + 4 * t + 2 * hN h)
    | t + 1 => 76 + 8 * t + 2 * u.val + hN h

/-- A table by rank: injectivity of the ranks, decided by rows. -/
theorem rank_inj (c : Dev nD) : Function.Injective (rank c) := by
  have key : ∀ (r : Fin 4), Function.Injective (rank ⟨8 * r.val, by have := r.isLt; show _ < 32; omega⟩) := by
    decide +kernel
  have hr : rank c = rank ⟨8 * (rowNo c).val, by have := (rowNo c).isLt; show _ < 32; omega⟩ := by
    funext i
    have hp : ∀ h u, posOf h c u = posOf h ⟨8 * (rowNo c).val, by have := (rowNo c).isLt; show _ < 32; omega⟩ u := by
      revert c; decide +kernel
    cases i <;> simp only [rank, hp]
  rw [hr]; exact key _

theorem rank_lt (c : Dev nD) (i : Copy) : rank c i < 124 := by
  rcases i with ⟨h, s, u⟩ | ⟨h, t⟩ | ⟨h, t⟩ | ⟨h, t, u⟩
  · simp only [rank, hN]; have := s.isLt; have := u.isLt; split <;> omega
  · simp only [rank, hN]; have := t.isLt; split <;> omega
  · obtain ⟨t, ht⟩ := t; cases t <;> simp only [rank, hN] <;> split <;> omega
  · obtain ⟨t, ht⟩ := t
    cases t with
    | zero => simp only [rank, hN]; have := (posOf h c u).isLt; split <;> split <;> omega
    | succ t => simp only [rank, hN]; have := u.isLt; split <;> omega

theorem rank_dst (c : Dev nD) (i : Copy) : rank (i.dst c) i = rank c i := by
  rcases i with ⟨h, s, u⟩ | ⟨h, t⟩ | ⟨h, t⟩ | ⟨h, t, u⟩
  · rfl
  · rfl
  · rfl
  · obtain ⟨t, ht⟩ := t
    cases t with
    | zero => simp only [rank, Copy.dst, posOf_rowTo]
    | succ t => rfl

/-! ## The cells are distinct -/

theorem rsem_inj : Function.Injective Copy.rsem := by decide +kernel
theorem ssem_inj : Function.Injective Copy.ssem := by decide +kernel
theorem ssem_ne_rsem (i j : Copy) : i.ssem ≠ j.rsem := by revert i j; decide +kernel

/-- What every copy adds to its two cells. -/
abbrev N : ℕ := (Copy.p2a false 0).land.view.dmaCredit
theorem N_pos : 0 < N := View.dmaCredit_pos _ (by decide)
theorem land_credit (i : Copy) : i.land.view.dmaCredit = N := by revert i; decide +kernel
theorem src_credit (i : Copy) : i.src.view.dmaCredit = N := by revert i; decide +kernel

end Cert.KernelIdeal.Run
end
-- ==== Proof.Values.lean ====
/-
What every buffer of the exchange holds, as a function of the blocks of `A` and `B` the devices start from.

`X c` and `Y c` are device `c`'s columns of `A` and rows of `B`. The contents are stated with the program's
own arithmetic, over any number format; `Math.lean` reads them as sums.
-/
module

public import proofs.«01_k».proof.Proof.Ring

@[expose] public section

noncomputable section

namespace Cert.KernelIdeal.Run

open Cert.KernelIdeal Cert.KernelIdeal.Gen
open Idealize.ShloMosaic Idealize.ShloMosaic.TcCoe

variable {F : FTy → Type} [FloatOps F]

/-! ## The rectangles -/

theorem aInb (j : Fin 8) : ∀ a, (![192 * j.val, 0] : Fin 2 → ℕ) a + S192x768.size a ≤ S1536x768.size a := by revert j; decide
theorem oInb (j : Fin 8) : ∀ a, (![192 * j.val, 0] : Fin 2 → ℕ) a + S192x1536.size a ≤ S1536x1536.size a := by revert j; decide
theorem tInb (j : Fin 8) (u : Fin 4) (h : Bool) : ∀ a, tOff j u h a + S48x768.size a ≤ S1536x1536.size a := by revert j u h; decide
/-- Where half `h` of block `j` begins. -/
abbrev hOff (j : Fin 8) (h : Bool) : Fin 2 → ℕ := ![192 * j.val, if h then 768 else 0]
theorem hInb (j : Fin 8) (h : Bool) : ∀ a, hOff j h a + S192x768.size a ≤ S1536x1536.size a := by revert j h; decide
theorem cInb (u : Fin 4) (h : Bool) : ∀ a, (![48 * u.val, if h then 768 else 0] : Fin 2 → ℕ) a + S48x768.size a ≤ S192x1536.size a := by revert u h; decide
theorem dInb (h : Bool) : ∀ a, (![0, if h then 768 else 0] : Fin 2 → ℕ) a + S192x768.size a ≤ S192x1536.size a := by revert h; decide

/-- The rows of `A` for block `j`. -/
abbrev aRect (j : Fin 8) : Rect S1536x768 := Rect.unit (s := S1536x768) ![192 * j.val, 0] S192x768.size (aInb j)
/-- Block `j` of the result. -/
abbrev oRect (j : Fin 8) : Rect S1536x1536 := Rect.unit (s := S1536x1536) ![192 * j.val, 0] S192x1536.size (oInb j)
/-- Unit `u` of half `h` of block `j`. -/
abbrev tRect (j : Fin 8) (u : Fin 4) (h : Bool) : Rect S1536x1536 := Rect.unit (s := S1536x1536) (tOff j u h) S48x768.size (tInb j u h)
/-- Half `h` of block `j`. -/
abbrev hRect (j : Fin 8) (h : Bool) : Rect S1536x1536 := Rect.unit (s := S1536x1536) (hOff j h) S192x768.size (hInb j h)
/-- A tile inside a block. -/
abbrev cRect (u : Fin 4) (h : Bool) : Rect S192x1536 := Rect.unit (s := S192x1536) ![48 * u.val, if h then 768 else 0] S48x768.size (cInb u h)
/-- A half of a block. -/
abbrev dRect (h : Bool) : Rect S192x1536 := Rect.unit (s := S192x1536) ![0, if h then 768 else 0] S192x768.size (dInb h)
/-- A unit of a half block. -/
abbrev uRect (u : Fin 4) : Rect S192x768 := Rect.unit (s := S192x768) ![48 * u.val, 0] S48x768.size (inbS u)

/-- A 48×768 array with a leading axis of extent one. -/
def unsq {e : EltTy} (V : Vec F S48x768 e) : Vec F S1x48x768 e :=
  fun i => V ((Shape.reshapeEquiv squeezes_S1x48x768_S48x768.numel_eq).symm i)

variable (X : Dev nD → Vec F S1536x768 .f32) (Y : Dev nD → Vec F S768x1536 .f32)

/-- Block `j` of device `c`'s partial product. -/
def dotV (c : Dev nD) (j : Fin 8) : Vec F S192x1536 .f32 := k0_pay2 (fun i => X c ((aRect j).emb i)) (k0_pay1 (Y c))
/-- A tile of it. -/
def dotT (c : Dev nD) (j : Fin 8) (u : Fin 4) (h : Bool) : Vec F S48x768 .f32 := fun i => dotV X Y c j ((cRect u h).emb i)
/-- A half of it. -/
def dotH (c : Dev nD) (j : Fin 8) (h : Bool) : Vec F S192x768 .f32 := fun i => dotV X Y c j ((dRect h).emb i)

/-- The block at place `n`. -/
abbrev blkN (h : Bool) (c : Dev nD) (n : ℕ) : Fin 8 := blkAt h c (Fin.ofNat 8 n)
/-- The unit at place `n`. -/
abbrev unitN (h : Bool) (c : Dev nD) (n : ℕ) : Fin 4 := unitAt h c (Fin.ofNat 4 n)

/-- What the copy of step `s` of the row-ring reduction carries. -/
def v1 (h : Bool) (u : Fin 4) : ℕ → Dev nD → Vec F S48x768 .bf16
  | 0, c => fun i => k0_pay3 (dotH X Y c (blkAt h c 0) h) ((uRect u).emb i)
  | s + 1, c => k0_pay8 (dotT X Y c (blkN h c (s + 1)) u h) (unsq (v1 h u s (rowFr h c)))

/-- The row's sum of a tile of the kept block. -/
def out1 (h : Bool) (u : Fin 4) (c : Dev nD) : Vec F S48x768 .f32 :=
  k0_pay86 (dotT X Y c (jOwn h c) u h) (unsq (v1 X Y h u 6 (rowFr h c)))

/-- What the copy of step `t` of the column-ring reduction carries. -/
def v2 (h : Bool) : ℕ → Dev nD → Vec F S48x768 .bf16
  | 0, c => k0_pay95 (out1 X Y h (unitAt h c 0) c)
  | t + 1, c => k0_pay97 (out1 X Y h (unitN h c (t + 1)) c) (unsq (v2 h t (colFr h c)))

/-- The whole sum of the one tile a device finishes. -/
def tot (h : Bool) (c : Dev nD) : Vec F S48x768 .f32 := k0_pay103 (out1 X Y h (unitAt h c 3) c) (unsq (v2 X Y h 2 (colFr h c)))

/-- What the copy of step `t` of the column-ring broadcast carries. -/
def v2b (h : Bool) : ℕ → Dev nD → Vec F S48x768 .bf16
  | 0, c => k0_pay105 (out1 X Y h (unitAt h c 3) c) (unsq (v2 X Y h 2 (colFr h c)))
  | t + 1, c => v2b h t (colFr h c)

/-- What the staging block of the row-ring broadcast holds at the unit of position `p`. -/
def s3 (h : Bool) (c : Dev nD) (p : Fin 4) : Vec F S48x768 .bf16 :=
  if p = 3 then k0_pay106 (out1 X Y h (unitAt h c 3) c) (unsq (v2 X Y h 2 (colFr h c)))
  else k0_pay111 (unsq (v2b X Y h p.val (colFr h c)))

/-- What the copy of step `t` of the row-ring broadcast carries. -/
def v3 (h : Bool) (u : Fin 4) : ℕ → Dev nD → Vec F S48x768 .bf16
  | 0, c => s3 X Y h c (posOf h c u)
  | t + 1, c => v3 h u t (rowFr h c)

/-- What a copy of device `c` carries. -/
def val (c : Dev nD) : Copy → Vec F S48x768 .bf16
  | .p1 h s u => v1 X Y h u s.val c
  | .p2a h t => v2 X Y h t.val c
  | .p2b h t => v2b X Y h t.val c
  | .p3 h t u => v3 X Y h u t.val c

/-- A tile of the kept block before the positive part is taken. -/
def ownT (h : Bool) (c : Dev nD) (u : Fin 4) : Vec F S48x768 .f32 :=
  if posOf h c u = 3 then tot X Y h c else k0_pay112 (unsq (v2b X Y h (posOf h c u).val (colFr h c)))

/-- A tile of the result when the rings are done: of the kept block the sum, of the others its positive part. -/
def endT (c : Dev nD) (j : Fin 8) (u : Fin 4) (h : Bool) : Vec F S48x768 .f32 :=
  if hj : ∃ t : Fin 7, j3 h c t = j then k0_pay123 (unsq (v3 X Y h u hj.choose.val (rowFr h c))) else ownT X Y h c u

theorem endT_own (c : Dev nD) (u : Fin 4) (h : Bool) : endT X Y c (jOwn h c) u h = ownT X Y h c u :=
  dif_neg fun ⟨t, ht⟩ => by
    have := congrArg Fin.val (blkAt_inj h c ht)
    have ht := t.isLt
    simp only [Fin.val_castSucc] at this
    rw [this] at ht
    exact absurd ht (by decide)
theorem endT_j3 (c : Dev nD) (t : Fin 7) (u : Fin 4) (h : Bool) :
    endT X Y c (j3 h c t) u h = k0_pay123 (unsq (v3 X Y h u t.val (rowFr h c))) := by
  have hj : ∃ t' : Fin 7, j3 h c t' = j3 h c t := ⟨t, rfl⟩
  have e : hj.choose = t := Fin.castSucc_injective 7 (blkAt_inj h c hj.choose_spec)
  unfold endT
  rw [dif_pos hj, e]

/-- The tiles cover the result. -/
theorem tRect_cover : (Finset.univ : Finset (Fin 8 × Fin 4 × Bool)).biUnion (fun p => (tRect p.1 p.2.1 p.2.2).set) = Finset.univ := by
  refine Finset.eq_univ_of_forall fun x => ?_
  have h0 : (x 0).val < 1536 := (x 0).isLt
  have h1 : (x 1).val < 1536 := (x 1).isLt
  rw [Finset.mem_biUnion]
  refine ⟨(⟨(x 0).val / 192, by omega⟩, ⟨(x 0).val % 192 / 48, by omega⟩, decide (768 ≤ (x 1).val)), Finset.mem_univ _, ?_⟩
  rw [LoadRect.mem_set]
  intro a
  fin_cases a
  · refine ⟨(x 0).val % 48, ?_, ?_⟩
    · show _ < 48; omega
    · show (x 0).val = 192 * ((x 0).val / 192) + 48 * ((x 0).val % 192 / 48) + 1 * ((x 0).val % 48); omega
  · by_cases hx : 768 ≤ (x 1).val
    · refine ⟨(x 1).val - 768, ?_, ?_⟩
      · show _ < 768; omega
      · show (x 1).val = (if decide (768 ≤ (x 1).val) = true then 768 else 0) + 1 * ((x 1).val - 768)
        rw [if_pos (by simpa using hx)]; omega
    · refine ⟨(x 1).val, ?_, ?_⟩
      · show _ < 768; omega
      · show (x 1).val = (if decide (768 ≤ (x 1).val) = true then 768 else 0) + 1 * (x 1).val
        rw [if_neg (by simpa using hx)]; omega

/-- Where an element of a tile lies. -/
theorem tRect_emb (j : Fin 8) (u : Fin 4) (h : Bool) (i : S48x768.Idx) :
    ((tRect j u h).emb i 0).val = 192 * j.val + 48 * u.val + (i 0).val ∧ ((tRect j u h).emb i 1).val = (if h then 768 else 0) + (i 1).val :=
  ⟨show _ + 1 * _ = _ by simp, show _ + 1 * _ = _ by simp⟩

theorem tRect_disj (p p' : Fin 8 × Fin 4 × Bool) (hp : p ≠ p') : Disjoint (tRect p.1 p.2.1 p.2.2).set (tRect p'.1 p'.2.1 p'.2.2).set := by
  obtain ⟨j, u, h⟩ := p
  obtain ⟨j', u', h'⟩ := p'
  rw [Finset.disjoint_left]
  intro x hx hx'
  rw [LoadRect.mem_set] at hx hx'
  obtain ⟨a, ha, e0⟩ := hx 0
  obtain ⟨b, hb, e1⟩ := hx 1
  obtain ⟨a', ha', e0'⟩ := hx' 0
  obtain ⟨b', hb', e1'⟩ := hx' 1
  have ka : a < 48 := ha
  have ka' : a' < 48 := ha'
  have kb : b < 768 := hb
  have kb' : b' < 768 := hb'
  have hf : ∀ b : Bool, (if b then 768 else 0) = 768 * (hN b) := by decide
  have f0 : (x 0).val = 192 * j.val + 48 * u.val + 1 * a := e0
  have f0' : (x 0).val = 192 * j'.val + 48 * u'.val + 1 * a' := e0'
  have f1 : (x 1).val = 768 * hN h + 1 * b := (show (x 1).val = (if h then 768 else 0) + 1 * b from e1).trans (by rw [hf])
  have f1' : (x 1).val = 768 * hN h' + 1 * b' := (show (x 1).val = (if h' then 768 else 0) + 1 * b' from e1').trans (by rw [hf])
  have hu := u.isLt
  have hu' := u'.isLt
  have hi : ∀ b b' : Bool, hN b = hN b' → b = b' := by decide
  have hj : j = j' := Fin.ext (by omega)
  have hu : u = u' := Fin.ext (by omega)
  have hh : h = h' := hi _ _ (by omega)
  exact hp (by rw [hj, hu, hh])

/-- The result when the rings are done. -/
def endO (c : Dev nD) : Vec F S1536x1536 .f32 :=
  Rect.glue (fun p : Fin 8 × Fin 4 × Bool => tRect p.1 p.2.1 p.2.2) tRect_cover (fun p => endT X Y c p.1 p.2.1 p.2.2)

/-- The result after the positive part of the kept left half block, -/
def endP (c : Dev nD) : Vec F S1536x1536 .f32 :=
  (hRect (jOwn false c) false).overlay (endO X Y c) (k0_pay183 (fun i => endO X Y c ((hRect (jOwn false c) false).emb i)))
/-- and of the kept right half block: what the device writes out. -/
def outV (c : Dev nD) : Vec F S1536x1536 .f32 :=
  (hRect (jOwn true c) true).overlay (endP X Y c) (k0_pay183 (fun i => endP X Y c ((hRect (jOwn true c) true).emb i)))

end Cert.KernelIdeal.Run
end
-- ==== Proof.Sched.lean ====
/-
The protocol of the exchange: which cell is credited by whom, how much, and what changes hands.

Every device has one barrier cell and, for each of its 124 copies, a cell counting the copy's reading on
the sender and one counting its arrival on the receiver; each is used for one round.

* Barrier cell: four duties of one unit, one from each neighbour. A neighbour's signal hands over the slots
  of that neighbour which this device's copies land in.
* Send cell of a copy: the read half (or whole) of the copy's source comes back.
* Receive cell of a copy: the landing slot comes with the values the sender's copy carries.

A device may wait for a copy only while everything it still owes has a later place in the common order of
copies (`lv`, by `rank`): no cycle of waiting devices can form.
-/
module

public import proofs.«01_k».proof.Proof.Values
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources -/

/-- The exchange's rounds: four duty names. -/
abbrev UB : Type := URounds (GSem nD τ sig) (Fin 4)
/-- The pipeline's rounds and the exchange's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The barrier semaphore. -/
abbrev barS : Sem sig := (SemArray.scalar (sig.barrier 0 rfl) : Sems sig S_).sem

/-- A device's cells: its barrier, the send cell of a copy (`false`), the receive cell (`true`). -/
abbrev CIx : Type := Option (Bool × Copy)

abbrev osem (k : Bool × Copy) : SemLoc sig := match k with
  | (false, i) => .dma i.ssem
  | (true, i) => .dma i.rsem
abbrev csem : CIx → SemLoc sig
  | none => .reg barS
  | some k => osem k
abbrev kcell (ck : Dev nD × CIx) : GSem nD τ sig := ((ck.1 : Thread nD τ), csem ck.2)

abbrev barCell (c : Dev nD) : GSem nD τ sig := kcell (c, none)
abbrev sendCell (c : Dev nD) (i : Copy) : GSem nD τ sig := kcell (c, some (false, i))
abbrev recvCell (c : Dev nD) (i : Copy) : GSem nD τ sig := kcell (c, some (true, i))

theorem osem_inj : Function.Injective osem := by
  rintro ⟨b, i⟩ ⟨b', i'⟩ h
  cases b <;> cases b'
  · rw [ssem_inj (SemLoc.dma.inj h)]
  · exact absurd (SemLoc.dma.inj h) (ssem_ne_rsem i i')
  · exact absurd (SemLoc.dma.inj h).symm (ssem_ne_rsem i' i)
  · rw [rsem_inj (SemLoc.dma.inj h)]

/-- The neighbour a device's copies of group `k` go to. -/
abbrev nbr (k : Fin 4) (c : Dev nD) : Dev nD := match k with
  | 0 => rowTo false c
  | 1 => rowTo true c
  | 2 => colTo false c
  | 3 => colTo true c
/-- The neighbour whose copies of group `k` come here: the one this device's signal `k` goes to. -/
abbrev nbrFr (k : Fin 4) (c : Dev nD) : Dev nD := match k with
  | 0 => rowFr false c
  | 1 => rowFr true c
  | 2 => colFr false c
  | 3 => colFr true c
theorem nbr_nbrFr (k : Fin 4) (c : Dev nD) : nbr k (nbrFr k c) = c := by revert k c; decide +kernel
theorem nbrFr_nbr (k : Fin 4) (c : Dev nD) : nbrFr k (nbr k c) = c := by revert k c; decide +kernel

/-- The group of a copy: the neighbour it goes to. -/
def grp : Copy → Fin 4
  | .p1 h _ _ => if h then 1 else 0
  | .p2a h _ => if h then 3 else 2
  | .p2b h _ => if h then 3 else 2
  | .p3 h _ _ => if h then 1 else 0
theorem dst_nbr (c : Dev nD) (i : Copy) : i.dst c = nbr (grp i) c := by
  rcases i with ⟨h, s, u⟩ | ⟨h, t⟩ | ⟨h, t⟩ | ⟨h, t, u⟩ <;> cases h <;> rfl

/-- The share of a copy's source the copy holds while it is read: a forwarded slot is read by the device too. -/
def shr : Copy → PosShare TreeShare
  | .p2b _ ⟨_ + 1, _⟩ => fullShare.left
  | .p3 _ ⟨_ + 1, _⟩ _ => fullShare.left
  | _ => fullShare

variable (X : Dev nD → Vec F S1536x768 .f32) (Y : Dev nD → Vec F S768x1536 .f32)

/-- A landing slot, at any contents. -/
def slotAny (c : Dev nD) (i : Copy) : sProp 𝕄 := iprop(∃ V, owns (c : Thread nD τ) i.land fullShare V)
/-- A landing slot holding what its copy carries. -/
def landed (c : Dev nD) (i : Copy) : sProp 𝕄 := owns (c : Thread nD τ) i.land fullShare (val X Y (i.from c) i)
/-- A copy's source, at the share the copy holds. -/
def source (c : Dev nD) (i : Copy) : sProp 𝕄 := owns (c : Thread nD τ) i.src (shr i) (val X Y c i)
/-- What the signal of group `k` hands device `c`. -/
def barPay (c : Dev nD) (k : Fin 4) : sProp 𝕄 := bigSep (Finset.univ.filter fun i => grp i = k) fun i => slotAny (nbr k c) i

instance (c : Dev nD) (i : Copy) : BI.Storable (upEmb : UEmb _ 𝕄) (slotAny (F := F) c i) := by unfold slotAny; infer_instance
instance (c : Dev nD) (i : Copy) : BI.Storable (upEmb : UEmb _ 𝕄) (landed X Y c i) := by unfold landed; infer_instance
instance (c : Dev nD) (i : Copy) : BI.Storable (upEmb : UEmb _ 𝕄) (source X Y c i) := by unfold source; infer_instance
instance (c : Dev nD) (k : Fin 4) : BI.Storable (upEmb : UEmb _ 𝕄) (barPay (F := F) c k) := by unfold barPay; infer_instance

open Classical in
/-- What a transfer's credit hands over. -/
def dmaPay (c : Dev nD) (s : SemLoc sig) : sProp 𝕄 :=
  if h : ∃ i : Copy, s = osem (true, i) then landed X Y c h.choose
  else if h : ∃ i : Copy, s = osem (false, i) then source X Y c h.choose
  else iprop(emp)

theorem dmaPay_recv (c : Dev nD) (i : Copy) : dmaPay X Y c (osem (true, i)) = landed X Y c i := by
  have h : ∃ j : Copy, osem (true, i) = osem (true, j) := ⟨i, rfl⟩
  have e : h.choose = i := (Prod.mk.inj (osem_inj h.choose_spec)).2.symm
  unfold dmaPay
  rw [dif_pos h, e]
theorem dmaPay_send (c : Dev nD) (i : Copy) : dmaPay X Y c (osem (false, i)) = source X Y c i := by
  have hn : ¬ ∃ j : Copy, osem (false, i) = osem (true, j) := fun ⟨j, hj⟩ => absurd (Prod.mk.inj (osem_inj hj)).1 (by decide)
  have h : ∃ j : Copy, osem (false, i) = osem (false, j) := ⟨i, rfl⟩
  have e : h.choose = i := (Prod.mk.inj (osem_inj h.choose_spec)).2.symm
  unfold dmaPay
  rw [dif_neg hn, dif_pos h, e]
instance (c : Dev nD) (s : SemLoc sig) : BI.Storable (upEmb : UEmb _ 𝕄) (dmaPay X Y c s) := by
  unfold dmaPay; (repeat' split) <;> infer_instance

/-- Whether a cell is one of the transfers' (and not a barrier). -/
abbrev isBar : SemLoc sig → Bool
  | .reg _ => true
  | .dma _ => false

/-- The exchange's rounds. -/
def Rd : Rounds.Schedule (GSem nD τ sig) (Fin 4) 𝕄 where
  duties g r := if r = 0 then (if isBar g.2 then Finset.univ else {0}) else ∅
  unitless _ := False
  amount g _ _ := if isBar g.2 then 1 else N
  payload g _ k := if isBar g.2 then barPay g.1.1 k else dmaPay X Y g.1.1 g.2
  amount_pos g _ _ _ := by
    split
    · exact Nat.one_pos
    · exact N_pos

instance Rd_payload_storable (g : GSem nD τ sig) (r : ℕ) (d : Fin 4) :
    BI.Storable (upEmb : UEmb _ 𝕄) ((Rd X Y).payload g r d) := by
  show BI.Storable upEmb (if isBar g.2 then barPay g.1.1 d else dmaPay X Y g.1.1 g.2)
  split <;> infer_instance

section Tables
variable (c : Dev nD) (b : Bool) (i : Copy)

theorem isBar_osem (k : Bool × Copy) : isBar (osem k) = false := by obtain ⟨b, i⟩ := k; cases b <;> rfl

theorem duties_bar : (Rd X Y).duties (barCell c) 0 = Finset.univ := rfl
theorem duties_dma : (Rd X Y).duties (kcell (c, some (b, i))) 0 = {0} := by cases b <;> rfl
theorem duties_later (g : GSem nD τ sig) : ∀ r, 1 ≤ r → (Rd X Y).duties g r = ∅ := fun r hr => if_neg (by omega)
theorem amount_bar (d : Fin 4) : (Rd X Y).amount (barCell c) 0 d = 1 := rfl
theorem amount_dma (d : Fin 4) : (Rd X Y).amount (kcell (c, some (b, i))) 0 d = N := by cases b <;> rfl
theorem expect_bar : (Rd X Y).expect (barCell c) 0 = 4 := by
  unfold Schedule.expect Schedule.amountOf
  rw [duties_bar, Finset.sum_congr rfl fun d _ => amount_bar X Y c d, Finset.sum_const]; rfl
theorem expect_dma : (Rd X Y).expect (kcell (c, some (b, i))) 0 = N := by
  unfold Schedule.expect Schedule.amountOf; rw [duties_dma, Finset.sum_singleton, amount_dma]
theorem payload_bar (d : Fin 4) : (Rd X Y).payload (barCell c) 0 d = barPay c d := rfl
theorem payload_recv (d : Fin 4) : (Rd X Y).payload (recvCell c i) 0 d = landed X Y c i := dmaPay_recv X Y c i
theorem payload_send (d : Fin 4) : (Rd X Y).payload (sendCell c i) 0 d = source X Y c i := dmaPay_send X Y c i

/-- After the barrier every landing slot of the device's own copies is in hand. -/
theorem rest_bar : bigSep ((Rd X Y).duties (barCell c) 0 \ ∅) (fun d => (Rd X Y).payload (barCell c) 0 d)
    ⊢ bigSep Finset.univ fun i : Copy => (slotAny (i.dst c) i : sProp 𝕄) := by
  rw [Finset.sdiff_empty, duties_bar]
  rw [bigSep_fiberwise Finset.univ grp, show Finset.univ.image grp = Finset.univ from by decide]
  refine bigSep_mono fun k _ => ?_
  rw [payload_bar]
  unfold barPay
  refine bigSep_mono fun i hi => ?_
  rw [dst_nbr, (Finset.mem_filter.mp hi).2]
  exact BI.Entails.refl _
theorem rest_send : bigSep ((Rd X Y).duties (sendCell c i) 0 \ ∅) (fun d => (Rd X Y).payload (sendCell c i) 0 d) = source X Y c i := by
  rw [Finset.sdiff_empty, duties_dma, bigSep_singleton, payload_send]
theorem rest_recv : bigSep ((Rd X Y).duties (recvCell c i) 0 \ ∅) (fun d => (Rd X Y).payload (recvCell c i) 0 d) = landed X Y c i := by
  rw [Finset.sdiff_empty, duties_dma, bigSep_singleton, payload_recv]

end Tables

/-! ## What a device owes, and the order of waiting -/

/-- The arrivals device `c` owes from its `n`-th copy on. -/
def dues (c : Dev nD) (n : ℕ) : CellTallies nD τ sig Unit :=
  ∑ i : Copy, if n ≤ rank c i then tallyAt (recvCell (i.dst c) i) () N else 0

theorem dues_step (c : Dev nD) (i : Copy) {n n' : ℕ} (hi : rank c i = n) (hn : n' = n + 1) :
    dues c n = dues c n' + tallyAt (recvCell (i.dst c) i) () N := by
  classical
  subst hn
  unfold dues
  rw [← Finset.sum_erase_add _ _ (Finset.mem_univ i), ← Finset.sum_erase_add _ _ (Finset.mem_univ i),
    if_pos (by omega), if_neg (by omega), add_zero]
  congr 1
  refine Finset.sum_congr rfl fun j hj => ?_
  have hne : rank c j ≠ n := fun h => (Finset.ne_of_mem_erase hj) (rank_inj c (h.trans hi.symm))
  by_cases hle : n ≤ rank c j
  · rw [if_pos hle, if_pos (by omega)]
  · rw [if_neg hle, if_neg (by omega)]

theorem dues_end (c : Dev nD) : dues c 124 = 0 := by
  unfold dues
  exact Finset.sum_eq_zero fun i _ => if_neg (by have := rank_lt c i; omega)

theorem dues_pos {c : Dev nD} {n : ℕ} {g : GSem nD τ sig} {u : Unit} (h : 0 < dues c n g u) :
    ∃ i : Copy, n ≤ rank c i ∧ g = recvCell (i.dst c) i := by
  unfold dues at h
  rw [Finset.sum_apply, Finsupp.finset_sum_apply] at h
  obtain ⟨i, -, hi⟩ := Finset.exists_ne_zero_of_sum_ne_zero (Nat.pos_iff_ne_zero.mp h)
  by_cases hle : n ≤ rank c i
  · refine ⟨i, hle, ?_⟩
    rw [if_pos hle, tallyAt_apply] at hi
    by_contra hg
    exact hi (if_neg fun h' => hg h'.1)
  · rw [if_neg hle] at hi
    exact absurd rfl hi

def L (g : GSem nD τ sig) : Finset Unit := if g.1.2 = .tc then {()} else ∅
open Classical in
/-- Barriers at 1, an arrival above its place in the order of copies, everything else at 0. -/
def lv (g : GSem nD τ sig) (_ : Unit) : ℕ :=
  if isBar g.2 then 1 else if h : ∃ i : Copy, g.2 = osem (true, i) then rank g.1.1 h.choose + 2 else 0

theorem lv_recv (c : Dev nD) (i : Copy) : lv (recvCell c i) () = rank c i + 2 := by
  have h : ∃ j : Copy, (recvCell c i).2 = osem (true, j) := ⟨i, rfl⟩
  have e : h.choose = i := (Prod.mk.inj (@osem_inj (true, i) (true, h.choose) h.choose_spec)).2.symm
  show (if isBar (recvCell c i).2 then 1 else if h : ∃ j : Copy, (recvCell c i).2 = osem (true, j) then rank c h.choose + 2 else 0) = _
  rw [if_neg (show ¬ (isBar (recvCell c i).2 = true) from Bool.false_ne_true), dif_pos h, e]
theorem lv_dst (c : Dev nD) (i : Copy) : lv (recvCell (i.dst c) i) () = rank c i + 2 := by rw [lv_recv, rank_dst]
theorem lv_other (c : Dev nD) (s : SemLoc sig) (hb : isBar s = false) (hs : ∀ i : Copy, s ≠ osem (true, i)) : lv ((c : Thread nD τ), s) () = 0 := by
  unfold lv
  rw [if_neg (by rw [hb]; decide), dif_neg (fun ⟨i, hi⟩ => hs i hi)]
theorem lv_bar (c : Dev nD) : lv (barCell c) () = 1 := rfl

theorem L_of_ne (g : GSem nD τ sig) (h : g.1.2 ≠ .tc) : L g = ∅ := if_neg h
theorem L_tc (c : Dev nD) (sm : SemLoc sig) : L ((c : Thread nD τ), sm) = {()} := if_pos rfl

/-- Below everything owed, a device may wait. -/
theorem mayWait_dues (c : Dev nD) (s : SemLoc sig) (n : ℕ) (hs : lv ((c : Thread nD τ), s) () < n + 2) :
    (levAts L lv : sProp 𝕄) ⊢ MayWait (c : Thread nD τ) s () (dues c n) :=
  MayOwe.of_cut (L := L) (lev := lv) (n + 1) (fun p hp => by rw [Finset.mem_singleton.mp hp, L_tc]; exact Finset.mem_singleton_self _)
    (fun g u hg => by obtain ⟨i, -, rfl⟩ := dues_pos hg; exact Finset.mem_singleton_self _)
    (fun p hp => by rw [Finset.mem_singleton.mp hp]; exact Nat.lt_succ_iff.mp hs)
    (fun g u hg => by
      obtain ⟨i, hi, rfl⟩ := dues_pos hg
      show n + 1 < lv (recvCell (i.dst c) i) ()
      rw [lv_dst]; omega)

theorem mayWait_recv (c : Dev nD) (i : Copy) (n : ℕ) (h : rank c i < n) :
    (levAts L lv : sProp 𝕄) ⊢ MayWait (c : Thread nD τ) (osem (true, i)) () (dues c n) :=
  mayWait_dues c _ n (by rw [show lv ((c : Thread nD τ), osem (true, i)) () = lv (recvCell c i) () from rfl, lv_recv]; omega)
theorem mayWait_send (c : Dev nD) (i : Copy) (n : ℕ) :
    (levAts L lv : sProp 𝕄) ⊢ MayWait (c : Thread nD τ) (osem (false, i)) () (dues c n) :=
  mayWait_dues c _ n (by
    rw [lv_other c _ rfl fun j h => absurd (Prod.mk.inj (osem_inj h)).1 (by decide)]; omega)
theorem mayWait_bar (c : Dev nD) : (levAts L lv : sProp 𝕄) ⊢ MayWait (c : Thread nD τ) (.reg barS) () (dues c 0) :=
  mayWait_dues c _ 0 (by rw [show lv ((c : Thread nD τ), .reg barS) () = 1 from rfl]; omega)

end Cert.KernelIdeal.Run
end
-- ==== Proof.Steps.lean ====
/-
One rule per step of the program: what the step needs of the device's resources and what it leaves.

Every rule has the form "resources, and from the resources left the rest of the program, prove the step
followed by the rest".
-/
module

public import proofs.«01_k».proof.Proof.Sched

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The weakest precondition of a program of device `c`. -/
abbrev Wp (c : Dev nD) (p : Pg F) (Q : PUnit → sProp 𝕄) : sProp 𝕄 :=
  wp frame (wpE (defs₀ (F := F)) 𝒱₀ (c : Thread nD τ) none) Set.univ p Q

variable (X : Dev nD → Vec F S1536x768 .f32) (Y : Dev nD → Vec F S768x1536 .f32)
variable (K : Dev nD × CIx → ℕ)

/-! ## The shared facts -/

/-- Every cell's invariant, and that its round has begun. -/
def recs : sProp 𝕄 := bigSep Finset.univ fun ck : Dev nD × CIx => iprop(cellInv ER (Rd X Y) (K ck) (kcell ck) ∗ reached ER (kcell ck) 0)
/-- The facts every step may use. -/
def ctx : sProp 𝕄 := iprop(recs X Y K ∗ levAts L lv)

instance recs_persistent : BI.Persistent (recs X Y K) := by unfold recs; infer_instance
instance ctx_persistent : BI.Persistent (ctx X Y K) := by unfold ctx; infer_instance

theorem recs_at (ck : Dev nD × CIx) : recs X Y K ⊢ iprop(cellInv ER (Rd X Y) (K ck) (kcell ck) ∗ reached ER (kcell ck) 0) :=
  bigSep_elim (Finset.mem_univ ck)

/-! ## A device's resources -/

/-- The arrivals still owed from the `n`-th copy on. -/
def Ow (c : Dev nD) (n : ℕ) : sProp 𝕄 := iprop(∃ W, owes (c : Thread nD τ) (dues c n) W)
/-- All that issuing a copy needs but the data. -/
def Tok (c : Dev nD) (i : Copy) : sProp 𝕄 :=
  iprop(atPos ER (sendCell c i) 0 ∅ 0 ∗ dutyTok ER (sendCell c i) 0 0 ∗ dutyTok ER (recvCell (i.dst c) i) 0 0 ∗ slotAny (i.dst c) i)
/-- A copy issued and not yet awaited. -/
def Fly (c : Dev nD) (i : Copy) : sProp 𝕄 := iprop(atPos ER (sendCell c i) 0 ∅ 0 ∗ cred (tallyAt (sendCell c i) () N))
/-- A copy whose reading has been awaited. -/
def Snt (c : Dev nD) (i : Copy) : sProp 𝕄 := atPos ER (sendCell c i) (0 + 1) ∅ 0
/-- An arrival not yet awaited. -/
def Rdy (c : Dev nD) (i : Copy) : sProp 𝕄 := iprop(atPos ER (recvCell c i) 0 ∅ 0 ∗ cred (tallyAt (recvCell c i) () N))
/-- An arrival awaited. -/
def Got (c : Dev nD) (i : Copy) : sProp 𝕄 := atPos ER (recvCell c i) (0 + 1) ∅ 0

/-! ## Copies -/

theorem wp_start (c : Dev nD) (i : Copy) {n n' : ℕ} (hn : rank c i = n) (hn' : n' = n + 1) (k : Pg F) (Q : PUnit → sProp 𝕄) :
    iprop(ctx X Y K ∗ Ow c n ∗ Tok c i ∗ source X Y c i ∗ ((Ow c n' ∗ Fly c i) -∗ Wp c k Q)) ⊢ Wp c (start c i k) Q := by
  unfold start sendTo ctx Ow Tok slotAny source
  iintro ⟨⟨#Hrec, #Hlev⟩, ⟨%W, HO⟩, ⟨Hat, HtS, HtR, ⟨%V, Hl⟩⟩, Hs, Hk⟩
  ihave Hs' := (show owns (c : Thread nD τ) i.src (shr i) (val X Y c i) ⊢ iprop(∃ f, ⌜i.src.view.read (Elt F) f = val X Y c i⌝ ∗ (i.src.view.loc (c : Thread nD τ) ↦[i.src.view.set]{shr i} f)) from BI.Entails.refl _) $$ Hs
  icases Hs' with ⟨%fs, %hfs, Hs⟩
  ihave Hl' := (show owns (i.dst c : Thread nD τ) i.land fullShare V ⊢ iprop(∃ f, ⌜i.land.view.read (Elt F) f = V⌝ ∗ (i.land.view.loc (i.dst c : Thread nD τ) ↦[i.land.view.set]{fullShare} f)) from BI.Entails.refl _) $$ Hl
  icases Hl' with ⟨%fd, -, Hl⟩
  ihave ⟨#HIs, #Hrs⟩ := (recs_at X Y K (c, some (false, i))) $$ Hrec
  ihave ⟨#HIr, #Hrr⟩ := (recs_at X Y K (i.dst c, some (true, i))) $$ Hrec
  iapply (Rounds.wp_send_pointsTo 𝒱₀ ER (Rd X Y) (c : Thread nD τ) none (c' := (i.dst c : Thread nD τ)) (src := i.src) (dst := i.land) (sS := .dma i.ssem) (sem := .dma i.rsem) (κ₁ := K (c, some (false, i))) (κ₂ := K (i.dst c, some (true, i)))
    (r₁ := 0) (r₂ := 0) (d₁ := 0) (d₂ := 0) (fd := fd)
    (by rw [duties_dma X Y c false i]; exact Finset.mem_singleton_self _) (by rw [duties_dma X Y (i.dst c) true i]; exact Finset.mem_singleton_self _)
    () () N (show i.land.view.amount (.dma i.rsem) = N from land_credit i) (amount_dma X Y c false i 0) (amount_dma X Y (i.dst c) true i 0) (dues c n') (dues_step c i hn hn') (W := W)
    (by
      rw [payload_send X Y c i]; unfold source owns
      iintro H; iexists fs; isplitr
      · ipureintro; exact hfs
      · iexact H)
    (by
      rw [payload_recv X Y (i.dst c) i]; unfold landed owns
      rw [i.from_dst]
      iintro H; iexists (i.land.view.write (Elt F) fd (i.src.view.read (Elt F) fs) Finset.univ); isplitr
      · ipureintro
        rw [View.read_write_univ, hfs]
      · iexact H)) $$ [HO HtS HtR Hs Hl]
  · isplitr; · iexact HIs
    isplitr; · iexact HIr
    isplitl [Hs]; · iexact Hs
    isplitl [Hl]; · iexact Hl
    isplitl [HO]; · iexact HO
    isplitl [HtS]; · iexact HtS
    isplitr; · iexact Hrs
    isplitl [HtR]; · iexact HtR
    iexact Hrr
  iintro ⟨Hc, HO⟩
  iapply Hk
  isplitl [HO]
  · iexists W; iexact HO
  · unfold Fly; isplitl [Hat]; · iexact Hat
    iexact Hc

theorem wp_waitRecv (c : Dev nD) (i : Copy) {n : ℕ} (hn : rank c i < n) (k : Pg F) (Q : PUnit → sProp 𝕄) :
    iprop(ctx X Y K ∗ Ow c n ∗ Rdy c i ∗ ((Ow c n ∗ Got c i ∗ landed X Y c i) -∗ Wp c k Q)) ⊢ Wp c (waitRecv i k) Q := by
  unfold waitRecv ctx Ow Rdy
  iintro ⟨⟨#Hrec, #Hlev⟩, ⟨%W, HO⟩, ⟨Hat, Hc⟩, Hk⟩
  ihave ⟨#HI, #Hr⟩ := (recs_at X Y K (c, some (true, i))) $$ Hrec
  iapply (Rounds.wp_wait_rest_token 𝒱₀ ER (Rd X Y) (c : Thread nD τ) none (κ := K (c, some (true, i)))
      (wpE_waitDma2_eq 𝒱₀ (c : Thread nD τ) none Set.univ) (Set.mem_univ _) () (O := dues c n) (W := W) (R := 0) (m := 0) (T := ∅)
      (by rw [show ((c : Thread nD τ), SemLoc.dma i.rsem) = recvCell c i from rfl, expect_dma X Y c true i, zero_add, land_credit i])) $$ [Hc HO Hat]
  · isplitr; · iexact HI
    isplitl [Hc]; · rw [land_credit i]; iexact Hc
    isplitl [HO]; · iexact HO
    isplitr; · iapply (mayWait_recv c i n hn); iexact Hlev
    iexact Hat
  iintro ⟨HO, Hat, -, Hpay⟩
  ihave Hp := (Entails.of_eq (rest_recv X Y c i)) $$ Hpay
  iapply Hk
  isplitl [HO]
  · iexists _; iexact HO
  isplitl [Hat]
  · unfold Got; iexact Hat
  · iexact Hp

theorem wp_waitSend (c : Dev nD) (i : Copy) {n : ℕ} (k : Pg F) (Q : PUnit → sProp 𝕄) :
    iprop(ctx X Y K ∗ Ow c n ∗ Fly c i ∗ ((Ow c n ∗ Snt c i ∗ source X Y c i) -∗ Wp c k Q)) ⊢ Wp c (waitSend i k) Q := by
  unfold waitSend ctx Ow Fly
  iintro ⟨⟨#Hrec, #Hlev⟩, ⟨%W, HO⟩, ⟨Hat, Hc⟩, Hk⟩
  ihave ⟨#HI, #Hr⟩ := (recs_at X Y K (c, some (false, i))) $$ Hrec
  iapply (Rounds.wp_wait_rest_token 𝒱₀ ER (Rd X Y) (c : Thread nD τ) none (κ := K (c, some (false, i)))
      (wpE_waitDma2_eq 𝒱₀ (c : Thread nD τ) none Set.univ) (Set.mem_univ _) () (O := dues c n) (W := W) (R := 0) (m := 0) (T := ∅)
      (by rw [show ((c : Thread nD τ), SemLoc.dma i.ssem) = sendCell c i from rfl, expect_dma X Y c false i, zero_add, src_credit i])) $$ [Hc HO Hat]
  · isplitr; · iexact HI
    isplitl [Hc]; · rw [src_credit i]; iexact Hc
    isplitl [HO]; · iexact HO
    isplitr; · iapply (mayWait_send c i n); iexact Hlev
    iexact Hat
  iintro ⟨HO, Hat, -, Hpay⟩
  ihave Hp := (Entails.of_eq (rest_send X Y c i)) $$ Hpay
  iapply Hk
  isplitl [HO]
  · iexists _; iexact HO
  isplitl [Hat]
  · unfold Snt; iexact Hat
  · iexact Hp

end Cert.KernelIdeal.Run
end
-- ==== Proof.Access.lean ====
/-
Loads and stores of arrays a device owns, wholly or by tiles, and the steps made of them.
-/
module

public import proofs.«01_k».proof.Proof.Steps

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Device `c` owns an array, reading `V`. -/
abbrev Own (c : Dev nD) {sp : Space} {s : Shape} {e : EltTy} (m : Memref sig .tc sp s e) (q : PosShare TreeShare) (V : Vec F s e) : sProp 𝕄 :=
  owns (c : Thread nD τ) m q V

theorem own_open (c : Dev nD) {sp : Space} {s : Shape} {e : EltTy} (m : Memref sig .tc sp s e) (q : PosShare TreeShare) (V : Vec F s e) :
    (Own c m q V : sProp 𝕄) ⊢ iprop(∃ f, ⌜m.view.read (Elt F) f = V⌝ ∗ (m.view.loc (c : Thread nD τ) ↦[m.view.set]{q} f)) := BI.Entails.refl _
theorem own_close (c : Dev nD) {sp : Space} {s : Shape} {e : EltTy} (m : Memref sig .tc sp s e) (q : PosShare TreeShare) (V : Vec F s e)
    (f : m.view.ty.Contents (Elt F)) (hf : m.view.read (Elt F) f = V) :
    (m.view.loc (c : Thread nD τ) ↦[m.view.set]{q} f : sProp 𝕄) ⊢ Own c m q V := by
  iintro H; unfold Own owns; iexists f; isplitr
  · ipureintro; exact hf
  · iexact H

/-! ## Loads and stores -/

section Access

variable (c : Dev nD) {s : Shape} {e : EltTy} (m : Memref sig .tc .vmem s e) (r : Rect s)

/-- Load part of an owned array. -/
theorem wp_ld {hl : m.view.LoadsAt r.toLoadRect} (k : (r.shape.Idx → Elt F e) → Pg F) (Q : PUnit → sProp 𝕄) (q : PosShare TreeShare) (V : Vec F s e) :
    iprop(Own c m q V ∗ (Own c m q V -∗ Wp c (k fun i => V (r.emb i)) Q)) ⊢ Wp c (.op (.load m r.toLoadRect hl) k) Q := by
  have hS : (m.access r).set ⊆ m.view.set := m.view.set_slice_subset r
  iintro ⟨H, Hk⟩
  ihave H' := (own_open c m q V) $$ H
  icases H' with ⟨%f, %hf, H⟩
  iapply (wp_load_rect 𝒱₀ (c : Thread nD τ) none Set.univ (m := m) (r := r) (hl := hl) (S := m.view.set) (q := q) (f := f) hS) $$ [H]
  · iexact H
  iintro H
  rw [show (m.access r).read (Elt F) f = fun i => V (r.emb i) from by rw [← hf]; rfl]
  iapply Hk
  iapply (own_close c m q V f hf); iexact H

/-- Load an owned slice through the array. -/
theorem wp_ld_slice {hl : m.view.LoadsAt r.toLoadRect} (hr : ∀ a, r.stride a = 1) (k : (r.shape.Idx → Elt F e) → Pg F) (Q : PUnit → sProp 𝕄) (q : PosShare TreeShare) (V : Vec F r.shape e) :
    iprop(Own c (m.slice r hr) q V ∗ (Own c (m.slice r hr) q V -∗ Wp c (k V) Q)) ⊢ Wp c (.op (.load m r.toLoadRect hl) k) Q := by
  iintro ⟨H, Hk⟩
  ihave H' := (own_open c (m.slice r hr) q V) $$ H
  icases H' with ⟨%f, %hf, H⟩
  iapply (wp_load_rect 𝒱₀ (c : Thread nD τ) none Set.univ (m := m) (r := r) (hl := hl) (S := (m.slice r hr).view.set) (q := q) (f := f) (Finset.Subset.refl _)) $$ [H]
  · iexact H
  iintro H
  rw [show (m.access r).read (Elt F) f = V from hf]
  iapply Hk
  iapply (own_close c (m.slice r hr) q V f hf); iexact H

/-- Load an owned slice, held as an array of lower rank, through the array. -/
theorem wp_ld_sq {hl : m.view.LoadsAt r.toLoadRect} (hr : ∀ a, r.stride a = 1) {s' : Shape} (hq : r.shape.Squeezes s') (k : (r.shape.Idx → Elt F e) → Pg F) (Q : PUnit → sProp 𝕄)
    (q : PosShare TreeShare) (V : Vec F s' e) :
    iprop(Own c ((m.slice r hr).squeeze s' hq) q V ∗ (Own c ((m.slice r hr).squeeze s' hq) q V -∗ Wp c (k fun i => V ((Shape.reshapeEquiv hq.numel_eq).symm i)) Q))
      ⊢ Wp c (.op (.load m r.toLoadRect hl) k) Q := by
  have hS : (m.access r).set ⊆ ((m.slice r hr).squeeze s' hq).view.set :=
    Finset.Subset.trans (Finset.Subset.refl _) (Eq.subset (View.set_reshape (v := (m.slice r hr).view) hq.numel_eq).symm)
  iintro ⟨H, Hk⟩
  ihave H' := (own_open c ((m.slice r hr).squeeze s' hq) q V) $$ H
  icases H' with ⟨%f, %hf, H⟩
  iapply (wp_load_rect 𝒱₀ (c : Thread nD τ) none Set.univ (m := m) (r := r) (hl := hl) (S := ((m.slice r hr).squeeze s' hq).view.set) (q := q) (f := f)
    hS) $$ [H]
  · iexact H
  iintro H
  rw [show (m.access r).read (Elt F) f = fun i => V ((Shape.reshapeEquiv hq.numel_eq).symm i) from by
    funext i
    rw [← hf]
    show _ = (m.access r).read (Elt F) f (Shape.reshapeEquiv hq.numel_eq ((Shape.reshapeEquiv hq.numel_eq).symm i))
    rw [Equiv.apply_symm_apply]]
  iapply Hk
  iapply (own_close c ((m.slice r hr).squeeze s' hq) q V f hf); iexact H

/-- Overwrite an owned slice through the array. -/
theorem wp_st_slice {w : r.shape.Idx → Elt F e} {hx : (m.access r).Stores Finset.univ} {hm : (Finset.univ : Finset r.shape.Idx) = Finset.univ ∨ ∀ a, r.stride a = 1}
    (hr : ∀ a, r.stride a = 1) (k : PUnit → Pg F) (Q : PUnit → sProp 𝕄) (V : Vec F r.shape e) :
    iprop(Own c (m.slice r hr) fullShare V ∗ (Own c (m.slice r hr) fullShare w -∗ Wp c (k ⟨⟩) Q)) ⊢ Wp c (.op (.store m r w Finset.univ hx hm) k) Q := by
  iintro ⟨H, Hk⟩
  ihave H' := (own_open c (m.slice r hr) fullShare V) $$ H
  icases H' with ⟨%f, %hf, H⟩
  iapply (wp_store 𝒱₀ (c : Thread nD τ) none Set.univ (m := m) (r := r) (w := w) (Mk := Finset.univ) (hx := hx) (hm := hm) (S := (m.slice r hr).view.set) (f := f) (Finset.Subset.refl _)) $$ [H]
  · iexact H
  iintro H
  iapply Hk
  iapply (own_close c (m.slice r hr) fullShare w _ (View.read_write_univ (v := (m.slice r hr).view) _ _)); iexact H

/-- Overwrite part of an owned array. -/
theorem wp_st {w : r.shape.Idx → Elt F e} {hx : (m.access r).Stores Finset.univ} {hm : (Finset.univ : Finset r.shape.Idx) = Finset.univ ∨ ∀ a, r.stride a = 1}
    (k : PUnit → Pg F) (Q : PUnit → sProp 𝕄) (V : Vec F s e) :
    iprop(Own c m fullShare V ∗ (Own c m fullShare (r.overlay V w) -∗ Wp c (k ⟨⟩) Q)) ⊢ Wp c (.op (.store m r w Finset.univ hx hm) k) Q := by
  iintro ⟨H, Hk⟩
  ihave H' := (own_open c m fullShare V) $$ H
  icases H' with ⟨%f, %hf, H⟩
  iapply (wp_store 𝒱₀ (c : Thread nD τ) none Set.univ (m := m) (r := r) (w := w) (Mk := Finset.univ) (hx := hx) (hm := hm) (S := m.view.set) (f := f) (View.set_slice_subset _ _)) $$ [H]
  · iexact H
  iintro H
  iapply Hk
  iapply (own_close c m fullShare (r.overlay V w) ((m.access r).write (Elt F) f w Finset.univ) (by
    funext x
    by_cases hx : x ∈ r.set
    · rw [← Rect.map_emb_univ, Finset.mem_map] at hx
      obtain ⟨j, -, rfl⟩ := hx
      rw [Rect.overlay_emb]
      exact congrFun (View.read_write_univ (v := m.access r) f w) j
    · rw [Rect.overlay_of_not_mem _ _ _ hx, ← hf]
      exact m.view.read_slice_write_of_not_mem r f w Finset.univ (by rw [Rect.map_emb_univ]; exact hx))); iexact H

end Access

end Cert.KernelIdeal.Run
end
-- ==== Proof.Pool.lean ====
/-
The state of the exchange on one device, as three counters: copies issued, arrivals awaited, sends awaited.
-/
module

public import proofs.«01_k».proof.Proof.Access

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families indexed by an order -/

section Order

variable {α : Type} [Fintype α] [DecidableEq α] (ρ : α → ℕ)

/-- The members from place `n` on. -/
def Hi (Φ : α → sProp 𝕄) (n : ℕ) : sProp 𝕄 := bigSep (Finset.univ.filter fun i => n ≤ ρ i) Φ
/-- The members before place `n`. -/
def Lo (Φ : α → sProp 𝕄) (n : ℕ) : sProp 𝕄 := bigSep (Finset.univ.filter fun i => ρ i < n) Φ

variable {ρ}

theorem Hi_take (Φ : α → sProp 𝕄) (hρ : Function.Injective ρ) (i : α) {n n' : ℕ} (hi : ρ i = n) (hn : n' = n + 1) : Hi ρ Φ n ⊢ iprop(Φ i ∗ Hi ρ Φ n') := by
  subst hn
  unfold Hi
  rw [show (Finset.univ.filter fun j => n ≤ ρ j) = insert i (Finset.univ.filter fun j => n + 1 ≤ ρ j) from by
    ext j
    simp only [Finset.mem_filter, Finset.mem_univ, true_and, Finset.mem_insert]
    constructor
    · intro h
      rcases Nat.lt_or_ge n (ρ j) with h' | h'
      · exact Or.inr h'
      · exact Or.inl (hρ (by omega))
    · rintro (rfl | h) <;> omega]
  rw [bigSep_insert (by simp only [Finset.mem_filter, Finset.mem_univ, true_and]; omega)]
  exact BI.Entails.refl _

theorem Lo_put (Φ : α → sProp 𝕄) (hρ : Function.Injective ρ) (i : α) {n n' : ℕ} (hi : ρ i = n) (hn : n' = n + 1) : iprop(Φ i ∗ Lo ρ Φ n) ⊢ Lo ρ Φ n' := by
  subst hn
  unfold Lo
  rw [show (Finset.univ.filter fun j => ρ j < n + 1) = insert i (Finset.univ.filter fun j => ρ j < n) from by
    ext j
    simp only [Finset.mem_filter, Finset.mem_univ, true_and, Finset.mem_insert]
    constructor
    · intro h
      rcases Nat.lt_or_ge (ρ j) n with h' | h'
      · exact Or.inr h'
      · exact Or.inl (hρ (by omega))
    · rintro (rfl | h) <;> omega]
  rw [bigSep_insert (by simp only [Finset.mem_filter, Finset.mem_univ, true_and]; omega)]
  exact BI.Entails.refl _

variable (ρ)

theorem Hi_zero (Φ : α → sProp 𝕄) : Hi ρ Φ 0 = bigSep Finset.univ Φ := by
  unfold Hi; rw [Finset.filter_true_of_mem fun _ _ => Nat.zero_le _]
theorem Lo_top (Φ : α → sProp 𝕄) {n : ℕ} (h : ∀ i, ρ i < n) : Lo ρ Φ n = bigSep Finset.univ Φ := by
  unfold Lo; rw [Finset.filter_true_of_mem fun i _ => h i]
theorem Lo_zero (Φ : α → sProp 𝕄) : Lo ρ Φ 0 = iprop(emp) := by
  unfold Lo; rw [Finset.filter_false_of_mem fun i _ => Nat.not_lt_zero _]; exact bigSep_empty

end Order

/-! ## The order of waiting -/

/-- The place of a copy in the order in which arrivals are awaited (and, as far as they are, sends). -/
def pos : Copy → ℕ
  | .p1 h s u => 8 * s.val + 2 * u.val + hN h
  | .p2a h t => 56 + 2 * t.val + hN h
  | .p2b h t => 62 + 2 * t.val + hN h
  | .p3 h t u => 68 + 8 * t.val + 2 * u.val + hN h
theorem pos_inj : Function.Injective pos := by decide +kernel
theorem pos_lt (i : Copy) : pos i < 124 := by revert i; decide +kernel

/-- The place of a lane. -/
def laneNo (p : Fin 4 × Bool) : ℕ := 2 * p.1.val + hN p.2
theorem laneNo_inj : Function.Injective laneNo := by decide
theorem laneNo_lt (p : Fin 4 × Bool) : laneNo p < 8 := by revert p; decide
theorem hN_inj : Function.Injective (fun h : Bool => hN h) := by decide
theorem hN_lt (h : Bool) : hN h < 2 := by revert h; decide

variable (X : Dev nD → Vec F S1536x768 .f32) (Y : Dev nD → Vec F S768x1536 .f32)
variable (K : Dev nD × CIx → ℕ)

/-! ## The state of the exchange on one device -/

/-- The copies issued and not yet awaited, when `n` are issued and `b` awaited. -/
def Mid (c : Dev nD) (n b : ℕ) : sProp 𝕄 := bigSep (Finset.univ.filter fun i => rank c i < n ∧ b ≤ pos i) (Fly (F := F) c)

theorem Mid_put (c : Dev nD) (i : Copy) {n n' b : ℕ} (hi : rank c i = n) (hn : n' = n + 1) (hb : b ≤ pos i) : iprop(Fly (F := F) c i ∗ Mid c n b) ⊢ Mid c n' b := by
  subst hn
  unfold Mid
  rw [show (Finset.univ.filter fun j => rank c j < n + 1 ∧ b ≤ pos j) = insert i (Finset.univ.filter fun j => rank c j < n ∧ b ≤ pos j) from by
    ext j
    simp only [Finset.mem_filter, Finset.mem_univ, true_and, Finset.mem_insert]
    constructor
    · rintro ⟨h, hb'⟩
      rcases Nat.lt_or_ge (rank c j) n with h' | h'
      · exact Or.inr ⟨h', hb'⟩
      · exact Or.inl (rank_inj c (by omega))
    · rintro (rfl | ⟨h, h'⟩)
      · exact ⟨by omega, hb⟩
      · exact ⟨by omega, h'⟩]
  rw [bigSep_insert (by simp only [Finset.mem_filter, Finset.mem_univ, true_and]; omega)]
  exact BI.Entails.refl _

theorem Mid_take (c : Dev nD) (i : Copy) {n b b' : ℕ} (hi : rank c i < n) (hb : pos i = b) (hb' : b' = b + 1) : Mid (F := F) c n b ⊢ iprop(Fly c i ∗ Mid c n b') := by
  subst hb'
  unfold Mid
  rw [show (Finset.univ.filter fun j => rank c j < n ∧ b ≤ pos j) = insert i (Finset.univ.filter fun j => rank c j < n ∧ b + 1 ≤ pos j) from by
    ext j
    simp only [Finset.mem_filter, Finset.mem_univ, true_and, Finset.mem_insert]
    constructor
    · rintro ⟨h, h'⟩
      rcases Nat.lt_or_ge b (pos j) with h'' | h''
      · exact Or.inr ⟨h, h''⟩
      · exact Or.inl (pos_inj (by omega))
    · rintro (rfl | ⟨h, h'⟩)
      · exact ⟨hi, by omega⟩
      · exact ⟨h, by omega⟩]
  rw [bigSep_insert (by simp only [Finset.mem_filter, Finset.mem_univ, true_and]; omega)]
  exact BI.Entails.refl _

/-- `n` copies issued, `a` arrivals and `b` sends awaited. -/
def Pool (c : Dev nD) (n a b : ℕ) : sProp 𝕄 :=
  iprop(ctx X Y K ∗ Ow c n ∗ Hi (rank c) (Tok c) n ∗ Mid c n b ∗ Lo pos (Snt c) b ∗ Hi pos (Rdy c) a ∗ Lo pos (Got c) a)

theorem pool_start (c : Dev nD) (i : Copy) {n n' a b : ℕ} (hn : rank c i = n) (hn' : n' = n + 1) (hb : b ≤ pos i) (k : Pg F) (Q : PUnit → sProp 𝕄) :
    iprop(Pool X Y K c n a b ∗ source X Y c i ∗ (Pool X Y K c n' a b -∗ Wp c k Q)) ⊢ Wp c (start c i k) Q := by
  unfold Pool
  iintro ⟨⟨#Hctx, HO, HT, HM, HS, HR, HG⟩, Hs, Hk⟩
  ihave ⟨Ht, HT⟩ := (Hi_take (Tok c) (rank_inj c) i hn hn') $$ HT
  iapply (wp_start X Y K c i hn hn' k Q)
  isplitr; · iexact Hctx
  isplitl [HO]; · iexact HO
  isplitl [Ht]; · iexact Ht
  isplitl [Hs]; · iexact Hs
  iintro ⟨HO, HF⟩
  iapply Hk
  isplitr; · iexact Hctx
  isplitl [HO]; · iexact HO
  isplitl [HT]; · iexact HT
  isplitl [HF HM]
  · iapply (Mid_put c i hn hn' hb)
    isplitl [HF]; · iexact HF
    iexact HM
  isplitl [HS]; · iexact HS
  isplitl [HR]; · iexact HR
  iexact HG

theorem pool_recv (c : Dev nD) (i : Copy) {n a a' b : ℕ} (hn : rank c i < n) (ha : pos i = a) (ha' : a' = a + 1) (k : Pg F) (Q : PUnit → sProp 𝕄) :
    iprop(Pool X Y K c n a b ∗ ((Pool X Y K c n a' b ∗ landed X Y c i) -∗ Wp c k Q)) ⊢ Wp c (waitRecv i k) Q := by
  unfold Pool
  iintro ⟨⟨#Hctx, HO, HT, HM, HS, HR, HG⟩, Hk⟩
  ihave ⟨Hr, HR⟩ := (Hi_take (Rdy c) pos_inj i ha ha') $$ HR
  iapply (wp_waitRecv X Y K c i hn k Q)
  isplitr; · iexact Hctx
  isplitl [HO]; · iexact HO
  isplitl [Hr]; · iexact Hr
  iintro ⟨HO, Hg, Hl⟩
  iapply Hk
  isplitr [Hl]
  · isplitr; · iexact Hctx
    isplitl [HO]; · iexact HO
    isplitl [HT]; · iexact HT
    isplitl [HM]; · iexact HM
    isplitl [HS]; · iexact HS
    isplitl [HR]; · iexact HR
    iapply (Lo_put (Got c) pos_inj i ha ha')
    isplitl [Hg]; · iexact Hg
    iexact HG
  · iexact Hl

theorem pool_send (c : Dev nD) (i : Copy) {n a b b' : ℕ} (hn : rank c i < n) (hb : pos i = b) (hb' : b' = b + 1) (k : Pg F) (Q : PUnit → sProp 𝕄) :
    iprop(Pool X Y K c n a b ∗ ((Pool X Y K c n a b' ∗ source X Y c i) -∗ Wp c k Q)) ⊢ Wp c (waitSend i k) Q := by
  unfold Pool
  iintro ⟨⟨#Hctx, HO, HT, HM, HS, HR, HG⟩, Hk⟩
  ihave ⟨Hf, HM⟩ := (Mid_take c i hn hb hb') $$ HM
  iapply (wp_waitSend X Y K c i k Q)
  isplitr; · iexact Hctx
  isplitl [HO]; · iexact HO
  isplitl [Hf]; · iexact Hf
  iintro ⟨HO, Hg, Hl⟩
  iapply Hk
  isplitr [Hl]
  · isplitr; · iexact Hctx
    isplitl [HO]; · iexact HO
    isplitl [HT]; · iexact HT
    isplitl [HM]; · iexact HM
    isplitl [Hg HS]
    · iapply (Lo_put (Snt c) pos_inj i hb hb')
      isplitl [Hg]; · iexact Hg
      iexact HS
    isplitl [HR]; · iexact HR
    iexact HG
  · iexact Hl

theorem pool_begin (c : Dev nD) :
    iprop(ctx X Y K ∗ Ow c 0 ∗ bigSep Finset.univ (Tok (F := F) c) ∗ bigSep Finset.univ (Rdy c)) ⊢ Pool X Y K c 0 0 0 := by
  unfold Pool Mid
  rw [Hi_zero, Hi_zero, Lo_zero, Lo_zero, Finset.filter_false_of_mem fun i _ h => Nat.not_lt_zero _ h.1, bigSep_empty]
  iintro ⟨H, HO, HT, HR⟩
  isplitl [H]; · iexact H
  isplitl [HO]; · iexact HO
  isplitl [HT]; · iexact HT
  isplitr; · iempintro
  isplitr; · iempintro
  isplitl [HR]; · iexact HR
  iempintro

theorem pool_end (c : Dev nD) :
    Pool X Y K c 124 124 124 ⊢ iprop(ctx X Y K ∗ Ow (F := F) c 124 ∗ bigSep Finset.univ (Snt c) ∗ bigSep Finset.univ (Got c)) := by
  unfold Pool
  rw [Lo_top pos _ pos_lt, Lo_top pos _ pos_lt]
  iintro ⟨H, HO, -, -, HS, -, HG⟩
  isplitl [H]; · iexact H
  isplitl [HO]; · iexact HO
  isplitl [HS]; · iexact HS
  iexact HG

/-! ## Loops over the lanes and the directions -/

theorem wp_lanes (c : Dev nD) (I : ℕ → sProp 𝕄) (f : Fin 4 × Bool → Pg F → Pg F) (Q : PUnit → sProp 𝕄)
    (H : ∀ (u : Fin 4) (h : Bool) (m : ℕ), m = laneNo (u, h) → ∀ k, iprop(I m ∗ (I (m + 1) -∗ Wp c k Q)) ⊢ Wp c (f (u, h) k) Q) (k : Pg F) :
    iprop(I 0 ∗ (I 8 -∗ Wp c k Q)) ⊢ Wp c (each lanes f k) Q := by
  have step (u : Fin 4) (h : Bool) (m : ℕ) (hm : m = laneNo (u, h)) (l : List (Fin 4 × Bool)) (R : sProp 𝕄)
      (hl : iprop(I (m + 1) ∗ R) ⊢ Wp c (each l f k) Q) : iprop(I m ∗ R) ⊢ Wp c (each ((u, h) :: l) f k) Q := by
    iintro ⟨HI, HR⟩
    iapply (H u h m hm (each l f k))
    isplitl [HI]; · iexact HI
    iintro HI
    iapply hl
    isplitl [HI]; · iexact HI
    iexact HR
  refine step 0 false 0 rfl _ _ <| step 0 true 1 rfl _ _ <| step 1 false 2 rfl _ _ <| step 1 true 3 rfl _ _ <|
    step 2 false 4 rfl _ _ <| step 2 true 5 rfl _ _ <| step 3 false 6 rfl _ _ <| step 3 true 7 rfl _ _ ?_
  iintro ⟨HI, Hk⟩
  iapply Hk; iexact HI

theorem wp_dirs (c : Dev nD) (I : ℕ → sProp 𝕄) (f : Bool → Pg F → Pg F) (Q : PUnit → sProp 𝕄)
    (H : ∀ (h : Bool) (m : ℕ), m = hN h → ∀ k, iprop(I m ∗ (I (m + 1) -∗ Wp c k Q)) ⊢ Wp c (f h k) Q) (k : Pg F) :
    iprop(I 0 ∗ (I 2 -∗ Wp c k Q)) ⊢ Wp c (each dirs f k) Q := by
  have step (h : Bool) (m : ℕ) (hm : m = hN h) (l : List Bool) (R : sProp 𝕄)
      (hl : iprop(I (m + 1) ∗ R) ⊢ Wp c (each l f k) Q) : iprop(I m ∗ R) ⊢ Wp c (each (h :: l) f k) Q := by
    iintro ⟨HI, HR⟩
    iapply (H h m hm (each l f k))
    isplitl [HI]; · iexact HI
    iintro HI
    iapply hl
    isplitl [HI]; · iexact HI
    iexact HR
  refine step false 0 rfl _ _ <| step true 1 rfl _ _ ?_
  iintro ⟨HI, Hk⟩
  iapply Hk; iexact HI

end Cert.KernelIdeal.Run
end
-- ==== Proof.Out.lean ====
/-
The result array and the staging buffers: what loads and stores do to what is known of them.
-/
module

public import proofs.«01_k».proof.Proof.Access

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Rectangles that are everything -/

theorem emb_all {s : Shape} (off : Fin s.rank → ℕ) (h0 : ∀ a, off a = 0) (inb : ∀ a, off a + s.size a ≤ s.size a) (i : s.Idx) :
    (Rect.unit (s := s) off s.size inb).emb i = i := by
  funext a; apply Fin.ext
  show off a + 1 * (i a).val = (i a).val
  rw [h0 a]; omega
theorem overlay_all {s : Shape} {α : Type} (off : Fin s.rank → ℕ) (h0 : ∀ a, off a = 0) (inb : ∀ a, off a + s.size a ≤ s.size a) (V w : s.Idx → α) :
    (Rect.unit (s := s) off s.size inb).overlay V w = w := by
  funext i
  have := Rect.overlay_emb (Rect.unit (s := s) off s.size inb) V w i
  rw [emb_all off h0 inb i] at this
  exact this
theorem off00 : ∀ a : Fin 2, (![0, 0] : Fin 2 → ℕ) a = 0 := by decide

/-! ## Tiles, halves and blocks of the result -/

/-- A tile of an array of the result's shape. -/
def tile (f : Vec F S1536x1536 .f32) (j : Fin 8) (u : Fin 4) (h : Bool) : Vec F S48x768 .f32 := fun i => f ((tRect j u h).emb i)

theorem tile_st (f : Vec F S1536x1536 .f32) (j : Fin 8) (u : Fin 4) (h : Bool) (w : Vec F S48x768 .f32) : tile ((tRect j u h).overlay f w) j u h = w := by
  unfold tile
  funext i
  rw [Rect.overlay_emb]
theorem tile_st_ne (f : Vec F S1536x1536 .f32) (j j' : Fin 8) (u u' : Fin 4) (h h' : Bool) (w : Vec F S48x768 .f32) (hn : (j', u', h') ≠ (j, u, h)) :
    tile ((tRect j u h).overlay f w) j' u' h' = tile f j' u' h' := by
  unfold tile
  funext i
  rw [Rect.overlay_of_not_mem]
  intro hm
  refine Finset.disjoint_left.mp (tRect_disj (j', u', h') (j, u, h) hn) ?_ hm
  rw [← Rect.map_emb_univ]
  exact Finset.mem_map_of_mem _ (Finset.mem_univ i)

theorem cRect_emb (j : Fin 8) (u : Fin 4) (h : Bool) (i : S48x768.Idx) : (oRect j).emb ((cRect u h).emb i) = (tRect j u h).emb i := by
  funext a; apply Fin.ext
  fin_cases a
  · show 192 * j.val + 1 * (48 * u.val + 1 * (i 0).val) = 192 * j.val + 48 * u.val + 1 * (i 0).val; omega
  · show 0 + 1 * ((if h then 768 else 0) + 1 * (i 1).val) = (if h then 768 else 0) + 1 * (i 1).val; omega
theorem dRect_emb (j : Fin 8) (h : Bool) (i : S192x768.Idx) : (oRect j).emb ((dRect h).emb i) = (hRect j h).emb i := by
  funext a; apply Fin.ext
  fin_cases a
  · show 192 * j.val + 1 * (0 + 1 * (i 0).val) = 192 * j.val + 1 * (i 0).val; omega
  · show 0 + 1 * ((if h then 768 else 0) + 1 * (i 1).val) = (if h then 768 else 0) + 1 * (i 1).val; omega
theorem oRect_disj (j j' : Fin 8) (hj : j ≠ j') : Disjoint (oRect j).set (oRect j').set := by
  rw [Finset.disjoint_left]
  intro x hx hx'
  rw [LoadRect.mem_set] at hx hx'
  obtain ⟨a, ha, e0⟩ := hx 0
  obtain ⟨a', ha', e0'⟩ := hx' 0
  have ka : a < 192 := ha
  have ka' : a' < 192 := ha'
  have f0 : (x 0).val = 192 * j.val + 1 * a := e0
  have f0' : (x 0).val = 192 * j'.val + 1 * a' := e0'
  exact hj (Fin.ext (by omega))

/-! ## The result under a description -/

/-- The device's result array, of which `P` is known. -/
def OutI (c : Dev nD) (P : Vec F S1536x1536 .f32 → Prop) : sProp 𝕄 := iprop(∃ f, ⌜P f⌝ ∗ Own c oM fullShare f)

section Rules

variable (c : Dev nD) {P : Vec F S1536x1536 .f32 → Prop}

theorem out_weaken {P' : Vec F S1536x1536 .f32 → Prop} (h : ∀ f, P f → P' f) : OutI c P ⊢ OutI c P' := by
  unfold OutI
  iintro ⟨%f, %hf, H⟩; iexists f; isplitr
  · ipureintro; exact h f hf
  · iexact H

theorem out_ld {off : Fin 2 → ℕ} {inb : ∀ a, off a + S48x768.size a ≤ S1536x1536.size a} {j : Fin 8} {u : Fin 4} {h : Bool} (ho : off = tOff j u h)
    {v : Vec F S48x768 .f32} (hv : ∀ f, P f → tile f j u h = v) (k : Vec F S48x768 .f32 → Pg F) (Q : PUnit → sProp 𝕄) :
    iprop(OutI c P ∗ (OutI c P -∗ Wp c (k v) Q)) ⊢ Wp c (ldOut off inb k) Q := by
  subst ho
  unfold OutI ldOut
  iintro ⟨⟨%f, %hf, H⟩, Hk⟩
  iapply (wp_ld c oM _ k Q fullShare f)
  rw [show (fun i => f ((Rect.unit (s := S1536x1536) (tOff j u h) S48x768.size inb).emb i)) = v from hv f hf]
  isplitl [H]; · iexact H
  iintro H
  iapply Hk
  iexists f; isplitr
  · ipureintro; exact hf
  · iexact H

theorem out_ld_any {off : Fin 2 → ℕ} {inb : ∀ a, off a + S48x768.size a ≤ S1536x1536.size a} (k : Pg F) (Q : PUnit → sProp 𝕄) :
    iprop(OutI c P ∗ (OutI c P -∗ Wp c k Q)) ⊢ Wp c (ldOut off inb fun _ => k) Q := by
  unfold OutI ldOut
  iintro ⟨⟨%f, %hf, H⟩, Hk⟩
  iapply (wp_ld c oM _ (fun _ => k) Q fullShare f)
  isplitl [H]; · iexact H
  iintro H
  iapply Hk
  iexists f; isplitr
  · ipureintro; exact hf
  · iexact H

theorem out_st {off : Fin 2 → ℕ} {inb : ∀ a, off a + S48x768.size a ≤ S1536x1536.size a} {j : Fin 8} {u : Fin 4} {h : Bool} (ho : off = tOff j u h)
    {w : Vec F S48x768 .f32} {P' : Vec F S1536x1536 .f32 → Prop} (hP : ∀ f, P f → P' ((tRect j u h).overlay f w)) (k : Pg F) (Q : PUnit → sProp 𝕄) :
    iprop(OutI c P ∗ (OutI c P' -∗ Wp c k Q)) ⊢ Wp c (stOut off inb w k) Q := by
  subst ho
  unfold OutI stOut
  iintro ⟨⟨%f, %hf, H⟩, Hk⟩
  iapply (wp_st c oM _ (fun _ => k) Q f)
  isplitl [H]; · iexact H
  iintro H
  iapply Hk
  iexists ((tRect j u h).overlay f w); isplitr
  · ipureintro; exact hP f hf
  · iexact H

theorem out_relu {off : Fin 2 → ℕ} {inb : ∀ a, off a + S192x768.size a ≤ S1536x1536.size a} {j : Fin 8} {h : Bool} (ho : off = hOff j h) (f : Vec F S1536x1536 .f32) (k : Pg F) (Q : PUnit → sProp 𝕄) :
    iprop(Own c oM fullShare f ∗ (Own c oM fullShare ((hRect j h).overlay f (k0_pay183 fun i => f ((hRect j h).emb i))) -∗ Wp c k Q)) ⊢ Wp c (reluBlk off inb k) Q := by
  subst ho
  unfold reluBlk ldBlk
  iintro ⟨H, Hk⟩
  iapply (wp_ld c oM _ _ Q fullShare f)
  isplitl [H]; · iexact H
  iintro H
  iapply (wp_ld c oM _ _ Q fullShare f)
  isplitl [H]; · iexact H
  iintro H
  iapply (wp_st c oM _ (fun _ => k) Q f)
  isplitl [H]; · iexact H
  iexact Hk

end Rules

/-! ## Filling the staging buffers -/

section Fill

variable (c : Dev nD)

/-- A staging array at any contents. -/
abbrev OwnAny {s : Shape} {e : EltTy} (m : Memref sig .tc .vmem s e) : sProp 𝕄 := iprop(∃ V : Vec F s e, Own c m fullShare V)

theorem fill_stage {m : Memref sig .tc .vmem S48x768 .bf16} {hm : m.IsWhole} {v : Vec F S48x768 .bf16} (k : Pg F) (Q : PUnit → sProp 𝕄) :
    iprop(OwnAny c m ∗ (Own c m fullShare v -∗ Wp c k Q)) ⊢ Wp c (fillStage m hm v k) Q := by
  unfold fillStage
  iintro ⟨⟨%V, H⟩, Hk⟩
  iapply (wp_ld c m _ _ Q fullShare V)
  isplitl [H]; · iexact H
  iintro H
  iapply (wp_st c m _ (fun _ => k) Q V)
  isplitl [H]; · iexact H
  rw [overlay_all (s := S48x768) ![0, 0] off00 _ V v]
  iexact Hk

theorem fill_block {m : Memref sig .tc .vmem S192x768 .bf16} {hm : m.IsWhole} {v : Vec F S192x768 .bf16} (k : Pg F) (Q : PUnit → sProp 𝕄) :
    iprop(OwnAny c m ∗ (Own c m fullShare v -∗ Wp c k Q)) ⊢ Wp c (fillBlock m hm v k) Q := by
  unfold fillBlock
  iintro ⟨⟨%V, H⟩, Hk⟩
  iapply (wp_ld c m _ _ Q fullShare V)
  isplitl [H]; · iexact H
  iintro H
  iapply (wp_st c m _ (fun _ => k) Q V)
  isplitl [H]; · iexact H
  rw [overlay_all (s := S192x768) ![0, 0] off00 _ V v]
  iexact Hk

theorem fill_unit {m : Memref sig .tc .vmem S192x768 .bf16} {hm : m.IsWhole} {off : Fin 2 → ℕ} {inb : ∀ a, off a + S48x768.size a ≤ S192x768.size a}
    {hp : (Rect.unit (s := S192x768) off S48x768.size inb).PackedRows (EltTy.packing .bf16)} {u : Fin 4} (ho : off = ![48 * u.val, 0])
    {v : Vec F S48x768 .bf16} (k : Pg F) (Q : PUnit → sProp 𝕄) :
    iprop(OwnAny c (unitM m u) ∗ (Own c (unitM m u) fullShare v -∗ Wp c k Q)) ⊢ Wp c (fillUnit m hm off inb hp v k) Q := by
  subst ho
  unfold fillUnit
  iintro ⟨⟨%V, H⟩, Hk⟩
  iapply (wp_ld_slice c m _ (fun _ => rfl) _ Q fullShare V)
  isplitl [H]; · iexact H
  iintro H
  iapply (wp_st_slice c m _ (fun _ => rfl) (fun _ => k) Q V)
  isplitl [H]; · iexact H
  iexact Hk

/-- Reading a slot of a row ring's landing array. -/
theorem ld_slot {m : Memref sig .tc .vmem S7x192x768 .bf16} {s : Fin 7} {u : Fin 4} (q : PosShare TreeShare) (V : Vec F S48x768 .bf16) (k : Vec F S1x48x768 .bf16 → Pg F) (Q : PUnit → sProp 𝕄) :
    iprop(Own c (slotM m s u) q V ∗ (Own c (slotM m s u) q V -∗ Wp c (k (unsq V)) Q)) ⊢ Wp c (ldSlot m s u k) Q :=
  wp_ld_sq c m (Rect.unit (s := S7x192x768) ![s.val, 48 * u.val, 0] S1x48x768.size (inbL s u)) (hl := View.loadsAt_vmem h_S1x48x768) (fun _ => rfl) squeezes_S1x48x768_S48x768 k Q q V
theorem ld_slot3 {m : Memref sig .tc .vmem S3x48x768 .bf16} {t : Fin 3} (q : PosShare TreeShare) (V : Vec F S48x768 .bf16) (k : Vec F S1x48x768 .bf16 → Pg F) (Q : PUnit → sProp 𝕄) :
    iprop(Own c (slot3M m t) q V ∗ (Own c (slot3M m t) q V -∗ Wp c (k (unsq V)) Q)) ⊢ Wp c (ldSlot3 m t k) Q :=
  wp_ld_sq c m (Rect.unit (s := S3x48x768) ![t.val, 0, 0] S1x48x768.size (inbT t)) (hl := View.loadsAt_vmem h_S1x48x768) (fun _ => rfl) squeezes_S1x48x768_S48x768 k Q q V

end Fill

/-! ## The partial product -/

variable (X : Dev nD → Vec F S1536x768 .f32) (Y : Dev nD → Vec F S768x1536 .f32)

/-- The blocks at the places in `E` hold the device's partial product. -/
def dotsP (c : Dev nD) (E : List (Fin 8)) (f : Vec F S1536x1536 .f32) : Prop := ∀ e ∈ E, ∀ i, f ((oRect (blkAt true c e)).emb i) = dotV X Y c (blkAt true c e) i

/-- A place counted along direction `h`, counted along the minus direction. -/
def eOf (h : Bool) (e : Fin 8) : Fin 8 := if h then e else -e
theorem blkAt_eOf (h : Bool) (c : Dev nD) (e : Fin 8) : blkAt h c e = blkAt true c (eOf h e) := by
  cases h
  · exact blkAt_false c e
  · rfl

theorem dotsP_tile (c : Dev nD) (E : List (Fin 8)) (f : Vec F S1536x1536 .f32) (hf : dotsP X Y c E f) (h : Bool) (e : Fin 8) (he : eOf h e ∈ E) (u : Fin 4) :
    tile f (blkAt h c e) u h = dotT X Y c (blkAt h c e) u h := by
  funext i
  rw [blkAt_eOf]
  show f _ = dotV X Y c _ _
  rw [← cRect_emb]
  exact hf _ he _
theorem dotsP_half (c : Dev nD) (E : List (Fin 8)) (f : Vec F S1536x1536 .f32) (hf : dotsP X Y c E f) (h : Bool) (e : Fin 8) (he : eOf h e ∈ E) :
    (fun i => f ((hRect (blkAt h c e) h).emb i)) = dotH X Y c (blkAt h c e) h := by
  funext i
  rw [blkAt_eOf]
  show f _ = dotV X Y c _ _
  rw [← dRect_emb]
  exact hf _ he _

theorem dotsP_add (c : Dev nD) (e : Fin 8) (E : List (Fin 8)) (f : Vec F S1536x1536 .f32) (hf : dotsP X Y c E f) :
    dotsP X Y c (e :: E) ((oRect (blkAt true c e)).overlay f (dotV X Y c (blkAt true c e))) := by
  intro e' he' i
  by_cases hee : e' = e
  · subst hee
    rw [Rect.overlay_emb]
  · rw [← hf e' ((List.mem_cons.mp he').resolve_left hee) i, Rect.overlay_of_not_mem]
    intro hm
    refine Finset.disjoint_left.mp (oRect_disj (blkAt true c e') (blkAt true c e) fun h => hee (blkAt_inj true c h)) ?_ hm
    rw [← Rect.map_emb_univ]
    exact Finset.mem_map_of_mem _ (Finset.mem_univ i)

theorem wp_dot (c : Dev nD) (e : Fin 8) (E : List (Fin 8)) {ao oo : Fin 2 → ℕ} {ai : ∀ a, ao a + S192x768.size a ≤ S1536x768.size a} {oi : ∀ a, oo a + S192x1536.size a ≤ S1536x1536.size a}
    (ho : ao = ![192 * (blkAt true c e).val, 0] ∧ oo = ![192 * (blkAt true c e).val, 0]) (k : Pg F) (Q : PUnit → sProp 𝕄) :
    iprop((Own c aM fullShare (X c) ∗ Own c bbM fullShare (k0_pay1 (Y c)) ∗ OutI c (dotsP X Y c E))
      ∗ ((Own c aM fullShare (X c) ∗ Own c bbM fullShare (k0_pay1 (Y c)) ∗ OutI c (dotsP X Y c (e :: E))) -∗ Wp c k Q)) ⊢ Wp c (dot ao ai oo oi k) Q := by
  obtain ⟨rfl, rfl⟩ := ho
  unfold OutI dot
  iintro ⟨⟨HA, HB, ⟨%f, %hf, H⟩⟩, Hk⟩
  iapply (wp_ld c aM _ _ Q fullShare (X c))
  isplitl [HA]; · iexact HA
  iintro HA
  iapply (wp_ld c bbM _ _ Q fullShare (k0_pay1 (Y c)))
  isplitl [HB]; · iexact HB
  iintro HB
  iapply (wp_ld c oM _ _ Q fullShare f)
  isplitl [H]; · iexact H
  iintro H
  iapply (wp_st c oM _ (fun _ => k) Q f)
  isplitl [H]; · iexact H
  iintro H
  iapply Hk
  isplitl [HA]; · iexact HA
  isplitl [HB]; · iexact HB
  rw [show (fun i => k0_pay1 (Y c) ((Rect.unit (s := S768x1536) ![0, 0] S768x1536.size inb_S768x1536_S768x1536_0_0).emb i)) = k0_pay1 (Y c) from by
    funext i; rw [emb_all (s := S768x1536) ![0, 0] off00]]
  iexists ((oRect (blkAt true c e)).overlay f (dotV X Y c (blkAt true c e)))
  isplitr [H]
  · ipureintro
    exact dotsP_add X Y c e E f hf
  · iexact H

theorem wp_castB (c : Dev nD) (k : Pg F) (Q : PUnit → sProp 𝕄) :
    iprop((Own c bM fullShare (Y c) ∗ OwnAny c bbM) ∗ ((Own c bM fullShare (Y c) ∗ Own c bbM fullShare (k0_pay1 (Y c))) -∗ Wp c k Q)) ⊢ Wp c (castB k) Q := by
  unfold castB
  iintro ⟨⟨HB, ⟨%V, H⟩⟩, Hk⟩
  iapply (wp_ld c bM _ _ Q fullShare (Y c))
  isplitl [HB]; · iexact HB
  iintro HB
  iapply (wp_ld c bbM _ _ Q fullShare V)
  isplitl [H]; · iexact H
  iintro H
  iapply (wp_st c bbM _ (fun _ => k) Q V)
  isplitl [H]; · iexact H
  iintro H
  iapply Hk
  isplitl [HB]; · iexact HB
  rw [overlay_all (s := S768x1536) ![0, 0] off00 _ V _,
    show (fun i => Y c ((Rect.unit (s := S768x1536) ![0, 0] S768x1536.size inb_S768x1536_S768x1536_0_0).emb i)) = Y c from by
      funext i; rw [emb_all (s := S768x1536) ![0, 0] off00]]
  iexact H

end Cert.KernelIdeal.Run
end
-- ==== Proof.Ring1.lean ====
/-
The row-ring reduction: every lane's step, then the rounds.
-/
module

public import proofs.«01_k».proof.Proof.Pool
public import proofs.«01_k».proof.Proof.Out

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1536x768 .f32) (Y : Dev nD → Vec F S768x1536 .f32)
variable (K : Dev nD × CIx → ℕ)

/-! ## What a device keeps of what comes in and back -/

/-- The share of an arrived slot that stays with the device: half of it goes into forwarding. -/
def kshr : Copy → PosShare TreeShare
  | .p2b _ t => if t = 2 then fullShare else fullShare.right
  | .p3 _ t _ => if t = 6 then fullShare else fullShare.right
  | _ => fullShare
/-- What stays of an arrival. -/
def kept (c : Dev nD) (i : Copy) : sProp 𝕄 := Own c i.land (kshr i) (val X Y (i.from c) i)
/-- What comes back for good of a send: a staging unit filled again is not counted. -/
def back (c : Dev nD) (i : Copy) : sProp 𝕄 := match i with
  | .p1 h s u => if s = 6 then source X Y c (.p1 h s u) else iprop(emp)
  | .p2a h t => if t = 2 then source X Y c (.p2a h t) else iprop(emp)
  | .p2b h t => source X Y c (.p2b h t)
  | .p3 h t u => source X Y c (.p3 h t u)

/-- The exchange's state, with what was kept. -/
def St (c : Dev nD) (n a b : ℕ) : sProp 𝕄 := iprop(Pool X Y K c n a b ∗ Lo pos (kept X Y c) a ∗ Lo pos (back X Y c) b)

theorem rank_p1 (c : Dev nD) (h : Bool) (s : Fin 7) (u : Fin 4) : rank c (.p1 h s u) = 8 * s.val + 2 * u.val + hN h := rfl
theorem pos_p1 (h : Bool) (s : Fin 7) (u : Fin 4) : pos (.p1 h s u) = 8 * s.val + 2 * u.val + hN h := rfl
theorem laneNo_eq (u : Fin 4) (h : Bool) : laneNo (u, h) = 2 * u.val + hN h := rfl

theorem landed_p1 (c : Dev nD) (h : Bool) (s : Fin 7) (u : Fin 4) : landed X Y c (.p1 h s u) = Own c (slotM (l1M h) s u) fullShare (v1 X Y h u s.val (rowFr h c)) := rfl
theorem kept_p1 (c : Dev nD) (h : Bool) (s : Fin 7) (u : Fin 4) : kept X Y c (.p1 h s u) = Own c (slotM (l1M h) s u) fullShare (v1 X Y h u s.val (rowFr h c)) := rfl
theorem source_p1 (c : Dev nD) (h : Bool) (s : Fin 7) (u : Fin 4) : source X Y c (.p1 h s u) = Own c (unitM (s1M h) u) fullShare (v1 X Y h u s.val c) := rfl

theorem st_start (c : Dev nD) (i : Copy) {n n' a b : ℕ} (hn : rank c i = n) (hn' : n' = n + 1) (hb : b ≤ pos i) (k : Pg F) (Q : PUnit → sProp 𝕄) :
    iprop(St X Y K c n a b ∗ source X Y c i ∗ (St X Y K c n' a b -∗ Wp c k Q)) ⊢ Wp c (start c i k) Q := by
  unfold St
  iintro ⟨⟨HP, HK, HB⟩, Hs, Hk⟩
  iapply (pool_start X Y K c i hn hn' hb k Q)
  isplitl [HP]; · iexact HP
  isplitl [Hs]; · iexact Hs
  iintro HP
  iapply Hk
  isplitl [HP]; · iexact HP
  isplitl [HK]; · iexact HK
  iexact HB

/-- Await an arrival; what is kept of it may be read before it is put away. -/
theorem st_recv (c : Dev nD) (i : Copy) {n a a' b : ℕ} (hn : rank c i < n) (ha : pos i = a) (ha' : a' = a + 1) (k : Pg F) (Q : PUnit → sProp 𝕄) :
    iprop(St X Y K c n a b ∗ ((landed X Y c i ∗ (kept X Y c i -∗ St X Y K c n a' b)) -∗ Wp c k Q)) ⊢ Wp c (waitRecv i k) Q := by
  unfold St
  iintro ⟨⟨HP, HK, HB⟩, Hk⟩
  iapply (pool_recv X Y K c i hn ha ha' k Q)
  isplitl [HP]; · iexact HP
  iintro ⟨HP, Hl⟩
  iapply Hk
  isplitl [Hl]; · iexact Hl
  iintro Hl
  isplitl [HP]; · iexact HP
  isplitl [Hl HK]
  · iapply (Lo_put (kept X Y c) pos_inj i ha ha')
    isplitl [Hl]; · iexact Hl
    iexact HK
  iexact HB

/-- Await a send whose source is filled again. -/
theorem st_send (c : Dev nD) (i : Copy) {n a b b' : ℕ} (hn : rank c i < n) (hb : pos i = b) (hb' : b' = b + 1) (hk : back X Y c i = iprop(emp)) (k : Pg F) (Q : PUnit → sProp 𝕄) :
    iprop(St X Y K c n a b ∗ ((St X Y K c n a b' ∗ source X Y c i) -∗ Wp c k Q)) ⊢ Wp c (waitSend i k) Q := by
  unfold St
  iintro ⟨⟨HP, HK, HB⟩, Hk⟩
  iapply (pool_send X Y K c i hn hb hb' k Q)
  isplitl [HP]; · iexact HP
  iintro ⟨HP, Hs⟩
  iapply Hk
  isplitr [Hs]
  · isplitl [HP]; · iexact HP
    isplitl [HK]; · iexact HK
    iapply (Lo_put (back X Y c) pos_inj i hb hb')
    rw [hk]
    isplitr; · iempintro
    iexact HB
  · iexact Hs

/-- Await a send whose source comes back for good. -/
theorem st_send_back (c : Dev nD) (i : Copy) {n a b b' : ℕ} (hn : rank c i < n) (hb : pos i = b) (hb' : b' = b + 1) (hk : back X Y c i = source X Y c i) (k : Pg F) (Q : PUnit → sProp 𝕄) :
    iprop(St X Y K c n a b ∗ (St X Y K c n a b' -∗ Wp c k Q)) ⊢ Wp c (waitSend i k) Q := by
  unfold St
  iintro ⟨⟨HP, HK, HB⟩, Hk⟩
  iapply (pool_send X Y K c i hn hb hb' k Q)
  isplitl [HP]; · iexact HP
  iintro ⟨HP, Hs⟩
  iapply Hk
  isplitl [HP]; · iexact HP
  isplitl [HK]; · iexact HK
  iapply (Lo_put (back X Y c) pos_inj i hb hb')
  rw [hk]
  isplitl [Hs]; · iexact Hs
  iexact HB

/-! ## The row-ring reduction -/

theorem back_p1 (c : Dev nD) (h : Bool) (s : Fin 7) (u : Fin 4) (hs : s.val < 6) : back X Y c (.p1 h s u) = iprop(emp) :=
  if_neg fun h => by subst h; exact absurd hs (by decide)
theorem v1_succ (h : Bool) (u : Fin 4) (s s' : Fin 7) (hs : s'.val = s.val + 1) (c : Dev nD) :
    v1 X Y h u s'.val c = k0_pay8 (dotT X Y c (j1 h c s) u h) (unsq (v1 X Y h u s.val (rowFr h c))) := by
  have e : (Fin.ofNat 8 (s.val + 1) : Fin 8) = s.succ := Fin.ext (Nat.mod_eq_of_lt (by have := s.isLt; omega))
  rw [hs, v1, blkN, e]; rfl

theorem add1_lane (c : Dev nD) (s s' : Fin 7) (hs : s'.val = s.val + 1) (E : List (Fin 8)) (hE : ∀ h, eOf h s.succ ∈ E) (u : Fin 4) (h : Bool) {n a : ℕ}
    (ha : a = 8 * s.val + 2 * u.val + hN h) (hn : n = a + 8) (k : Pg F) (Q : PUnit → sProp 𝕄) :
    iprop(St X Y K c n a a ∗ OutI c (dotsP X Y c E) ∗ ((St X Y K c (n + 1) (a + 1) (a + 1) ∗ OutI c (dotsP X Y c E)) -∗ Wp c k Q)) ⊢ Wp c (add1 c s s' (u, h) k) Q := by
  have hlt := s'.isLt
  unfold add1
  iintro ⟨HS, HO, Hk⟩
  iapply (st_recv X Y K c (.p1 h s u) (n := n) (a := a) (a' := a + 1) (b := a) (by rw [rank_p1]; omega) (by rw [pos_p1]; omega) rfl)
  isplitl [HS]; · iexact HS
  rw [landed_p1, kept_p1]
  iintro ⟨Hl, HS⟩
  iapply (out_ld c (off1_eq h c s u) (v := dotT X Y c (j1 h c s) u h) (fun f hf => dotsP_tile X Y c E f hf h s.succ (hE h) u))
  isplitl [HO]; · iexact HO
  iintro HO
  iapply (ld_slot c fullShare (v1 X Y h u s.val (rowFr h c)))
  isplitl [Hl]; · iexact Hl
  iintro Hl
  ispecialize HS $$ [Hl]
  · iexact Hl
  iapply (st_send X Y K c (.p1 h s u) (n := n) (a := a + 1) (b := a) (b' := a + 1) (by rw [rank_p1]; omega) (by rw [pos_p1]; omega) rfl (back_p1 X Y c h s u (by omega)))
  isplitl [HS]; · iexact HS
  rw [source_p1]
  iintro ⟨HS, Hs⟩
  iapply (fill_unit c (u := u) rfl)
  isplitl [Hs]
  · iexists _; iexact Hs
  iintro Hs
  iapply (st_start X Y K c (.p1 h s' u) (n := n) (n' := n + 1) (a := a + 1) (b := a + 1) (by rw [rank_p1]; omega) rfl (by rw [pos_p1]; omega))
  isplitl [HS]; · iexact HS
  isplitl [Hs]
  · rw [source_p1, v1_succ X Y h u s s' hs c]; iexact Hs
  iintro HS
  iapply Hk
  isplitl [HS]; · iexact HS
  iexact HO

theorem add1_round (c : Dev nD) (s s' : Fin 7) (hs : s'.val = s.val + 1) (E : List (Fin 8)) (hE : ∀ h, eOf h s.succ ∈ E) {n a n' : ℕ} (ha : a = 8 * s.val) (hn : n = a + 8) (hn' : n' = n + 8) (k : Pg F) (Q : PUnit → sProp 𝕄) :
    iprop((St X Y K c n a a ∗ OutI c (dotsP X Y c E)) ∗ ((St X Y K c n' n n ∗ OutI c (dotsP X Y c E)) -∗ Wp c k Q)) ⊢ Wp c (each lanes (add1 c s s') k) Q := by
  subst hn' hn
  refine wp_lanes c (fun m => iprop(St X Y K c (a + 8 + m) (a + m) (a + m) ∗ OutI c (dotsP X Y c E))) _ Q ?_ k
  intro u h m hm k
  rw [laneNo_eq] at hm
  iintro ⟨⟨HS, HO⟩, Hk⟩
  iapply (add1_lane X Y K c s s' hs E hE u h (n := a + 8 + m) (a := a + m) (by omega) (by omega))
  isplitl [HS]; · iexact HS
  isplitl [HO]; · iexact HO
  iexact Hk

/-- The kept block while the last step goes over the lanes. -/
def finP (c : Dev nD) (m : ℕ) (f : Vec F S1536x1536 .f32) : Prop :=
  ∀ u h, tile f (jOwn h c) u h = if laneNo (u, h) < m then out1 X Y h u c else dotT X Y c (jOwn h c) u h
/-- The kept block holds the row's sums. -/
def rowP (c : Dev nD) (f : Vec F S1536x1536 .f32) : Prop := ∀ u h, tile f (jOwn h c) u h = out1 X Y h u c

theorem finP_begin (c : Dev nD) (E : List (Fin 8)) (hE : ∀ h, eOf h 7 ∈ E) (f : Vec F S1536x1536 .f32) (hf : dotsP X Y c E f) : finP X Y c 0 f := fun u h => by
  rw [if_neg (Nat.not_lt_zero _)]; exact dotsP_tile X Y c E f hf h 7 (hE h) u
theorem finP_end (c : Dev nD) (f : Vec F S1536x1536 .f32) (hf : finP X Y c 8 f) : rowP X Y c f := fun u h => by
  rw [hf u h, if_pos (laneNo_lt _)]
theorem finP_step (c : Dev nD) (u : Fin 4) (h : Bool) (f : Vec F S1536x1536 .f32) (hf : finP X Y c (laneNo (u, h)) f) :
    finP X Y c (laneNo (u, h) + 1) ((tRect (jOwn h c) u h).overlay f (out1 X Y h u c)) := fun u' h' => by
  by_cases he : (u', h') = (u, h)
  · obtain ⟨rfl, rfl⟩ := Prod.mk.inj he
    rw [tile_st, if_pos (by omega)]
  · rw [tile_st_ne _ _ _ _ _ _ _ _ fun h => he (Prod.mk.inj h).2, hf u' h']
    have hne : laneNo (u', h') ≠ laneNo (u, h) := fun e => he (laneNo_inj e)
    by_cases hlt : laneNo (u', h') < laneNo (u, h)
    · rw [if_pos hlt, if_pos (by omega)]
    · rw [if_neg hlt, if_neg (by omega)]

theorem fin1_lane (c : Dev nD) (u : Fin 4) (h : Bool) {m a : ℕ} (hm : m = laneNo (u, h)) (ha : a = 48 + m) (k : Pg F) (Q : PUnit → sProp 𝕄) :
    iprop(St X Y K c 56 a a ∗ OutI c (finP X Y c m) ∗ ((St X Y K c 56 (a + 1) (a + 1) ∗ OutI c (finP X Y c (m + 1))) -∗ Wp c k Q)) ⊢ Wp c (fin1 c (u, h) k) Q := by
  have hlt := laneNo_lt (u, h)
  have hstep (f : Vec F S1536x1536 .f32) (hf : finP X Y c m f) := finP_step X Y c u h f (hm ▸ hf)
  rw [← hm] at hstep
  have hl : laneNo (u, h) = 2 * u.val + hN h := rfl
  have h6 : ((6 : Fin 7) : ℕ) = 6 := rfl
  unfold fin1
  iintro ⟨HS, HO, Hk⟩
  iapply (st_recv X Y K c (.p1 h 6 u) (n := 56) (a := a) (a' := a + 1) (b := a) (by rw [rank_p1]; omega) (by rw [pos_p1]; omega) rfl)
  isplitl [HS]; · iexact HS
  rw [landed_p1, kept_p1]
  iintro ⟨Hl, HS⟩
  iapply (out_ld c (P := finP X Y c m) (off1_eq h c 6 u) (v := dotT X Y c (jOwn h c) u h) (fun f hf => (hf u h).trans (if_neg (by omega))))
  isplitl [HO]; · iexact HO
  iintro HO
  iapply (ld_slot c fullShare (v1 X Y h u 6 (rowFr h c)))
  isplitl [Hl]; · iexact Hl
  iintro Hl
  ispecialize HS $$ [Hl]
  · iexact Hl
  iapply (st_send_back X Y K c (.p1 h 6 u) (n := 56) (a := a + 1) (b := a) (b' := a + 1) (by rw [rank_p1]; omega) (by rw [pos_p1]; omega) rfl rfl)
  isplitl [HS]; · iexact HS
  iintro HS
  iapply (out_ld_any c)
  isplitl [HO]; · iexact HO
  iintro HO
  iapply (out_st c (j := jOwn h c) (u := u) (h := h) (P' := finP X Y c (m + 1)) (off1_eq h c 6 u) hstep)
  isplitl [HO]; · iexact HO
  iintro HO
  iapply Hk
  isplitl [HS]; · iexact HS
  iexact HO

theorem fin1_round (c : Dev nD) (E : List (Fin 8)) (hE : ∀ h, eOf h 7 ∈ E) (k : Pg F) (Q : PUnit → sProp 𝕄) :
    iprop((St X Y K c 56 48 48 ∗ OutI c (dotsP X Y c E)) ∗ ((St X Y K c 56 56 56 ∗ OutI c (rowP X Y c)) -∗ Wp c k Q)) ⊢ Wp c (each lanes (fin1 c) k) Q := by
  iintro ⟨⟨HS, HO⟩, Hk⟩
  iapply (wp_lanes c (fun m => iprop(St X Y K c 56 (48 + m) (48 + m) ∗ OutI c (finP X Y c m))) (fin1 c) Q (fun u h m hm k => by
    iintro ⟨⟨HS, HO⟩, Hk⟩
    iapply (fin1_lane X Y K c u h (m := m) (a := 48 + m) hm rfl)
    isplitl [HS]; · iexact HS
    isplitl [HO]; · iexact HO
    iexact Hk) k)
  isplitl [HS HO]
  · isplitl [HS]; · iexact HS
    iapply (out_weaken c (finP_begin X Y c E hE)); iexact HO
  iintro ⟨HS, HO⟩
  iapply Hk
  isplitl [HS]; · iexact HS
  iapply (out_weaken c (finP_end X Y c)); iexact HO

/-- The operands of the partial product. -/
abbrev AB (c : Dev nD) : sProp 𝕄 := iprop(Own c aM fullShare (X c) ∗ Own c bbM fullShare (k0_pay1 (Y c)))

theorem dot_step (c : Dev nD) (e : Fin 8) (E : List (Fin 8)) {ao oo : Fin 2 → ℕ} {ai : ∀ a, ao a + S192x768.size a ≤ S1536x768.size a} {oi : ∀ a, oo a + S192x1536.size a ≤ S1536x1536.size a}
    (ho : ao = ![192 * (blkAt true c e).val, 0] ∧ oo = ![192 * (blkAt true c e).val, 0]) (R : sProp 𝕄) (k : Pg F) (Q : PUnit → sProp 𝕄) :
    iprop((AB X Y c ∗ R ∗ OutI c (dotsP X Y c E)) ∗ ((AB X Y c ∗ R ∗ OutI c (dotsP X Y c (e :: E))) -∗ Wp c k Q)) ⊢ Wp c (dot ao ai oo oi k) Q := by
  iintro ⟨⟨⟨HA, HB⟩, HR, HO⟩, Hk⟩
  iapply (wp_dot X Y c e E ho)
  isplitl [HA HB HO]
  · isplitl [HA]; · iexact HA
    isplitl [HB]; · iexact HB
    iexact HO
  iintro ⟨HA, HB, HO⟩
  iapply Hk
  isplitl [HA HB]
  · isplitl [HA]; · iexact HA
    iexact HB
  isplitl [HR]; · iexact HR
  iexact HO

theorem add1_step (c : Dev nD) (s s' : Fin 7) (hs : s'.val = s.val + 1) (E : List (Fin 8)) (hE : ∀ h, eOf h s.succ ∈ E) {n a n' : ℕ} (ha : a = 8 * s.val) (hn : n = a + 8) (hn' : n' = n + 8) (k : Pg F) (Q : PUnit → sProp 𝕄) :
    iprop((AB X Y c ∗ St X Y K c n a a ∗ OutI c (dotsP X Y c E)) ∗ ((AB X Y c ∗ St X Y K c n' n n ∗ OutI c (dotsP X Y c E)) -∗ Wp c k Q)) ⊢ Wp c (each lanes (add1 c s s') k) Q := by
  iintro ⟨⟨HA, HS, HO⟩, Hk⟩
  iapply (add1_round X Y K c s s' hs E hE ha hn hn')
  isplitl [HS HO]
  · isplitl [HS]; · iexact HS
    iexact HO
  iintro ⟨HS, HO⟩
  iapply Hk
  isplitl [HA]; · iexact HA
  isplitl [HS]; · iexact HS
  iexact HO

/-- The whole row-ring reduction. -/
theorem wp_ring1 (c : Dev nD) (k : Pg F) (Q : PUnit → sProp 𝕄) :
    iprop((AB X Y c ∗ St X Y K c 8 0 0 ∗ OutI c (dotsP X Y c [7, 1, 0])) ∗ ((AB X Y c ∗ St X Y K c 56 56 56 ∗ OutI c (rowP X Y c)) -∗ Wp c k Q)) ⊢ Wp c (ring1 c k) Q := by
  unfold ring1
  iintro ⟨H, Hk⟩
  iapply (add1_step X Y K c 0 1 rfl [7, 1, 0] (by decide) (n := 8) (a := 0) (n' := 16) rfl rfl rfl); isplitl [H]; · iexact H
  iintro H
  iapply (dot_step X Y c 2 _ (offdA c 0)); isplitl [H]; · iexact H
  iintro H
  iapply (dot_step X Y c 6 _ (offdB c 0)); isplitl [H]; · iexact H
  iintro H
  iapply (add1_step X Y K c 1 2 rfl [6, 2, 7, 1, 0] (by decide) (n := 16) (a := 8) (n' := 24) rfl rfl rfl); isplitl [H]; · iexact H
  iintro H
  iapply (dot_step X Y c 3 _ (offdA c 1)); isplitl [H]; · iexact H
  iintro H
  iapply (dot_step X Y c 5 _ (offdB c 1)); isplitl [H]; · iexact H
  iintro H
  iapply (add1_step X Y K c 2 3 rfl [5, 3, 6, 2, 7, 1, 0] (by decide) (n := 24) (a := 16) (n' := 32) rfl rfl rfl); isplitl [H]; · iexact H
  iintro H
  iapply (dot_step X Y c 4 _ (offdA c 2)); isplitl [H]; · iexact H
  iintro H
  iapply (add1_step X Y K c 3 4 rfl [4, 5, 3, 6, 2, 7, 1, 0] (by decide) (n := 32) (a := 24) (n' := 40) rfl rfl rfl); isplitl [H]; · iexact H
  iintro H
  iapply (add1_step X Y K c 4 5 rfl [4, 5, 3, 6, 2, 7, 1, 0] (by decide) (n := 40) (a := 32) (n' := 48) rfl rfl rfl); isplitl [H]; · iexact H
  iintro H
  iapply (add1_step X Y K c 5 6 rfl [4, 5, 3, 6, 2, 7, 1, 0] (by decide) (n := 48) (a := 40) (n' := 56) rfl rfl rfl); isplitl [H]; · iexact H
  iintro ⟨HA, HS, HO⟩
  iapply (fin1_round X Y K c [4, 5, 3, 6, 2, 7, 1, 0] (by decide))
  isplitl [HS HO]
  · isplitl [HS]; · iexact HS
    iexact HO
  iintro ⟨HS, HO⟩
  iapply Hk
  isplitl [HA]; · iexact HA
  isplitl [HS]; · iexact HS
  iexact HO

end Cert.KernelIdeal.Run
end
-- ==== Proof.Ring2.lean ====
/-
The column-ring reduction.
-/
module

public import proofs.«01_k».proof.Proof.Ring1

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1536x768 .f32) (Y : Dev nD → Vec F S768x1536 .f32)
variable (K : Dev nD × CIx → ℕ)

theorem rank_p2a (c : Dev nD) (h : Bool) (t : Fin 3) : rank c (.p2a h t) = 56 + 2 * t.val + hN h := rfl
theorem pos_p2a (h : Bool) (t : Fin 3) : pos (.p2a h t) = 56 + 2 * t.val + hN h := rfl
theorem landed_p2a (c : Dev nD) (h : Bool) (t : Fin 3) : landed X Y c (.p2a h t) = Own c (slot3M (l2aM h) t) fullShare (v2 X Y h t.val (colFr h c)) := rfl
theorem kept_p2a (c : Dev nD) (h : Bool) (t : Fin 3) : kept X Y c (.p2a h t) = Own c (slot3M (l2aM h) t) fullShare (v2 X Y h t.val (colFr h c)) := rfl
theorem source_p2a (c : Dev nD) (h : Bool) (t : Fin 3) : source X Y c (.p2a h t) = Own c (s2aM h) fullShare (v2 X Y h t.val c) := rfl
theorem source_p2b0 (c : Dev nD) (h : Bool) : source X Y c (.p2b h 0) = Own c (s2bM h) fullShare (v2b X Y h 0 c) := rfl
theorem source_p30 (c : Dev nD) (h : Bool) (u : Fin 4) : source X Y c (.p3 h 0 u) = Own c (unitM (s3M h) u) fullShare (v3 X Y h u 0 c) := rfl

/-- A family over the directions, from the first on and up to the last. -/
theorem dirs_all (Φ : Bool → sProp 𝕄) : Lo hN Φ 2 = Hi hN Φ 0 := by rw [Hi_zero, Lo_top hN Φ hN_lt]
theorem dirs_none (Φ : Bool → sProp 𝕄) : Lo hN Φ 0 = iprop(emp) := Lo_zero hN Φ

/-! ## Issuing copies from a family of sources -/

theorem start_dirs (c : Dev nD) (i : Bool → Copy) {n n' b : ℕ} (hi : ∀ h, rank c (i h) = n + hN h) (hb : ∀ h, b ≤ pos (i h)) (hn' : n' = n + 2) (f : Bool → Pg F → Pg F)
    (hf : ∀ h k, f h k = start c (i h) k) (k : Pg F) (Q : PUnit → sProp 𝕄) :
    iprop((St X Y K c n b b ∗ Hi hN (fun h => source X Y c (i h)) 0) ∗ (St X Y K c n' b b -∗ Wp c k Q)) ⊢ Wp c (each dirs f k) Q := by
  subst hn'
  iintro ⟨H, Hk⟩
  iapply (wp_dirs c (fun m => iprop(St X Y K c (n + m) b b ∗ Hi hN (fun h => source X Y c (i h)) m)) f Q (fun h m hm k => by
    rw [hf h k]
    iintro ⟨⟨HS, HD⟩, Hk⟩
    ihave ⟨Hs, HD⟩ := (Hi_take (fun h => source X Y c (i h)) hN_inj h (n := m) (n' := m + 1) hm.symm rfl) $$ HD
    iapply (st_start X Y K c (i h) (n := n + m) (n' := n + (m + 1)) (by rw [hi h, hm]) rfl (hb h))
    isplitl [HS]; · iexact HS
    isplitl [Hs]; · iexact Hs
    iintro HS
    iapply Hk
    isplitl [HS]; · iexact HS
    iexact HD) k)
  isplitl [H]; · iexact H
  iintro ⟨HS, -⟩
  iapply Hk
  iexact HS

/-! ## The column-ring reduction -/

theorem fill2_round (c : Dev nD) (k : Pg F) (Q : PUnit → sProp 𝕄) :
    iprop((Hi hN (fun h => OwnAny (F := F) c (s2aM h)) 0 ∗ OutI c (rowP X Y c)) ∗ ((Hi hN (fun h => source X Y c (.p2a h 0)) 0 ∗ OutI c (rowP X Y c)) -∗ Wp c k Q))
      ⊢ Wp c (each dirs (fill2 c) k) Q := by
  iintro ⟨⟨HA, HO⟩, Hk⟩
  iapply (wp_dirs c (fun m => iprop(Hi hN (fun h => OwnAny (F := F) c (s2aM h)) m ∗ Lo hN (fun h => source X Y c (.p2a h 0)) m ∗ OutI c (rowP X Y c))) (fill2 c) Q (fun h m hm k => by
    unfold fill2
    iintro ⟨⟨HA, HL, HO⟩, Hk⟩
    ihave ⟨Ha, HA⟩ := (Hi_take (fun h => OwnAny (F := F) c (s2aM h)) hN_inj h (n := m) (n' := m + 1) hm.symm rfl) $$ HA
    iapply (out_ld c (P := rowP X Y c) (off2f_eq h c) (fun f hf => hf (unitAt h c 0) h))
    isplitl [HO]; · iexact HO
    iintro HO
    iapply (fill_stage c)
    isplitl [Ha]; · iexact Ha
    iintro Ha
    iapply Hk
    isplitl [HA]; · iexact HA
    isplitl [HL Ha]
    · iapply (Lo_put (fun h => source X Y c (.p2a h 0)) hN_inj h (n := m) (n' := m + 1) hm.symm rfl)
      isplitl [Ha]
      · rw [source_p2a]; iexact Ha
      iexact HL
    iexact HO) k)
  isplitl [HA HO]
  · isplitl [HA]; · iexact HA
    isplitr; · rw [dirs_none]; iempintro
    iexact HO
  rw [dirs_all]
  iintro ⟨-, HL, HO⟩
  iapply Hk
  isplitl [HL]; · iexact HL
  iexact HO

theorem v2_succ (h : Bool) (t : Fin 3) (n : ℕ) (hn : n = t.val + 1) (c : Dev nD) :
    v2 X Y h n c = k0_pay97 (out1 X Y h (unitAt h c t.succ) c) (unsq (v2 X Y h t.val (colFr h c))) := by
  have e : (Fin.ofNat 4 (t.val + 1) : Fin 4) = t.succ := Fin.ext (Nat.mod_eq_of_lt (by have := t.isLt; omega))
  rw [hn, v2, unitN, e]

theorem back_p2a (c : Dev nD) (h : Bool) (t : Fin 3) (ht : t.val < 2) : back X Y c (.p2a h t) = iprop(emp) :=
  if_neg fun h => by subst h; exact absurd ht (by decide)

theorem add2_round (c : Dev nD) (t t' : Fin 3) (ht : t'.val = t.val + 1) {n a n' : ℕ} (ha : a = 56 + 2 * t.val) (hn : n = a + 2) (hn' : n' = n + 2) (k : Pg F) (Q : PUnit → sProp 𝕄) :
    iprop((St X Y K c n a a ∗ OutI c (rowP X Y c)) ∗ ((St X Y K c n' n n ∗ OutI c (rowP X Y c)) -∗ Wp c k Q)) ⊢ Wp c (each dirs (add2 c t t') k) Q := by
  subst hn' hn
  have hlt := t'.isLt
  refine wp_dirs c (fun m => iprop(St X Y K c (a + 2 + m) (a + m) (a + m) ∗ OutI c (rowP X Y c))) (add2 c t t') Q (fun h m hm k => ?_) k
  have hN := hN_lt h
  unfold add2
  iintro ⟨⟨HS, HO⟩, Hk⟩
  iapply (st_recv X Y K c (.p2a h t) (n := a + 2 + m) (a := a + m) (a' := a + (m + 1)) (b := a + m) (by rw [rank_p2a]; omega) (by rw [pos_p2a]; omega) rfl)
  isplitl [HS]; · iexact HS
  rw [landed_p2a, kept_p2a]
  iintro ⟨Hl, HS⟩
  iapply (out_ld c (P := rowP X Y c) (off2a_eq h c t) (fun f hf => hf (unitAt h c t.succ) h))
  isplitl [HO]; · iexact HO
  iintro HO
  iapply (ld_slot3 c fullShare (v2 X Y h t.val (colFr h c)))
  isplitl [Hl]; · iexact Hl
  iintro Hl
  ispecialize HS $$ [Hl]
  · iexact Hl
  iapply (st_send X Y K c (.p2a h t) (n := a + 2 + m) (a := a + (m + 1)) (b := a + m) (b' := a + (m + 1)) (by rw [rank_p2a]; omega) (by rw [pos_p2a]; omega) rfl (back_p2a X Y c h t (by omega)))
  isplitl [HS]; · iexact HS
  rw [source_p2a]
  iintro ⟨HS, Hs⟩
  iapply (fill_stage c)
  isplitl [Hs]
  · iexists _; iexact Hs
  iintro Hs
  iapply (st_start X Y K c (.p2a h t') (n := a + 2 + m) (n' := a + 2 + (m + 1)) (a := a + (m + 1)) (b := a + (m + 1)) (by rw [rank_p2a]; omega) rfl (by rw [pos_p2a]; omega))
  isplitl [HS]; · iexact HS
  isplitl [Hs]
  · rw [source_p2a, v2_succ X Y h t t'.val ht c]; iexact Hs
  iintro HS
  iapply Hk
  isplitl [HS]; · iexact HS
  iexact HO

/-- The kept block while the last step goes over the directions. -/
def fin2P (c : Dev nD) (m : ℕ) (f : Vec F S1536x1536 .f32) : Prop :=
  ∀ h : Bool, if hN h < m then tile f (jOwn h c) (unitAt h c 3) h = ownT X Y h c (unitAt h c 3) else ∀ u, tile f (jOwn h c) u h = out1 X Y h u c

theorem ownT_last (h : Bool) (c : Dev nD) : ownT X Y h c (unitAt h c 3) = k0_pay103 (out1 X Y h (unitAt h c 3) c) (unsq (v2 X Y h 2 (colFr h c))) := by
  unfold ownT; rw [posOf_unitAt, if_pos rfl]; rfl

theorem fin2P_begin (c : Dev nD) (f : Vec F S1536x1536 .f32) (hf : rowP X Y c f) : fin2P X Y c 0 f := fun h => by
  rw [if_neg (Nat.not_lt_zero _)]; exact fun u => hf u h
theorem fin2P_ld (c : Dev nD) (h : Bool) (f : Vec F S1536x1536 .f32) (hf : fin2P X Y c (hN h) f) : tile f (jOwn h c) (unitAt h c 3) h = out1 X Y h (unitAt h c 3) c := by
  have := hf h
  rw [if_neg (Nat.lt_irrefl _)] at this
  exact this _
theorem fin2P_step (c : Dev nD) (h : Bool) (f : Vec F S1536x1536 .f32) (hf : fin2P X Y c (hN h) f) :
    fin2P X Y c (hN h + 1) ((tRect (jOwn h c) (unitAt h c 3) h).overlay f (ownT X Y h c (unitAt h c 3))) := fun h' => by
  by_cases he : h' = h
  · subst he
    rw [if_pos (by omega), tile_st]
  · have hne (j u j' u') : ((j', u', h') : Fin 8 × Fin 4 × Bool) ≠ (j, u, h) := fun e => he (Prod.mk.inj (Prod.mk.inj e).2).2
    have h0 := hf h'
    have hN : hN h' ≠ hN h := fun e => he (hN_inj e)
    by_cases hlt : Run.hN h' < Run.hN h
    · rw [if_pos hlt] at h0
      rw [if_pos (by omega), tile_st_ne _ _ _ _ _ _ _ _ (hne _ _ _ _)]
      exact h0
    · rw [if_neg hlt] at h0
      rw [if_neg (by omega)]
      intro u
      rw [tile_st_ne _ _ _ _ _ _ _ _ (hne _ _ _ _)]
      exact h0 u

theorem v3_own (h : Bool) (c : Dev nD) : v3 X Y h (unitAt h c 3) 0 c = k0_pay106 (out1 X Y h (unitAt h c 3) c) (unsq (v2 X Y h 2 (colFr h c))) := by
  rw [v3, posOf_unitAt, s3, if_pos rfl]

/-- The staging unit of the row-ring broadcast for the unit at place `t`. -/
abbrev s3Any (c : Dev nD) (t : Fin 4) (h : Bool) : sProp 𝕄 := OwnAny (F := F) c (unitM (s3M h) (unitAt h c t))

theorem fin2_lane (c : Dev nD) (h : Bool) {m a : ℕ} (hm : m = hN h) (ha : a = 60 + m) (k : Pg F) (Q : PUnit → sProp 𝕄) :
    iprop(St X Y K c 62 a a ∗ OutI c (fin2P X Y c m) ∗ OwnAny c (s2bM h) ∗ s3Any c 3 h
      ∗ ((St X Y K c 62 (a + 1) (a + 1) ∗ OutI c (fin2P X Y c (m + 1)) ∗ source X Y c (.p2b h 0) ∗ source X Y c (.p3 h 0 (unitAt h c 3))) -∗ Wp c k Q)) ⊢ Wp c (fin2 c h k) Q := by
  have hlt := hN_lt h
  have h2 : ((2 : Fin 3) : ℕ) = 2 := rfl
  have hld (f : Vec F S1536x1536 .f32) (hf : fin2P X Y c m f) := fin2P_ld X Y c h f (hm ▸ hf)
  have hstep (f : Vec F S1536x1536 .f32) (hf : fin2P X Y c m f) := fin2P_step X Y c h f (hm ▸ hf)
  rw [← hm] at hstep
  simp only [ownT_last] at hstep
  unfold fin2
  iintro ⟨HS, HO, H2, H3, Hk⟩
  iapply (st_recv X Y K c (.p2a h 2) (n := 62) (a := a) (a' := a + 1) (b := a) (by rw [rank_p2a]; omega) (by rw [pos_p2a]; omega) rfl)
  isplitl [HS]; · iexact HS
  rw [landed_p2a, kept_p2a]
  iintro ⟨Hl, HS⟩
  iapply (out_ld c (P := fin2P X Y c m) (off2a_eq h c 2) hld)
  isplitl [HO]; · iexact HO
  iintro HO
  iapply (ld_slot3 c fullShare (v2 X Y h 2 (colFr h c)))
  isplitl [Hl]; · iexact Hl
  iintro Hl
  ispecialize HS $$ [Hl]
  · iexact Hl
  iapply (st_send_back X Y K c (.p2a h 2) (n := 62) (a := a + 1) (b := a) (b' := a + 1) (by rw [rank_p2a]; omega) (by rw [pos_p2a]; omega) rfl rfl)
  isplitl [HS]; · iexact HS
  iintro HS
  iapply (out_ld_any c)
  isplitl [HO]; · iexact HO
  iintro HO
  iapply (out_st c (j := jOwn h c) (u := unitAt h c 3) (h := h) (P' := fin2P X Y c (m + 1)) (off2a_eq h c 2) hstep)
  isplitl [HO]; · iexact HO
  iintro HO
  iapply (fill_stage c)
  isplitl [H2]; · iexact H2
  iintro H2
  iapply (fill_unit c (u := unitAt h c 3) (off3o_eq h c))
  isplitl [H3]; · iexact H3
  iintro H3
  iapply Hk
  isplitl [HS]; · iexact HS
  isplitl [HO]; · iexact HO
  isplitl [H2]; · rw [source_p2b0]; iexact H2
  rw [source_p30, v3_own]; iexact H3

theorem fin2_round (c : Dev nD) (k : Pg F) (Q : PUnit → sProp 𝕄) :
    iprop((St X Y K c 62 60 60 ∗ OutI c (rowP X Y c) ∗ Hi hN (fun h => OwnAny (F := F) c (s2bM h)) 0 ∗ Hi hN (s3Any (F := F) c 3) 0)
      ∗ ((St X Y K c 62 62 62 ∗ OutI c (fin2P X Y c 2) ∗ Hi hN (fun h => source X Y c (.p2b h 0)) 0 ∗ Hi hN (fun h => source X Y c (.p3 h 0 (unitAt h c 3))) 0) -∗ Wp c k Q))
      ⊢ Wp c (each dirs (fin2 c) k) Q := by
  iintro ⟨⟨HS, HO, H2, H3⟩, Hk⟩
  iapply (wp_dirs c (fun m => iprop(St X Y K c 62 (60 + m) (60 + m) ∗ OutI c (fin2P X Y c m) ∗ Hi hN (fun h => OwnAny (F := F) c (s2bM h)) m ∗ Hi hN (s3Any (F := F) c 3) m
      ∗ Lo hN (fun h => source X Y c (.p2b h 0)) m ∗ Lo hN (fun h => source X Y c (.p3 h 0 (unitAt h c 3))) m)) (fin2 c) Q (fun h m hm k => by
    iintro ⟨⟨HS, HO, H2, H3, L2, L3⟩, Hk⟩
    ihave ⟨Ha, H2⟩ := (Hi_take (fun h => OwnAny (F := F) c (s2bM h)) hN_inj h (n := m) (n' := m + 1) hm.symm rfl) $$ H2
    ihave ⟨Hb, H3⟩ := (Hi_take (s3Any (F := F) c 3) hN_inj h (n := m) (n' := m + 1) hm.symm rfl) $$ H3
    iapply (fin2_lane X Y K c h (m := m) (a := 60 + m) hm rfl)
    isplitl [HS]; · iexact HS
    isplitl [HO]; · iexact HO
    isplitl [Ha]; · iexact Ha
    isplitl [Hb]; · iexact Hb
    iintro ⟨HS, HO, Ha, Hb⟩
    iapply Hk
    isplitl [HS]; · iexact HS
    isplitl [HO]; · iexact HO
    isplitl [H2]; · iexact H2
    isplitl [H3]; · iexact H3
    isplitl [Ha L2]
    · iapply (Lo_put (fun h => source X Y c (.p2b h 0)) hN_inj h (n := m) (n' := m + 1) hm.symm rfl)
      isplitl [Ha]; · iexact Ha
      iexact L2
    · iapply (Lo_put (fun h => source X Y c (.p3 h 0 (unitAt h c 3))) hN_inj h (n := m) (n' := m + 1) hm.symm rfl)
      isplitl [Hb]; · iexact Hb
      iexact L3) k)
  isplitl [HS HO H2 H3]
  · isplitl [HS]; · iexact HS
    isplitl [HO]; · iapply (out_weaken c (fin2P_begin X Y c)); iexact HO
    isplitl [H2]; · iexact H2
    isplitl [H3]; · iexact H3
    rw [dirs_none, dirs_none]
    isplitr <;> iempintro
  rw [dirs_all, dirs_all]
  iintro ⟨HS, HO, -, -, L2, L3⟩
  iapply Hk
  isplitl [HS]; · iexact HS
  isplitl [HO]; · iexact HO
  isplitl [L2]; · iexact L2
  iexact L3

/-- The whole column-ring reduction. -/
theorem wp_ring2 (c : Dev nD) (k : Pg F) (Q : PUnit → sProp 𝕄) :
    iprop((St X Y K c 56 56 56 ∗ OutI c (rowP X Y c) ∗ Hi hN (fun h => OwnAny (F := F) c (s2aM h)) 0 ∗ Hi hN (fun h => OwnAny (F := F) c (s2bM h)) 0 ∗ Hi hN (s3Any (F := F) c 3) 0)
      ∗ ((St X Y K c 62 62 62 ∗ OutI c (fin2P X Y c 2) ∗ Hi hN (fun h => source X Y c (.p2b h 0)) 0 ∗ Hi hN (fun h => source X Y c (.p3 h 0 (unitAt h c 3))) 0) -∗ Wp c k Q))
      ⊢ Wp c (ring2 c k) Q := by
  unfold ring2
  iintro ⟨⟨HS, HO, HA, H2, H3⟩, Hk⟩
  iapply (fill2_round X Y c)
  isplitl [HA HO]
  · isplitl [HA]; · iexact HA
    iexact HO
  iintro ⟨HA, HO⟩
  iapply (start_dirs X Y K c (fun h => .p2a h 0) (n := 56) (n' := 58) (b := 56) (fun h => rfl) (fun h => by rw [pos_p2a]; omega) rfl _ (fun _ _ => rfl))
  isplitl [HS HA]
  · isplitl [HS]; · iexact HS
    iexact HA
  iintro HS
  iapply (add2_round X Y K c 0 1 rfl (n := 58) (a := 56) (n' := 60) rfl rfl rfl)
  isplitl [HS HO]
  · isplitl [HS]; · iexact HS
    iexact HO
  iintro ⟨HS, HO⟩
  iapply (add2_round X Y K c 1 2 rfl (n := 60) (a := 58) (n' := 62) rfl rfl rfl)
  isplitl [HS HO]
  · isplitl [HS]; · iexact HS
    iexact HO
  iintro ⟨HS, HO⟩
  iapply (fin2_round X Y K c)
  isplitl [HS HO H2 H3]
  · isplitl [HS]; · iexact HS
    isplitl [HO]; · iexact HO
    isplitl [H2]; · iexact H2
    iexact H3
  iexact Hk

end Cert.KernelIdeal.Run
end
-- ==== Proof.Bcast.lean ====
/-
The two broadcasts, and what the result holds at the end.
-/
module

public import proofs.«01_k».proof.Proof.Ring2
public import Idealize.ShloMosaic.Lib.MemrefSat

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1536x768 .f32) (Y : Dev nD → Vec F S768x1536 .f32)
variable (K : Dev nD × CIx → ℕ)

/-! ## What of the result is final -/

/-- The tile of the result that is final once a copy's arrival is worked in, if there is one. -/
def tileOf (c : Dev nD) : Copy → Option (Fin 8 × Fin 4 × Bool)
  | .p1 _ _ _ => none
  | .p2a h t => if t = 2 then some (jOwn h c, unitAt h c 3, h) else none
  | .p2b h t => some (jOwn h c, unitAt h c t.castSucc, h)
  | .p3 h t u => some (j3 h c t, u, h)

/-- The tiles of the first `w` arrivals are final. -/
def endK (c : Dev nD) (w : ℕ) (f : Vec F S1536x1536 .f32) : Prop :=
  ∀ i p, pos i < w → tileOf c i = some p → tile f p.1 p.2.1 p.2.2 = endT X Y c p.1 p.2.1 p.2.2

theorem endK_step (c : Dev nD) (i : Copy) (j : Fin 8) (u : Fin 4) (h : Bool) {w w' : ℕ} (hi : pos i = w) (hw : w' = w + 1) (ht : tileOf c i = some (j, u, h))
    (v : Vec F S48x768 .f32) (hv : v = endT X Y c j u h) (f : Vec F S1536x1536 .f32) (hf : endK X Y c w f) : endK X Y c w' ((tRect j u h).overlay f v) := by
  subst hv hw
  rintro i' ⟨j', u', h'⟩ hlt hp
  by_cases he : (j', u', h') = (j, u, h)
  · obtain ⟨rfl, e⟩ := Prod.mk.inj he
    obtain ⟨rfl, rfl⟩ := Prod.mk.inj e
    exact tile_st _ _ _ _ _
  · have hne : i' ≠ i := fun e => he (Option.some.inj (hp.symm.trans (e ▸ ht)))
    have hpn : pos i' ≠ pos i := fun e => hne (pos_inj e)
    exact (tile_st_ne _ _ _ _ _ _ _ _ he).trans (hf i' (j', u', h') (by omega) hp)

theorem endK_begin (c : Dev nD) (f : Vec F S1536x1536 .f32) (hf : fin2P X Y c 2 f) : endK X Y c 62 f := by
  rintro (⟨h, s, u⟩ | ⟨h, t⟩ | ⟨h, t⟩ | ⟨h, t, u⟩) p hlt hp
  · exact absurd hp (by simp [tileOf])
  · by_cases ht : t = 2
    · rw [tileOf, if_pos ht] at hp
      obtain rfl := Option.some.inj hp
      have := hf h
      rw [if_pos (hN_lt h)] at this
      rw [endT_own]; exact this
    · rw [tileOf, if_neg ht] at hp
      exact absurd hp (by simp)
  · exact absurd hlt (by simp only [pos]; omega)
  · exact absurd hlt (by simp only [pos]; omega)

theorem tileOf_all (c : Dev nD) (p : Fin 8 × Fin 4 × Bool) : ∃ i, tileOf c i = some p := by
  obtain ⟨j, u, h⟩ := p
  obtain ⟨e, rfl⟩ := (Finite.injective_iff_surjective.mp (blkAt_inj h c)) j
  rcases Fin.eq_castSucc_or_eq_last e with ⟨t, rfl⟩ | rfl
  · exact ⟨.p3 h t u, rfl⟩
  · have hu := unitAt_posOf h c u
    rcases Fin.eq_castSucc_or_eq_last (posOf h c u) with ⟨t, ht⟩ | ht
    · rw [ht] at hu
      exact ⟨.p2b h t, by rw [tileOf, hu]; rfl⟩
    · rw [ht] at hu
      exact ⟨.p2a h 2, by rw [tileOf, if_pos rfl, show unitAt h c 3 = u from hu]; rfl⟩

theorem endK_end (c : Dev nD) (f : Vec F S1536x1536 .f32) (hf : endK X Y c 124 f) : f = endO X Y c := by
  funext x
  have hx : x ∈ (Finset.univ : Finset (Fin 8 × Fin 4 × Bool)).biUnion (fun p => (tRect p.1 p.2.1 p.2.2).set) := by rw [tRect_cover]; exact Finset.mem_univ x
  obtain ⟨p, -, hx⟩ := Finset.mem_biUnion.mp hx
  rw [← Rect.map_emb_univ] at hx
  obtain ⟨y, -, rfl⟩ := Finset.mem_map.mp hx
  obtain ⟨i, hi⟩ := tileOf_all c p
  unfold endO
  rw [Rect.glue_emb (fun p : Fin 8 × Fin 4 × Bool => tRect p.1 p.2.1 p.2.2) tRect_cover tRect_disj (fun p => endT X Y c p.1 p.2.1 p.2.2) p y]
  exact congrFun (hf i p (pos_lt i) hi) y

theorem own_halves (c : Dev nD) {s : Shape} {e : EltTy} (m : Memref sig .tc .vmem s e) (q : PosShare TreeShare) (V : Vec F s e) :
    (Own c m q V : sProp 𝕄) ⊢ iprop(Own c m q.left V ∗ Own c m q.right V) := (owns_halves (c : Thread nD τ) m q V).1

/-! ## The column-ring broadcast -/

theorem rank_p2b (c : Dev nD) (h : Bool) (t t' : Fin 3) (ht : t'.val = t.val + 1) : rank c (.p2b h t') = 66 + 4 * t.val + 2 * hN h := by
  obtain ⟨t', h'⟩ := t'
  obtain rfl : t' = t.val + 1 := ht
  rfl
theorem rank_p2b_le (c : Dev nD) (h : Bool) (t : Fin 3) : rank c (.p2b h t) < 66 + 4 * t.val := by
  revert h t; exact (by decide : ∀ (h : Bool) (t : Fin 3), rank 0 (.p2b h t) < 66 + 4 * t.val)
theorem pos_p2b (h : Bool) (t : Fin 3) : pos (.p2b h t) = 62 + 2 * t.val + hN h := rfl
theorem rank_own (c : Dev nD) (h : Bool) : rank c (.p3 h 0 (unitAt h c 3)) = 64 + hN h := by revert h c; decide +kernel
theorem rank_col (c : Dev nD) (h : Bool) (t : Fin 3) : rank c (.p3 h 0 (unitAt h c t.castSucc)) = if t = 2 then 74 + hN h else 67 + 4 * t.val + 2 * hN h := by
  revert h t c; decide +kernel
theorem landed_p2b (c : Dev nD) (h : Bool) (t : Fin 3) : landed X Y c (.p2b h t) = Own c (slot3M (l2bM h) t) fullShare (v2b X Y h t.val (colFr h c)) := rfl
theorem kept_p2b (c : Dev nD) (h : Bool) (t : Fin 3) : kept X Y c (.p2b h t) = Own c (slot3M (l2bM h) t) (kshr (.p2b h t)) (v2b X Y h t.val (colFr h c)) := rfl
theorem source_p2b (c : Dev nD) (h : Bool) (t t' : Fin 3) (ht : t'.val = t.val + 1) :
    source X Y c (.p2b h t') = Own c (slot3M (l2bM h) t) fullShare.left (v2b X Y h t.val (colFr h c)) := by
  obtain ⟨t', h'⟩ := t'
  obtain rfl : t' = t.val + 1 := ht
  rfl
theorem kshr_p2b (h : Bool) (t : Fin 3) (ht : t.val < 2) : kshr (.p2b h t) = fullShare.right := if_neg fun e => by subst e; exact absurd ht (by decide)

/-- A copy sent from rows computed at run time is the copy of the unit those rows are. -/
theorem startAt_eq (c : Dev nD) (h : Bool) (u : Fin 4) {co so : Fin 2 → ℕ} {lo : Fin 3 → ℕ} {ci : ∀ a, co a + S1x1.size a ≤ S7x4.size a}
    {si : ∀ a, so a + S48x768.size a ≤ S192x768.size a} {li : ∀ a, lo a + S1x48x768.size a ≤ S7x192x768.size a}
    {sw : (Rect.unit (s := S192x768) so S48x768.size si).WholeWords (EltTy.packing .bf16)}
    {lw : (Rect.unit (s := S7x192x768) lo S1x48x768.size li).WholeWords (EltTy.packing .bf16)}
    (hc : co = ![0, u.val]) (hs : so = ![48 * u.val, 0]) (hl : lo = ![0, 48 * u.val, 0]) (k : Pg F) :
    startAt c h co so lo ci si li sw lw k = start c (.p3 h 0 u) k := by
  subst hc hs hl; rfl

theorem offOwnF (c : Dev nD) : k0_off21 c 1#32 = ![0, (unitAt false c 3).val] ∧ k0_off23 c 1#32 = ![48 * (unitAt false c 3).val, 0] ∧ k0_off22 c 1#32 = ![0, 48 * (unitAt false c 3).val, 0] := by
  revert c; decide +kernel
theorem offOwnT (c : Dev nD) : k0_off24 c = ![0, (unitAt true c 3).val] ∧ k0_off26 c = ![48 * (unitAt true c 3).val, 0] ∧ k0_off25 c = ![0, 48 * (unitAt true c 3).val, 0] := by
  revert c; decide +kernel
theorem offColF (c : Dev nD) (t : Fin 3) : k0_off28 c (BitVec.ofNat 32 t.val) = ![0, (unitAt false c t.castSucc).val]
    ∧ k0_off30 c (BitVec.ofNat 32 t.val) = ![48 * (unitAt false c t.castSucc).val, 0] ∧ k0_off29 c (BitVec.ofNat 32 t.val) = ![0, 48 * (unitAt false c t.castSucc).val, 0] := by
  revert c t; decide +kernel
theorem offColT (c : Dev nD) (t : Fin 3) : k0_off21 c (BitVec.ofNat 32 t.val) = ![0, (unitAt true c t.castSucc).val]
    ∧ k0_off23 c (BitVec.ofNat 32 t.val) = ![48 * (unitAt true c t.castSucc).val, 0] ∧ k0_off22 c (BitVec.ofNat 32 t.val) = ![0, 48 * (unitAt true c t.castSucc).val, 0] := by
  revert c t; decide +kernel

theorem startOwn_eq (c : Dev nD) (h : Bool) (k : Pg F) : startOwn c h k = start c (.p3 h 0 (unitAt h c 3)) k := by
  cases h
  · exact startAt_eq c false _ (sw := k0_off23_wordsbf16 c 1) (lw := k0_off22_wordsbf16 c 1) (offOwnF c).1 (offOwnF c).2.1 (offOwnF c).2.2 k
  · exact startAt_eq c true _ (sw := k0_off26_wordsbf16 c) (lw := k0_off25_wordsbf16 c) (offOwnT c).1 (offOwnT c).2.1 (offOwnT c).2.2 k
theorem startCol_eq (c : Dev nD) (t : Fin 3) (h : Bool) (k : Pg F) : startCol c t h k = start c (.p3 h 0 (unitAt h c t.castSucc)) k := by
  cases h
  · exact startAt_eq c false _ (sw := k0_off30_wordsbf16 c t) (lw := k0_off29_wordsbf16 c t) (offColF c t).1 (offColF c t).2.1 (offColF c t).2.2 k
  · exact startAt_eq c true _ (sw := k0_off23_wordsbf16 c t) (lw := k0_off22_wordsbf16 c t) (offColT c t).1 (offColT c t).2.1 (offColT c t).2.2 k

theorem v3_col (h : Bool) (c : Dev nD) (t : Fin 3) : v3 X Y h (unitAt h c t.castSucc) 0 c = k0_pay111 (unsq (v2b X Y h t.val (colFr h c))) := by
  have hne : (t.castSucc : Fin 4) ≠ 3 := Fin.castSucc_ne_last t
  rw [v3, posOf_unitAt, s3, if_neg hne]; rfl
theorem endT_col (h : Bool) (c : Dev nD) (t : Fin 3) : endT X Y c (jOwn h c) (unitAt h c t.castSucc) h = k0_pay112 (unsq (v2b X Y h t.val (colFr h c))) := by
  have hne : (t.castSucc : Fin 4) ≠ 3 := Fin.castSucc_ne_last t
  rw [endT_own, ownT, posOf_unitAt, if_neg hne]; rfl

theorem take2_lane (c : Dev nD) (t : Fin 3) (h : Bool) (q : PosShare TreeShare) {n n' a b w w' : ℕ} (hn : rank c (.p3 h 0 (unitAt h c t.castSucc)) = n) (hn' : n' = n + 1) (hb : b ≤ 62)
    (hw : w = 62 + 2 * t.val + hN h) (hw' : w' = w + 1) (k : Pg F) (Q : PUnit → sProp 𝕄) :
    iprop(Own c (slot3M (l2bM h) t) q (v2b X Y h t.val (colFr h c)) ∗ s3Any c t.castSucc h ∗ Pool X Y K c n a b ∗ OutI c (endK X Y c w)
      ∗ ((Own c (slot3M (l2bM h) t) q (v2b X Y h t.val (colFr h c)) ∗ Pool X Y K c n' a b ∗ OutI c (endK X Y c w')) -∗ Wp c k Q)) ⊢ Wp c (take2 c t h k) Q := by
  have hpos : 68 ≤ pos (.p3 h 0 (unitAt h c t.castSucc)) := by simp only [pos]; omega
  unfold take2
  iintro ⟨Hl, Hs, HS, HO, Hk⟩
  iapply (ld_slot3 c q (v2b X Y h t.val (colFr h c)))
  isplitl [Hl]; · iexact Hl
  iintro Hl
  iapply (fill_unit c (u := unitAt h c t.castSucc) (off3c_eq h c t))
  isplitl [Hs]; · iexact Hs
  iintro Hs
  rw [startCol_eq]
  iapply (pool_start X Y K c (.p3 h 0 (unitAt h c t.castSucc)) (n := n) (n' := n') (a := a) (b := b) hn hn' (by omega))
  isplitl [HS]; · iexact HS
  isplitl [Hs]
  · rw [source_p30, v3_col]; iexact Hs
  iintro HS
  iapply (ld_slot3 c q (v2b X Y h t.val (colFr h c)))
  isplitl [Hl]; · iexact Hl
  iintro Hl
  iapply (out_ld_any c)
  isplitl [HO]; · iexact HO
  iintro HO
  iapply (out_st c (j := jOwn h c) (u := unitAt h c t.castSucc) (h := h) (P := endK X Y c w) (P' := endK X Y c w') (off2b_eq h c t)
    (endK_step X Y c (.p2b h t) _ _ _ (by rw [pos_p2b]; omega) hw' rfl _ (endT_col X Y h c t).symm))
  isplitl [HO]; · iexact HO
  iintro HO
  iapply Hk
  isplitl [Hl]; · iexact Hl
  isplitl [HS]; · iexact HS
  iexact HO

theorem pass2_lane (c : Dev nD) (t t' : Fin 3) (ht : t'.val = t.val + 1) (h : Bool) {n n' w w' : ℕ} (hn : n = 66 + 4 * t.val + 2 * hN h) (hn' : n' = n + 2)
    (hw : w = 62 + 2 * t.val + hN h) (hw' : w' = w + 1) (k : Pg F) (Q : PUnit → sProp 𝕄) :
    iprop(St X Y K c n w 62 ∗ OutI c (endK X Y c w) ∗ s3Any c t.castSucc h ∗ ((St X Y K c n' w' 62 ∗ OutI c (endK X Y c w')) -∗ Wp c k Q)) ⊢ Wp c (pass2 c t t' h k) Q := by
  have hlt := t'.isLt
  have hc := rank_col c h t
  have h2 : ((2 : Fin 3) : ℕ) = 2 := rfl
  rw [if_neg (fun e => by subst e; omega)] at hc
  have hr := rank_p2b_le c h t
  unfold pass2 St
  iintro ⟨⟨HP, HK, HB⟩, HO, Ha, Hk⟩
  iapply (pool_recv X Y K c (.p2b h t) (n := n) (a := w) (a' := w') (b := 62) (by omega) (by rw [pos_p2b]; omega) hw')
  isplitl [HP]; · iexact HP
  rw [landed_p2b]
  iintro ⟨HP, Hl⟩
  ihave ⟨Hl, Hr⟩ := (own_halves c (slot3M (l2bM h) t) fullShare (v2b X Y h t.val (colFr h c))) $$ Hl
  iapply (pool_start X Y K c (.p2b h t') (n := n) (n' := n + 1) (a := w') (b := 62) (by rw [rank_p2b c h t t' ht]; omega) rfl (by rw [pos_p2b]; omega))
  isplitl [HP]; · iexact HP
  isplitl [Hl]
  · rw [source_p2b X Y c h t t' ht]; iexact Hl
  iintro HP
  iapply (take2_lane X Y K c t h fullShare.right (n := n + 1) (n' := n') (a := w') (b := 62) (w := w) (w' := w') (by omega) hn' (by omega) hw hw')
  isplitl [Hr]; · iexact Hr
  isplitl [Ha]; · iexact Ha
  isplitl [HP]; · iexact HP
  isplitl [HO]; · iexact HO
  iintro ⟨Hr, HP, HO⟩
  iapply Hk
  isplitr [HO]
  · isplitl [HP]; · iexact HP
    isplitl [HK Hr]
    · iapply (Lo_put (kept X Y c) pos_inj (.p2b h t) (n := w) (n' := w') (by rw [pos_p2b]; omega) hw')
      isplitl [Hr]
      · rw [kept_p2b, kshr_p2b h t (by omega)]; iexact Hr
      iexact HK
    iexact HB
  iexact HO

theorem last2_lane (c : Dev nD) (h : Bool) {n n' w w' : ℕ} (hn : n = 74 + hN h) (hn' : n' = n + 1) (hw : w = 66 + hN h) (hw' : w' = w + 1) (k : Pg F) (Q : PUnit → sProp 𝕄) :
    iprop(St X Y K c n w 62 ∗ OutI c (endK X Y c w) ∗ s3Any c (Fin.castSucc 2) h ∗ ((St X Y K c n' w' 62 ∗ OutI c (endK X Y c w')) -∗ Wp c k Q)) ⊢ Wp c (last2 c h k) Q := by
  have hc := rank_col c h 2
  have h2 : ((2 : Fin 3) : ℕ) = 2 := rfl
  rw [if_pos rfl] at hc
  have hr := rank_p2b_le c h 2
  unfold last2 St
  iintro ⟨⟨HP, HK, HB⟩, HO, Ha, Hk⟩
  iapply (pool_recv X Y K c (.p2b h 2) (n := n) (a := w) (a' := w') (b := 62) (by omega) (by rw [pos_p2b]; omega) hw')
  isplitl [HP]; · iexact HP
  rw [landed_p2b]
  iintro ⟨HP, Hl⟩
  iapply (take2_lane X Y K c 2 h fullShare (n := n) (n' := n') (a := w') (b := 62) (w := w) (w' := w') (by omega) hn' (by omega) (by omega) hw')
  isplitl [Hl]; · iexact Hl
  isplitl [Ha]; · iexact Ha
  isplitl [HP]; · iexact HP
  isplitl [HO]; · iexact HO
  iintro ⟨Hr, HP, HO⟩
  iapply Hk
  isplitr [HO]
  · isplitl [HP]; · iexact HP
    isplitl [HK Hr]
    · iapply (Lo_put (kept X Y c) pos_inj (.p2b h 2) (n := w) (n' := w') (by rw [pos_p2b]; omega) hw')
      isplitl [Hr]
      · rw [kept_p2b, show kshr (.p2b h 2) = fullShare from rfl]; iexact Hr
      iexact HK
    iexact HB
  iexact HO

theorem pass2_round (c : Dev nD) (t t' : Fin 3) (ht : t'.val = t.val + 1) {n n' w w' : ℕ} (hn : n = 66 + 4 * t.val) (hn' : n' = n + 4) (hw : w = 62 + 2 * t.val) (hw' : w' = w + 2) (k : Pg F) (Q : PUnit → sProp 𝕄) :
    iprop((St X Y K c n w 62 ∗ OutI c (endK X Y c w) ∗ Hi hN (s3Any (F := F) c t.castSucc) 0) ∗ ((St X Y K c n' w' 62 ∗ OutI c (endK X Y c w')) -∗ Wp c k Q)) ⊢ Wp c (each dirs (pass2 c t t') k) Q := by
  subst hn' hw'
  iintro ⟨H, Hk⟩
  iapply (wp_dirs c (fun m => iprop(St X Y K c (n + 2 * m) (w + m) 62 ∗ OutI c (endK X Y c (w + m)) ∗ Hi hN (s3Any (F := F) c t.castSucc) m)) (pass2 c t t') Q (fun h m hm k => by
    iintro ⟨⟨HS, HO, HA⟩, Hk⟩
    ihave ⟨Ha, HA⟩ := (Hi_take (s3Any (F := F) c t.castSucc) hN_inj h (n := m) (n' := m + 1) hm.symm rfl) $$ HA
    iapply (pass2_lane X Y K c t t' ht h (n := n + 2 * m) (n' := n + 2 * (m + 1)) (w := w + m) (w' := w + (m + 1)) (by omega) (by omega) (by omega) rfl)
    isplitl [HS]; · iexact HS
    isplitl [HO]; · iexact HO
    isplitl [Ha]; · iexact Ha
    iintro ⟨HS, HO⟩
    iapply Hk
    isplitl [HS]; · iexact HS
    isplitl [HO]; · iexact HO
    iexact HA) k)
  isplitl [H]; · iexact H
  iintro ⟨HS, HO, -⟩
  iapply Hk
  isplitl [HS]; · iexact HS
  iexact HO

theorem last2_round (c : Dev nD) (k : Pg F) (Q : PUnit → sProp 𝕄) :
    iprop((St X Y K c 74 66 62 ∗ OutI c (endK X Y c 66) ∗ Hi hN (s3Any (F := F) c (Fin.castSucc 2)) 0) ∗ ((St X Y K c 76 68 62 ∗ OutI c (endK X Y c 68)) -∗ Wp c k Q)) ⊢ Wp c (each dirs (last2 c) k) Q := by
  iintro ⟨H, Hk⟩
  iapply (wp_dirs c (fun m => iprop(St X Y K c (74 + m) (66 + m) 62 ∗ OutI c (endK X Y c (66 + m)) ∗ Hi hN (s3Any (F := F) c (Fin.castSucc 2)) m)) (last2 c) Q (fun h m hm k => by
    iintro ⟨⟨HS, HO, HA⟩, Hk⟩
    ihave ⟨Ha, HA⟩ := (Hi_take (s3Any (F := F) c (Fin.castSucc 2)) hN_inj h (n := m) (n' := m + 1) hm.symm rfl) $$ HA
    iapply (last2_lane X Y K c h (n := 74 + m) (n' := 74 + (m + 1)) (w := 66 + m) (w' := 66 + (m + 1)) (by omega) rfl (by omega) rfl)
    isplitl [HS]; · iexact HS
    isplitl [HO]; · iexact HO
    isplitl [Ha]; · iexact Ha
    iintro ⟨HS, HO⟩
    iapply Hk
    isplitl [HS]; · iexact HS
    isplitl [HO]; · iexact HO
    iexact HA) k)
  isplitl [H]; · iexact H
  iintro ⟨HS, HO, -⟩
  iapply Hk
  isplitl [HS]; · iexact HS
  iexact HO

/-- The whole column-ring broadcast. -/
theorem wp_ring2b (c : Dev nD) (k : Pg F) (Q : PUnit → sProp 𝕄) :
    iprop((St X Y K c 62 62 62 ∗ OutI c (fin2P X Y c 2) ∗ Hi hN (fun h => source X Y c (.p2b h 0)) 0 ∗ Hi hN (fun h => source X Y c (.p3 h 0 (unitAt h c 3))) 0
        ∗ Hi hN (s3Any (F := F) c 0) 0 ∗ Hi hN (s3Any (F := F) c 1) 0 ∗ Hi hN (s3Any (F := F) c 2) 0)
      ∗ ((St X Y K c 76 68 62 ∗ OutI c (endK X Y c 68)) -∗ Wp c k Q)) ⊢ Wp c (ring2b c k) Q := by
  unfold ring2b
  iintro ⟨⟨HS, HO, H2, H3, HA0, HA1, HA2⟩, Hk⟩
  iapply (start_dirs X Y K c (fun h => .p2b h 0) (n := 62) (n' := 64) (b := 62) (fun h => rfl) (fun h => by rw [pos_p2b]; omega) rfl _ (fun _ _ => rfl))
  isplitl [HS H2]
  · isplitl [HS]; · iexact HS
    iexact H2
  iintro HS
  iapply (start_dirs X Y K c (fun h => .p3 h 0 (unitAt h c 3)) (n := 64) (n' := 66) (b := 62) (fun h => by rw [rank_own]) (fun h => by simp only [pos]; omega) rfl _ (startOwn_eq c))
  isplitl [HS H3]
  · isplitl [HS]; · iexact HS
    iexact H3
  iintro HS
  iapply (pass2_round X Y K c 0 1 rfl (n := 66) (n' := 70) (w := 62) (w' := 64) rfl rfl rfl rfl)
  isplitl [HS HO HA0]
  · isplitl [HS]; · iexact HS
    isplitl [HO]; · iapply (out_weaken c (endK_begin X Y c)); iexact HO
    iexact HA0
  iintro ⟨HS, HO⟩
  iapply (pass2_round X Y K c 1 2 rfl (n := 70) (n' := 74) (w := 64) (w' := 66) rfl rfl rfl rfl)
  isplitl [HS HO HA1]
  · isplitl [HS]; · iexact HS
    isplitl [HO]; · iexact HO
    iexact HA1
  iintro ⟨HS, HO⟩
  iapply (last2_round X Y K c)
  isplitl [HS HO HA2]
  · isplitl [HS]; · iexact HS
    isplitl [HO]; · iexact HO
    iexact HA2
  iexact Hk

/-! ## The row-ring broadcast -/

theorem rank_p3 (c : Dev nD) (h : Bool) (t t' : Fin 7) (ht : t'.val = t.val + 1) (u : Fin 4) : rank c (.p3 h t' u) = 76 + 8 * t.val + 2 * u.val + hN h := by
  obtain ⟨t', h'⟩ := t'
  obtain rfl : t' = t.val + 1 := ht
  rfl
theorem rank_p3_le (c : Dev nD) (h : Bool) (t : Fin 7) (u : Fin 4) : rank c (.p3 h t u) < 76 + 8 * t.val := by
  revert h t u c; decide +kernel
theorem pos_p3 (h : Bool) (t : Fin 7) (u : Fin 4) : pos (.p3 h t u) = 68 + 8 * t.val + 2 * u.val + hN h := rfl
theorem landed_p3 (c : Dev nD) (h : Bool) (t : Fin 7) (u : Fin 4) : landed X Y c (.p3 h t u) = Own c (slotM (l3M h) t u) fullShare (v3 X Y h u t.val (rowFr h c)) := rfl
theorem kept_p3 (c : Dev nD) (h : Bool) (t : Fin 7) (u : Fin 4) : kept X Y c (.p3 h t u) = Own c (slotM (l3M h) t u) (kshr (.p3 h t u)) (v3 X Y h u t.val (rowFr h c)) := rfl
theorem source_p3 (c : Dev nD) (h : Bool) (t t' : Fin 7) (ht : t'.val = t.val + 1) (u : Fin 4) :
    source X Y c (.p3 h t' u) = Own c (slotM (l3M h) t u) fullShare.left (v3 X Y h u t.val (rowFr h c)) := by
  obtain ⟨t', h'⟩ := t'
  obtain rfl : t' = t.val + 1 := ht
  rfl
theorem kshr_p3 (h : Bool) (t : Fin 7) (u : Fin 4) (ht : t.val < 6) : kshr (.p3 h t u) = fullShare.right := if_neg fun e => by subst e; exact absurd ht (by decide)

theorem take3_lane (c : Dev nD) (t : Fin 7) (u : Fin 4) (h : Bool) (q : PosShare TreeShare) {w w' : ℕ} (hw : w = 68 + 8 * t.val + 2 * u.val + hN h) (hw' : w' = w + 1) (k : Pg F) (Q : PUnit → sProp 𝕄) :
    iprop(Own c (slotM (l3M h) t u) q (v3 X Y h u t.val (rowFr h c)) ∗ OutI c (endK X Y c w)
      ∗ ((Own c (slotM (l3M h) t u) q (v3 X Y h u t.val (rowFr h c)) ∗ OutI c (endK X Y c w')) -∗ Wp c k Q)) ⊢ Wp c (take3 c t (u, h) k) Q := by
  unfold take3
  iintro ⟨Hl, HO, Hk⟩
  iapply (ld_slot c q (v3 X Y h u t.val (rowFr h c)))
  isplitl [Hl]; · iexact Hl
  iintro Hl
  iapply (out_ld_any c)
  isplitl [HO]; · iexact HO
  iintro HO
  iapply (out_st c (j := j3 h c t) (u := u) (h := h) (P := endK X Y c w) (P' := endK X Y c w') (off3_eq h c t u)
    (endK_step X Y c (.p3 h t u) _ _ _ (by rw [pos_p3]; omega) hw' rfl _ (endT_j3 X Y c t u h).symm))
  isplitl [HO]; · iexact HO
  iintro HO
  iapply Hk
  isplitl [Hl]; · iexact Hl
  iexact HO

theorem pass3_lane (c : Dev nD) (t t' : Fin 7) (ht : t'.val = t.val + 1) (u : Fin 4) (h : Bool) {n n' w w' : ℕ} (hn : n = 76 + 8 * t.val + 2 * u.val + hN h) (hn' : n' = n + 1)
    (hw : w = 68 + 8 * t.val + 2 * u.val + hN h) (hw' : w' = w + 1) (k : Pg F) (Q : PUnit → sProp 𝕄) :
    iprop(St X Y K c n w 62 ∗ OutI c (endK X Y c w) ∗ ((St X Y K c n' w' 62 ∗ OutI c (endK X Y c w')) -∗ Wp c k Q)) ⊢ Wp c (pass3 c t t' (u, h) k) Q := by
  have hlt := t'.isLt
  have hr := rank_p3_le c h t u
  unfold pass3 St
  iintro ⟨⟨HP, HK, HB⟩, HO, Hk⟩
  iapply (pool_recv X Y K c (.p3 h t u) (n := n) (a := w) (a' := w') (b := 62) (by omega) (by rw [pos_p3]; omega) hw')
  isplitl [HP]; · iexact HP
  rw [landed_p3]
  iintro ⟨HP, Hl⟩
  ihave ⟨Hl, Hr⟩ := (own_halves c (slotM (l3M h) t u) fullShare (v3 X Y h u t.val (rowFr h c))) $$ Hl
  iapply (pool_start X Y K c (.p3 h t' u) (n := n) (n' := n') (a := w') (b := 62) (by rw [rank_p3 c h t t' ht]; omega) hn' (by rw [pos_p3]; omega))
  isplitl [HP]; · iexact HP
  isplitl [Hl]
  · rw [source_p3 X Y c h t t' ht]; iexact Hl
  iintro HP
  iapply (take3_lane X Y c t u h fullShare.right (w := w) (w' := w') hw hw')
  isplitl [Hr]; · iexact Hr
  isplitl [HO]; · iexact HO
  iintro ⟨Hr, HO⟩
  iapply Hk
  isplitr [HO]
  · isplitl [HP]; · iexact HP
    isplitl [HK Hr]
    · iapply (Lo_put (kept X Y c) pos_inj (.p3 h t u) (n := w) (n' := w') (by rw [pos_p3]; omega) hw')
      isplitl [Hr]
      · rw [kept_p3, kshr_p3 h t u (by omega)]; iexact Hr
      iexact HK
    iexact HB
  iexact HO

theorem last3_lane (c : Dev nD) (u : Fin 4) (h : Bool) {w w' : ℕ} (hw : w = 116 + 2 * u.val + hN h) (hw' : w' = w + 1) (k : Pg F) (Q : PUnit → sProp 𝕄) :
    iprop(St X Y K c 124 w 62 ∗ OutI c (endK X Y c w) ∗ ((St X Y K c 124 w' 62 ∗ OutI c (endK X Y c w')) -∗ Wp c k Q)) ⊢ Wp c (last3 c (u, h) k) Q := by
  have h6 : ((6 : Fin 7) : ℕ) = 6 := rfl
  unfold last3 St
  iintro ⟨⟨HP, HK, HB⟩, HO, Hk⟩
  iapply (pool_recv X Y K c (.p3 h 6 u) (n := 124) (a := w) (a' := w') (b := 62) (rank_lt c _) (by rw [pos_p3]; omega) hw')
  isplitl [HP]; · iexact HP
  rw [landed_p3]
  iintro ⟨HP, Hl⟩
  iapply (take3_lane X Y c 6 u h fullShare (w := w) (w' := w') (by omega) hw')
  isplitl [Hl]; · iexact Hl
  isplitl [HO]; · iexact HO
  iintro ⟨Hr, HO⟩
  iapply Hk
  isplitr [HO]
  · isplitl [HP]; · iexact HP
    isplitl [HK Hr]
    · iapply (Lo_put (kept X Y c) pos_inj (.p3 h 6 u) (n := w) (n' := w') (by rw [pos_p3]; omega) hw')
      isplitl [Hr]
      · rw [kept_p3, show kshr (.p3 h 6 u) = fullShare from rfl]; iexact Hr
      iexact HK
    iexact HB
  iexact HO

theorem pass3_round (c : Dev nD) (t t' : Fin 7) (ht : t'.val = t.val + 1) {n n' w w' : ℕ} (hn : n = 76 + 8 * t.val) (hn' : n' = n + 8) (hw : w = 68 + 8 * t.val) (hw' : w' = w + 8) (k : Pg F) (Q : PUnit → sProp 𝕄) :
    iprop((St X Y K c n w 62 ∗ OutI c (endK X Y c w)) ∗ ((St X Y K c n' w' 62 ∗ OutI c (endK X Y c w')) -∗ Wp c k Q)) ⊢ Wp c (each lanes (pass3 c t t') k) Q := by
  subst hn' hw'
  exact wp_lanes c (fun m => iprop(St X Y K c (n + m) (w + m) 62 ∗ OutI c (endK X Y c (w + m)))) (pass3 c t t') Q (fun u h m hm k => by
    rw [laneNo_eq] at hm
    iintro ⟨⟨HS, HO⟩, Hk⟩
    iapply (pass3_lane X Y K c t t' ht u h (n := n + m) (n' := n + (m + 1)) (w := w + m) (w' := w + (m + 1)) (by omega) rfl (by omega) rfl)
    isplitl [HS]; · iexact HS
    isplitl [HO]; · iexact HO
    iexact Hk) k

theorem last3_round (c : Dev nD) (k : Pg F) (Q : PUnit → sProp 𝕄) :
    iprop((St X Y K c 124 116 62 ∗ OutI c (endK X Y c 116)) ∗ ((St X Y K c 124 124 62 ∗ OutI c (endK X Y c 124)) -∗ Wp c k Q)) ⊢ Wp c (each lanes (last3 c) k) Q :=
  wp_lanes c (fun m => iprop(St X Y K c 124 (116 + m) 62 ∗ OutI c (endK X Y c (116 + m)))) (last3 c) Q (fun u h m hm k => by
    rw [laneNo_eq] at hm
    iintro ⟨⟨HS, HO⟩, Hk⟩
    iapply (last3_lane X Y K c u h (w := 116 + m) (w' := 116 + (m + 1)) (by omega) rfl)
    isplitl [HS]; · iexact HS
    isplitl [HO]; · iexact HO
    iexact Hk) k

/-- The whole row-ring broadcast. -/
theorem wp_ring3 (c : Dev nD) (k : Pg F) (Q : PUnit → sProp 𝕄) :
    iprop((St X Y K c 76 68 62 ∗ OutI c (endK X Y c 68)) ∗ ((St X Y K c 124 124 62 ∗ OutI c (endK X Y c 124)) -∗ Wp c k Q)) ⊢ Wp c (ring3 c k) Q := by
  unfold ring3
  iintro ⟨H, Hk⟩
  iapply (pass3_round X Y K c 0 1 rfl (n := 76) (n' := 84) (w := 68) (w' := 76) rfl rfl rfl rfl); isplitl [H]; · iexact H
  iintro H
  iapply (pass3_round X Y K c 1 2 rfl (n := 84) (n' := 92) (w := 76) (w' := 84) rfl rfl rfl rfl); isplitl [H]; · iexact H
  iintro H
  iapply (pass3_round X Y K c 2 3 rfl (n := 92) (n' := 100) (w := 84) (w' := 92) rfl rfl rfl rfl); isplitl [H]; · iexact H
  iintro H
  iapply (pass3_round X Y K c 3 4 rfl (n := 100) (n' := 108) (w := 92) (w' := 100) rfl rfl rfl rfl); isplitl [H]; · iexact H
  iintro H
  iapply (pass3_round X Y K c 4 5 rfl (n := 108) (n' := 116) (w := 100) (w' := 108) rfl rfl rfl rfl); isplitl [H]; · iexact H
  iintro H
  iapply (pass3_round X Y K c 5 6 rfl (n := 116) (n' := 124) (w := 108) (w' := 116) rfl rfl rfl rfl); isplitl [H]; · iexact H
  iintro H
  iapply (last3_round X Y K c); isplitl [H]; · iexact H
  iexact Hk

/-! ## The end -/

/-- The positive part of the two kept half blocks. -/
theorem wp_relu (c : Dev nD) (k : Pg F) (Q : PUnit → sProp 𝕄) :
    iprop(OutI c (endK X Y c 124) ∗ (Own c oM fullShare (outV X Y c) -∗ Wp c k Q))
      ⊢ Wp c (reluBlk (k0_off35 c) (k0_off35_inb c) <| reluBlk (k0_off36 c) (k0_off36_inb c) k) Q := by
  unfold OutI
  iintro ⟨⟨%f, %hf, H⟩, Hk⟩
  rw [endK_end X Y c f hf]
  iapply (out_relu c (j := jOwn false c) (h := false) (off35_eq c) (endO X Y c))
  isplitl [H]; · iexact H
  iintro H
  iapply (out_relu c (j := jOwn true c) (h := true) (off36_eq c) (endP X Y c))
  isplitl [H]
  · unfold endP; iexact H
  iintro H
  iapply Hk
  unfold outV; iexact H

theorem drain2_round (c : Dev nD) (t : Fin 3) {b b' : ℕ} (hb : b = 62 + 2 * t.val) (hb' : b' = b + 2) (k : Pg F) (Q : PUnit → sProp 𝕄) :
    iprop(St X Y K c 124 124 b ∗ (St X Y K c 124 124 b' -∗ Wp c k Q)) ⊢ Wp c (each dirs (fun h => waitSend (.p2b h t)) k) Q := by
  subst hb'
  exact wp_dirs c (fun m => St X Y K c 124 124 (b + m)) (fun h => waitSend (.p2b h t)) Q (fun h m hm k =>
    st_send_back X Y K c (.p2b h t) (rank_lt c _) (by rw [pos_p2b]; omega) rfl rfl k Q) k
theorem drain3_round (c : Dev nD) (t : Fin 7) {b b' : ℕ} (hb : b = 68 + 8 * t.val) (hb' : b' = b + 8) (k : Pg F) (Q : PUnit → sProp 𝕄) :
    iprop(St X Y K c 124 124 b ∗ (St X Y K c 124 124 b' -∗ Wp c k Q)) ⊢ Wp c (each lanes (fun p => waitSend (.p3 p.2 t p.1)) k) Q := by
  subst hb'
  exact wp_lanes c (fun m => St X Y K c 124 124 (b + m)) (fun p => waitSend (.p3 p.2 t p.1)) Q (fun u h m hm k => by
    rw [laneNo_eq] at hm
    exact st_send_back X Y K c (.p3 h t u) (rank_lt c _) (by rw [pos_p3]; omega) rfl rfl k Q) k

theorem wp_drain (c : Dev nD) (k : Pg F) (Q : PUnit → sProp 𝕄) :
    iprop(St X Y K c 124 124 62 ∗ (St X Y K c 124 124 124 -∗ Wp c k Q)) ⊢ Wp c (drain k) Q := by
  unfold drain
  iintro ⟨H, Hk⟩
  iapply (drain2_round X Y K c 0 (b := 62) (b' := 64) rfl rfl); isplitl [H]; · iexact H
  iintro H
  iapply (drain2_round X Y K c 1 (b := 64) (b' := 66) rfl rfl); isplitl [H]; · iexact H
  iintro H
  iapply (drain2_round X Y K c 2 (b := 66) (b' := 68) rfl rfl); isplitl [H]; · iexact H
  iintro H
  iapply (drain3_round X Y K c 0 (b := 68) (b' := 76) rfl rfl); isplitl [H]; · iexact H
  iintro H
  iapply (drain3_round X Y K c 1 (b := 76) (b' := 84) rfl rfl); isplitl [H]; · iexact H
  iintro H
  iapply (drain3_round X Y K c 2 (b := 84) (b' := 92) rfl rfl); isplitl [H]; · iexact H
  iintro H
  iapply (drain3_round X Y K c 3 (b := 92) (b' := 100) rfl rfl); isplitl [H]; · iexact H
  iintro H
  iapply (drain3_round X Y K c 4 (b := 100) (b' := 108) rfl rfl); isplitl [H]; · iexact H
  iintro H
  iapply (drain3_round X Y K c 5 (b := 108) (b' := 116) rfl rfl); isplitl [H]; · iexact H
  iintro H
  iapply (drain3_round X Y K c 6 (b := 116) (b' := 124) rfl rfl); isplitl [H]; · iexact H
  iexact Hk

end Cert.KernelIdeal.Run
end
-- ==== Proof.Head.lean ====
/-
Everything up to the first copies: the first blocks of the partial product, and the staging of the block that
travels first.
-/
module

public import proofs.«01_k».proof.Proof.Bcast

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The units of a staging block -/

theorem uRect_disj (u u' : Fin 4) (hu : u ≠ u') : Disjoint (uRect u).set (uRect u').set := by
  rw [Finset.disjoint_left]
  intro x hx hx'
  rw [LoadRect.mem_set] at hx hx'
  obtain ⟨a, ha, e0⟩ := hx 0
  obtain ⟨a', ha', e0'⟩ := hx' 0
  have ka : a < 48 := ha
  have ka' : a' < 48 := ha'
  have f0 : (x 0).val = 48 * u.val + 1 * a := e0
  have f0' : (x 0).val = 48 * u'.val + 1 * a' := e0'
  exact hu (Fin.ext (by omega))
theorem uRect_cover : (Finset.univ : Finset (Fin 4)).biUnion (fun u => (uRect u).set) = Finset.univ := by
  refine Finset.eq_univ_of_forall fun x => ?_
  have h0 : (x 0).val < 192 := (x 0).isLt
  have h1 : (x 1).val < 768 := (x 1).isLt
  rw [Finset.mem_biUnion]
  refine ⟨⟨(x 0).val / 48, by omega⟩, Finset.mem_univ _, ?_⟩
  rw [LoadRect.mem_set]
  intro a
  fin_cases a
  · exact ⟨(x 0).val % 48, Nat.mod_lt _ (by decide), show (x 0).val = 48 * ((x 0).val / 48) + 1 * ((x 0).val % 48) by omega⟩
  · exact ⟨(x 1).val, h1, show (x 1).val = 0 + 1 * (x 1).val by omega⟩

/-- A staging block is its four units. -/
theorem own_units (c : Dev nD) (m : Memref sig .tc .vmem S192x768 .bf16) (V : Vec F S192x768 .bf16) :
    (Own c m fullShare V : sProp 𝕄) ⊢ bigSep Finset.univ fun u => Own c (unitM m u) fullShare (fun i => V ((uRect u).emb i)) :=
  owns_rects (c : Thread nD τ) m fullShare (fun u : Fin 4 => uRect u) (fun _ _ => rfl) uRect_disj uRect_cover V

/-! ## Up to the first copies -/

theorem out_ldBlk (c : Dev nD) {P : Vec F S1536x1536 .f32 → Prop} {off : Fin 2 → ℕ} {inb : ∀ a, off a + S192x768.size a ≤ S1536x1536.size a} {j : Fin 8} {h : Bool} (ho : off = hOff j h)
    {v : Vec F S192x768 .f32} (hv : ∀ f, P f → (fun i => f ((hRect j h).emb i)) = v) (k : Vec F S192x768 .f32 → Pg F) (Q : PUnit → sProp 𝕄) :
    iprop(OutI c P ∗ (OutI c P -∗ Wp c (k v) Q)) ⊢ Wp c (ldBlk off inb k) Q := by
  subst ho
  unfold OutI ldBlk
  iintro ⟨⟨%f, %hf, H⟩, Hk⟩
  iapply (wp_ld c oM _ k Q fullShare f)
  rw [show (fun i => f ((Rect.unit (s := S1536x1536) (hOff j h) S192x768.size inb).emb i)) = v from hv f hf]
  isplitl [H]; · iexact H
  iintro H
  iapply Hk
  iexists f; isplitr
  · ipureintro; exact hf
  · iexact H

variable (X : Dev nD → Vec F S1536x768 .f32) (Y : Dev nD → Vec F S768x1536 .f32)
variable (K : Dev nD × CIx → ℕ)

/-- The staged block, cut into what the first copies carry. -/
theorem staged_units (c : Dev nD) (h : Bool) :
    (Own c (s1M h) fullShare (k0_pay3 (dotH X Y c (blkAt h c 0) h)) : sProp 𝕄) ⊢ bigSep Finset.univ fun u => source X Y c (.p1 h 0 u) :=
  own_units c (s1M h) _

/-- The sources of the first copies, in the order of the lanes. -/
theorem lanes_of_dirs (Φ : Fin 4 × Bool → sProp 𝕄) :
    iprop((bigSep Finset.univ fun u => Φ (u, false)) ∗ (bigSep Finset.univ fun u => Φ (u, true))) ⊢ Hi laneNo Φ 0 := by
  rw [Hi_zero, bigSep_univ_equiv (Equiv.prodComm Bool (Fin 4)), BI.bigSep_univ_prod,
    bigSep_univ_eq_bigSepL [false, true] (by decide) (by decide)]
  exact BI.Entails.refl _

theorem start_lanes (c : Dev nD) (k : Pg F) (Q : PUnit → sProp 𝕄) :
    iprop((St X Y K c 0 0 0 ∗ Hi laneNo (fun p : Fin 4 × Bool => source X Y c (.p1 p.2 0 p.1)) 0) ∗ (St X Y K c 8 0 0 -∗ Wp c k Q))
      ⊢ Wp c (each lanes (fun p => start c (.p1 p.2 0 p.1)) k) Q := by
  iintro ⟨H, Hk⟩
  iapply (wp_lanes c (fun m => iprop(St X Y K c m 0 0 ∗ Hi laneNo (fun p : Fin 4 × Bool => source X Y c (.p1 p.2 0 p.1)) m)) (fun p => start c (.p1 p.2 0 p.1)) Q
    (fun u h m hm k => by
      iintro ⟨⟨HS, HH⟩, Hk⟩
      ihave ⟨Hs, HH⟩ := (Hi_take (fun p : Fin 4 × Bool => source X Y c (.p1 p.2 0 p.1)) laneNo_inj (u, h) (n := m) (n' := m + 1) hm.symm rfl) $$ HH
      iapply (st_start X Y K c (.p1 h 0 u) (n := m) (n' := m + 1) (a := 0) (b := 0) (by rw [hm, rank_p1, laneNo_eq]; simp) rfl (Nat.zero_le _))
      isplitl [HS]; · iexact HS
      isplitl [Hs]; · iexact Hs
      iintro HS
      iapply Hk
      isplitl [HS]; · iexact HS
      iexact HH) k)
  isplitl [H]; · iexact H
  iintro ⟨HS, -⟩
  iapply Hk; iexact HS

theorem wp_stage1 (c : Dev nD) (k : Pg F) (Q : PUnit → sProp 𝕄) :
    iprop((OutI c (dotsP X Y c [0]) ∗ OwnAny c (s1M false) ∗ OwnAny c (s1M true))
      ∗ ((OutI c (dotsP X Y c [0]) ∗ Hi laneNo (fun p : Fin 4 × Bool => source X Y c (.p1 p.2 0 p.1)) 0) -∗ Wp c k Q)) ⊢ Wp c (stage1 c k) Q := by
  unfold stage1
  iintro ⟨⟨HO, HA, HB⟩, Hk⟩
  iapply (out_ldBlk c (P := dotsP X Y c [0]) (j := blkAt false c 0) (h := false) (off3s_eq c) (v := dotH X Y c (blkAt false c 0) false)
    (fun f hf => dotsP_half X Y c [0] f hf false 0 (by decide)))
  isplitl [HO]; · iexact HO
  iintro HO
  iapply (fill_block c)
  isplitl [HA]; · iexact HA
  iintro HA
  iapply (out_ldBlk c (P := dotsP X Y c [0]) (j := blkAt true c 0) (h := true) (off4s_eq c) (v := dotH X Y c (blkAt true c 0) true)
    (fun f hf => dotsP_half X Y c [0] f hf true 0 (by decide)))
  isplitl [HO]; · iexact HO
  iintro HO
  iapply (fill_block c)
  isplitl [HB]; · iexact HB
  iintro HB
  iapply Hk
  isplitl [HO]; · iexact HO
  iapply (lanes_of_dirs fun p : Fin 4 × Bool => source X Y c (.p1 p.2 0 p.1))
  isplitl [HA]
  · iapply (staged_units X Y c false); iexact HA
  · iapply (staged_units X Y c true); iexact HB

/-- What the device is given at the start and has no use for in the exchange: its operands and its result. -/
theorem wp_head (c : Dev nD) (k : Pg F) (Q : PUnit → sProp 𝕄) :
    iprop((Own c aM fullShare (X c) ∗ Own c bM fullShare (Y c) ∗ OwnAny c bbM ∗ OwnAny c oM ∗ OwnAny c (s1M false) ∗ OwnAny c (s1M true) ∗ St X Y K c 0 0 0)
      ∗ ((Own c bM fullShare (Y c) ∗ AB X Y c ∗ St X Y K c 8 0 0 ∗ OutI c (dotsP X Y c [7, 1, 0])) -∗ Wp c k Q)) ⊢ Wp c (head c k) Q := by
  unfold head
  iintro ⟨⟨HA, HB, Hbb, ⟨%f, HO⟩, H1, H2, HS⟩, Hk⟩
  iapply (wp_castB Y c)
  isplitl [HB Hbb]
  · isplitl [HB]; · iexact HB
    iexact Hbb
  iintro ⟨HB, Hbb⟩
  iapply (wp_dot X Y c 0 [] (offA0 c))
  isplitl [HA Hbb HO]
  · isplitl [HA]; · iexact HA
    isplitl [Hbb]; · iexact Hbb
    unfold OutI
    iexists f; isplitr
    · ipureintro; exact fun e he => absurd he (by simp)
    · iexact HO
  iintro ⟨HA, Hbb, HO⟩
  iapply (wp_stage1 X Y c)
  isplitl [HO H1 H2]
  · isplitl [HO]; · iexact HO
    isplitl [H1]; · iexact H1
    iexact H2
  iintro ⟨HO, HH⟩
  iapply (start_lanes X Y K c)
  isplitl [HS HH]
  · isplitl [HS]; · iexact HS
    iexact HH
  iintro HS
  iapply (dot_step X Y c 1 [0] (offA1 c) (St X Y K c 8 0 0))
  isplitl [HA Hbb HS HO]
  · isplitl [HA Hbb]
    · isplitl [HA]; · iexact HA
      iexact Hbb
    isplitl [HS]; · iexact HS
    iexact HO
  iintro H
  iapply (dot_step X Y c 7 [1, 0] (offA7 c) (St X Y K c 8 0 0))
  isplitl [H]; · iexact H
  iintro H
  iapply Hk
  isplitl [HB]; · iexact HB
  iexact H

end Cert.KernelIdeal.Run
end
-- ==== Proof.Barrier.lean ====
/-
The barrier at the start: the four signals and the wait.
-/
module

public import proofs.«01_k».proof.Proof.Bcast

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1536x768 .f32) (Y : Dev nD → Vec F S768x1536 .f32)
variable (K : Dev nD × CIx → ℕ)

/-- What a device owes at its neighbours' barriers, with the arrivals owed after it. -/
def duesB (c : Dev nD) : ℕ → CellTallies nD τ sig Unit
  | 0 => dues c 0
  | n + 1 => duesB c n + tallyAt (barCell (nbrFr (Fin.ofNat 4 (3 - n)) c)) () 1

/-- All that a device owes at the start. -/
def O₀ (c : Dev nD) : CellTallies nD τ sig Unit := duesB c 4

/-- One signal: the landing slots that a neighbour's copies go to are handed to it. -/
theorem wp_sig (c : Dev nD) (k : Fin 4) (O : CellTallies nD τ sig Unit) (p : Pg F) (Q : PUnit → sProp 𝕄) :
    iprop(ctx X Y K ∗ (∃ W, owes (c : Thread nD τ) (O + tallyAt (barCell (nbrFr k c)) () 1) W) ∗ dutyTok ER (barCell (nbrFr k c)) 0 k
        ∗ (bigSep (Finset.univ.filter fun i => grp i = k) fun i => slotAny c i) ∗ ((∃ W, owes (c : Thread nD τ) O W) -∗ Wp c p Q))
      ⊢ Wp c (.op (.semSignal (nbrFr k c, .tc) (sig.barrier 0 rfl) (1#32).toInt) fun _ => p) Q := by
  unfold ctx
  iintro ⟨⟨#Hrec, #Hlev⟩, ⟨%W, HO⟩, Ht, Hs, Hk⟩
  ihave ⟨#HI, #Hr⟩ := (recs_at X Y K (nbrFr k c, none)) $$ Hrec
  iapply (Rounds.wp_signal 𝒱₀ ER (Rd X Y) (c : Thread nD τ) none (dst := (nbrFr k c : Thread nD τ)) (κ := K (nbrFr k c, none))
      (d := k) (by rw [duties_bar X Y (nbrFr k c)]; exact Finset.mem_univ _) ((amount_bar X Y (nbrFr k c) k).trans (by decide)) () O rfl) $$ [HO Ht Hs]
  · isplitr; · iexact HI
    isplitl [HO]; · iexact HO
    isplitl [Ht]; · iexact Ht
    isplitl [Hs]
    · rw [payload_bar X Y (nbrFr k c) k]; unfold barPay; rw [nbr_nbrFr]; iexact Hs
    · iexact Hr
  iintro HO
  iapply Hk
  iexists W; iexact HO

theorem four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-- What the barrier takes. -/
def BarIn (c : Dev nD) : sProp 𝕄 :=
  iprop(ctx X Y K ∗ (∃ W, owes (c : Thread nD τ) (O₀ c) W) ∗ (bigSep Finset.univ fun k : Fin 4 => dutyTok ER (barCell (nbrFr k c)) 0 k)
    ∗ (bigSep Finset.univ fun i => slotAny c i) ∗ atPos ER (barCell c) 0 ∅ 0 ∗ cred (tallyAt (barCell c) () 4))

/-- The barrier: the device gives up its landing slots and gets those its own copies go to. -/
theorem wp_barrier (c : Dev nD) (p : Pg F) (Q : PUnit → sProp 𝕄) :
    iprop(BarIn X Y K c ∗ ((Ow c 0 ∗ atPos ER (barCell c) (0 + 1) ∅ 0 ∗ (bigSep Finset.univ fun i : Copy => slotAny (i.dst c) i)) -∗ Wp c p Q))
      ⊢ Wp c (barrier c p) Q := by
  unfold BarIn
  rw [four fun k => dutyTok ER (barCell (nbrFr k c)) 0 k,
    bigSep_fiberwise Finset.univ grp, show Finset.univ.image grp = Finset.univ from by decide, four]
  unfold barrier
  iintro ⟨⟨#Hctx, HO, ⟨Ht0, Ht1, Ht2, Ht3⟩, ⟨Hs0, Hs1, Hs2, Hs3⟩, Hat, Hc⟩, Hk⟩
  iapply (wp_sig X Y K c 0 (duesB c 3))
  isplitr; · iexact Hctx
  isplitl [HO]; · iexact HO
  isplitl [Ht0]; · iexact Ht0
  isplitl [Hs0]; · iexact Hs0
  iintro HO
  iapply (wp_sig X Y K c 1 (duesB c 2))
  isplitr; · iexact Hctx
  isplitl [HO]; · iexact HO
  isplitl [Ht1]; · iexact Ht1
  isplitl [Hs1]; · iexact Hs1
  iintro HO
  iapply (wp_sig X Y K c 2 (duesB c 1))
  isplitr; · iexact Hctx
  isplitl [HO]; · iexact HO
  isplitl [Ht2]; · iexact Ht2
  isplitl [Hs2]; · iexact Hs2
  iintro HO
  iapply (wp_sig X Y K c 3 (duesB c 0))
  isplitr; · iexact Hctx
  isplitl [HO]; · iexact HO
  isplitl [Ht3]; · iexact Ht3
  isplitl [Hs3]; · iexact Hs3
  iintro ⟨%W, HO⟩
  unfold ctx
  icases Hctx with ⟨#Hrec, #Hlev⟩
  ihave ⟨#HI, #Hr⟩ := (recs_at X Y K (c, none)) $$ Hrec
  iapply (Rounds.wp_wait_rest_token 𝒱₀ ER (Rd X Y) (c : Thread nD τ) none (κ := K (c, none))
      (wpE_semWait_eq 𝒱₀ (c : Thread nD τ) none Set.univ) (Set.mem_univ _) () (O := dues c 0) (W := W) (R := 0) (m := 0) (T := ∅)
      (show 0 + (4#32).toNat = (Rd X Y).expect (barCell c) 0 from by rw [expect_bar X Y c]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  iapply Hk
  isplitl [HO]
  · unfold Ow; iexists _; iexact HO
  isplitl [Hat]; · iexact Hat
  iapply (rest_bar X Y c); iexact Hpay

end Cert.KernelIdeal.Run
end
-- ==== Proof.Bufs.lean ====
/-
The scratch arrays: cut into landing slots and staging units at the start, put together again at the end.
-/
module

public import proofs.«01_k».proof.Proof.Head
public import proofs.«01_k».proof.Proof.Barrier

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families over small types and over the copies -/

theorem big_mono {α : Type} [Fintype α] {Φ Ψ : α → sProp 𝕄} (h : ∀ i, Φ i ⊢ Ψ i) : bigSep Finset.univ Φ ⊢ bigSep Finset.univ Ψ := bigSep_mono fun i _ => h i

theorem two (Φ : Bool → sProp 𝕄) : bigSep Finset.univ Φ = iprop(Φ false ∗ Φ true) :=
  bigSep_univ_eq_bigSepL [false, true] (by decide) (by decide) Φ

/-- The copies by kind. -/
def kinds : ((Bool × Fin 7 × Fin 4) ⊕ (Bool × Fin 3)) ⊕ ((Bool × Fin 3) ⊕ (Bool × Fin 7 × Fin 4)) ≃ Copy where
  toFun
    | .inl (.inl (h, s, u)) => .p1 h s u
    | .inl (.inr (h, t)) => .p2a h t
    | .inr (.inl (h, t)) => .p2b h t
    | .inr (.inr (h, t, u)) => .p3 h t u
  invFun
    | .p1 h s u => .inl (.inl (h, s, u))
    | .p2a h t => .inl (.inr (h, t))
    | .p2b h t => .inr (.inl (h, t))
    | .p3 h t u => .inr (.inr (h, t, u))
  left_inv := by rintro ((⟨h, s, u⟩ | ⟨h, t⟩) | (⟨h, t⟩ | ⟨h, t, u⟩)) <;> rfl
  right_inv := by rintro (⟨h, s, u⟩ | ⟨h, t⟩ | ⟨h, t⟩ | ⟨h, t, u⟩) <;> rfl

/-- A family over the copies, by kind, direction, step and unit. -/
theorem copies (Φ : Copy → sProp 𝕄) : bigSep Finset.univ Φ
    = iprop(((bigSep Finset.univ fun h => bigSep Finset.univ fun s => bigSep Finset.univ fun u => Φ (.p1 h s u))
        ∗ (bigSep Finset.univ fun h => bigSep Finset.univ fun t => Φ (.p2a h t)))
      ∗ ((bigSep Finset.univ fun h => bigSep Finset.univ fun t => Φ (.p2b h t))
        ∗ (bigSep Finset.univ fun h => bigSep Finset.univ fun t => bigSep Finset.univ fun u => Φ (.p3 h t u)))) := by
  rw [bigSep_univ_equiv kinds, BI.bigSep_univ_sum, BI.bigSep_univ_sum, BI.bigSep_univ_sum, BI.bigSep_univ_prod, BI.bigSep_univ_prod, BI.bigSep_univ_prod, BI.bigSep_univ_prod]
  congr 2
  · congr 1
    · congr 1; funext h; rw [BI.bigSep_univ_prod]; rfl
  · congr 1
    · congr 1; funext h; rw [BI.bigSep_univ_prod]; rfl

/-- What step `t` kept, with what step `t + 1` gives back. -/
theorem shift {n : ℕ} (A B S : Fin (n + 1) → sProp 𝕄) (hl : A (Fin.last n) ⊢ S (Fin.last n)) (hs : ∀ t : Fin n, iprop(A t.castSucc ∗ B t.succ) ⊢ S t.castSucc) :
    iprop(bigSep Finset.univ A ∗ bigSep Finset.univ B) ⊢ iprop(bigSep Finset.univ S ∗ B 0) := by
  have e1 (Φ : Fin (n + 1) → sProp 𝕄) : bigSep Finset.univ Φ = iprop(Φ (Fin.last n) ∗ bigSep Finset.univ fun t : Fin n => Φ t.castSucc) := by
    rw [Fin.univ_castSuccEmb, Finset.cons_eq_insert, bigSep_insert (by simp), BI.bigSep_map]; rfl
  have e2 (Φ : Fin (n + 1) → sProp 𝕄) : bigSep Finset.univ Φ = iprop(Φ 0 ∗ bigSep Finset.univ fun t : Fin n => Φ t.succ) := by
    rw [Fin.univ_succ, Finset.cons_eq_insert, bigSep_insert (by simp), BI.bigSep_map]; rfl
  rw [e1 A, e2 B, e1 S]
  iintro ⟨⟨HA, HAs⟩, ⟨HB, HBs⟩⟩
  isplitr [HB]
  · isplitl [HA]
    · iapply hl; iexact HA
    · iapply (show iprop((bigSep Finset.univ fun t : Fin n => A t.castSucc) ∗ (bigSep Finset.univ fun t : Fin n => B t.succ)) ⊢ bigSep Finset.univ fun t : Fin n => S t.castSucc from by
        rw [← bigSep_sep']; exact bigSep_mono fun t _ => hs t)
      isplitl [HAs]; · iexact HAs
      iexact HBs
  · iexact HB

/-! ## Arrays and their parts -/

section Parts

variable (c : Dev nD)

/-- An array at any contents is its parts at any contents. -/
theorem any_rects {s : Shape} {e : EltTy} (m : Memref sig .tc .vmem s e) {T : Type} [Fintype T] [DecidableEq T] (r : T → Rect s) (hr : ∀ t a, (r t).stride a = 1)
    (hd : ∀ t t', t ≠ t' → Disjoint (r t).set (r t').set) (hcov : (Finset.univ : Finset T).biUnion (fun t => (r t).set) = Finset.univ) :
    (OwnAny (F := F) c m) ⊢ bigSep Finset.univ fun t => OwnAny c (m.slice (r t) (hr t)) := by
  iintro ⟨%V, H⟩
  ihave H := (owns_rects (c : Thread nD τ) m fullShare r hr hd hcov V) $$ H
  iapply (big_mono fun (t : T) => (show (owns (c : Thread nD τ) (m.slice (r t) (hr t)) fullShare (fun j => V ((r t).emb j)) : sProp 𝕄) ⊢ OwnAny c (m.slice (r t) (hr t)) from by
    iintro H; iexists (fun j => V ((r t).emb j)); iexact H))
  iexact H
theorem rects_any {s : Shape} {e : EltTy} (m : Memref sig .tc .vmem s e) {T : Type} [Fintype T] [DecidableEq T] (r : T → Rect s) (hr : ∀ t a, (r t).stride a = 1)
    (hd : ∀ t t', t ≠ t' → Disjoint (r t).set (r t').set) (hcov : (Finset.univ : Finset T).biUnion (fun t => (r t).set) = Finset.univ) :
    (bigSep Finset.univ fun t => OwnAny (F := F) c (m.slice (r t) (hr t))) ⊢ OwnAny c m := by
  iintro H
  ihave H := (BI.bigSep_exists_pi Finset.univ (fun (t : T) (V : Vec F (r t).shape e) => (Own c (m.slice (r t) (hr t)) fullShare V : sProp 𝕄))) $$ H
  icases H with ⟨%V, H⟩
  iexists (Rect.glue r hcov V)
  iapply (owns_of_rects (c : Thread nD τ) m fullShare r hr hd hcov (Rect.glue r hcov V))
  rw [show (fun t => (owns (c : Thread nD τ) (m.slice (r t) (hr t)) fullShare (fun j => Rect.glue r hcov V ((r t).emb j)) : sProp 𝕄))
    = fun t => Own c (m.slice (r t) (hr t)) fullShare (V t) from by
      funext t; congr 1; funext j; exact Rect.glue_emb r hcov hd V t j]
  iexact H

/-- Dropping an axis of extent one changes nothing. -/
theorem any_sq {s s' : Shape} {e : EltTy} (m : Memref sig .tc .vmem s e) (hq : s.Squeezes s') : (OwnAny (F := F) c m) ⊢ OwnAny c (m.squeeze s' hq) := by
  iintro ⟨%V, H⟩
  ihave H' := (own_open c m fullShare V) $$ H
  icases H' with ⟨%f, %hf, H⟩
  iexists ((m.squeeze s' hq).view.read (Elt F) f)
  iapply (own_close c (m.squeeze s' hq) fullShare _ f rfl)
  rw [show (m.squeeze s' hq).view.set = m.view.set from View.set_reshape (v := m.view) hq.numel_eq]
  iexact H
theorem sq_any {s s' : Shape} {e : EltTy} (m : Memref sig .tc .vmem s e) (hq : s.Squeezes s') : (OwnAny (F := F) c (m.squeeze s' hq)) ⊢ OwnAny c m := by
  iintro ⟨%V, H⟩
  ihave H' := (own_open c (m.squeeze s' hq) fullShare V) $$ H
  icases H' with ⟨%f, %hf, H⟩
  iexists (m.view.read (Elt F) f)
  iapply (own_close c m fullShare _ f rfl)
  rw [← show (m.squeeze s' hq).view.set = m.view.set from View.set_reshape (v := m.view) hq.numel_eq]
  iexact H

abbrev lRect (p : Fin 7 × Fin 4) : Rect S7x192x768 := Rect.unit (s := S7x192x768) ![p.1.val, 48 * p.2.val, 0] S1x48x768.size (inbL p.1 p.2)
theorem lRect_disj (p p' : Fin 7 × Fin 4) (hp : p ≠ p') : Disjoint (lRect p).set (lRect p').set := by
  rw [Finset.disjoint_left]
  intro x hx hx'
  rw [LoadRect.mem_set] at hx hx'
  obtain ⟨a, ha, e0⟩ := hx 0
  obtain ⟨a', ha', e0'⟩ := hx' 0
  obtain ⟨b, hb, e1⟩ := hx 1
  obtain ⟨b', hb', e1'⟩ := hx' 1
  have ka : a < 1 := ha
  have ka' : a' < 1 := ha'
  have kb : b < 48 := hb
  have kb' : b' < 48 := hb'
  have f0 : (x 0).val = p.1.val + 1 * a := e0
  have f0' : (x 0).val = p'.1.val + 1 * a' := e0'
  have f1 : (x 1).val = 48 * p.2.val + 1 * b := e1
  have f1' : (x 1).val = 48 * p'.2.val + 1 * b' := e1'
  exact hp (Prod.ext (Fin.ext (by omega)) (Fin.ext (by omega)))
theorem lRect_cover : (Finset.univ : Finset (Fin 7 × Fin 4)).biUnion (fun p => (lRect p).set) = Finset.univ := by
  refine Finset.eq_univ_of_forall fun x => ?_
  have h0 : (x 0).val < 7 := (x 0).isLt
  have h1 : (x 1).val < 192 := (x 1).isLt
  have h2 : (x 2).val < 768 := (x 2).isLt
  rw [Finset.mem_biUnion]
  refine ⟨(⟨(x 0).val, h0⟩, ⟨(x 1).val / 48, by omega⟩), Finset.mem_univ _, ?_⟩
  rw [LoadRect.mem_set]
  intro a
  fin_cases a
  · exact ⟨0, Nat.one_pos, show (x 0).val = (x 0).val + 1 * 0 by omega⟩
  · exact ⟨(x 1).val % 48, Nat.mod_lt _ (by decide), show (x 1).val = 48 * ((x 1).val / 48) + 1 * ((x 1).val % 48) by omega⟩
  · exact ⟨(x 2).val, h2, show (x 2).val = 0 + 1 * (x 2).val by omega⟩
abbrev l3Rect (t : Fin 3) : Rect S3x48x768 := Rect.unit (s := S3x48x768) ![t.val, 0, 0] S1x48x768.size (inbT t)
theorem l3Rect_disj (t t' : Fin 3) (ht : t ≠ t') : Disjoint (l3Rect t).set (l3Rect t').set := by
  rw [Finset.disjoint_left]
  intro x hx hx'
  rw [LoadRect.mem_set] at hx hx'
  obtain ⟨a, ha, e0⟩ := hx 0
  obtain ⟨a', ha', e0'⟩ := hx' 0
  have ka : a < 1 := ha
  have ka' : a' < 1 := ha'
  have f0 : (x 0).val = t.val + 1 * a := e0
  have f0' : (x 0).val = t'.val + 1 * a' := e0'
  exact ht (Fin.ext (by omega))
theorem l3Rect_cover : (Finset.univ : Finset (Fin 3)).biUnion (fun t => (l3Rect t).set) = Finset.univ := by
  refine Finset.eq_univ_of_forall fun x => ?_
  have h0 : (x 0).val < 3 := (x 0).isLt
  have h1 : (x 1).val < 48 := (x 1).isLt
  have h2 : (x 2).val < 768 := (x 2).isLt
  rw [Finset.mem_biUnion]
  refine ⟨⟨(x 0).val, h0⟩, Finset.mem_univ _, ?_⟩
  rw [LoadRect.mem_set]
  intro a
  fin_cases a
  · exact ⟨0, Nat.one_pos, show (x 0).val = (x 0).val + 1 * 0 by omega⟩
  · exact ⟨(x 1).val, h1, show (x 1).val = 0 + 1 * (x 1).val by omega⟩
  · exact ⟨(x 2).val, h2, show (x 2).val = 0 + 1 * (x 2).val by omega⟩

theorem any_slots (m : Memref sig .tc .vmem S7x192x768 .bf16) :
    (OwnAny (F := F) c m) ⊢ bigSep Finset.univ fun s : Fin 7 => bigSep Finset.univ fun u : Fin 4 => OwnAny c (slotM m s u) := by
  rw [← BI.bigSep_univ_prod (fun p : Fin 7 × Fin 4 => OwnAny (F := F) c (slotM m p.1 p.2))]
  exact (any_rects c m lRect (fun _ _ => rfl) lRect_disj lRect_cover).trans (bigSep_mono fun p _ => any_sq c (m.slice (lRect p) (fun _ => rfl)) squeezes_S1x48x768_S48x768)
theorem slots_any (m : Memref sig .tc .vmem S7x192x768 .bf16) :
    (bigSep Finset.univ fun s : Fin 7 => bigSep Finset.univ fun u : Fin 4 => OwnAny (F := F) c (slotM m s u)) ⊢ OwnAny c m := by
  rw [← BI.bigSep_univ_prod (fun p : Fin 7 × Fin 4 => OwnAny (F := F) c (slotM m p.1 p.2))]
  exact (bigSep_mono fun p _ => sq_any c (m.slice (lRect p) (fun _ => rfl)) squeezes_S1x48x768_S48x768).trans (rects_any c m lRect (fun _ _ => rfl) lRect_disj lRect_cover)
theorem any_slots3 (m : Memref sig .tc .vmem S3x48x768 .bf16) : (OwnAny (F := F) c m) ⊢ bigSep Finset.univ fun t : Fin 3 => OwnAny c (slot3M m t) :=
  (any_rects c m l3Rect (fun _ _ => rfl) l3Rect_disj l3Rect_cover).trans (bigSep_mono fun p _ => any_sq c (m.slice (l3Rect p) (fun _ => rfl)) squeezes_S1x48x768_S48x768)
theorem slots3_any (m : Memref sig .tc .vmem S3x48x768 .bf16) : (bigSep Finset.univ fun t : Fin 3 => OwnAny (F := F) c (slot3M m t)) ⊢ OwnAny c m :=
  (bigSep_mono fun p _ => sq_any c (m.slice (l3Rect p) (fun _ => rfl)) squeezes_S1x48x768_S48x768).trans (rects_any c m l3Rect (fun _ _ => rfl) l3Rect_disj l3Rect_cover)
theorem any_units (m : Memref sig .tc .vmem S192x768 .bf16) : (OwnAny (F := F) c m) ⊢ bigSep Finset.univ fun u : Fin 4 => OwnAny c (unitM m u) :=
  any_rects c m (fun u : Fin 4 => uRect u) (fun _ _ => rfl) uRect_disj uRect_cover
theorem units_any (m : Memref sig .tc .vmem S192x768 .bf16) : (bigSep Finset.univ fun u : Fin 4 => OwnAny (F := F) c (unitM m u)) ⊢ OwnAny c m :=
  rects_any c m (fun u : Fin 4 => uRect u) (fun _ _ => rfl) uRect_disj uRect_cover

end Parts

/-! ## The scratch arrays -/

section Scratch

variable (c : Dev nD)

/-- The landing arrays, at any contents. -/
def Lands : sProp 𝕄 :=
  iprop(((bigSep Finset.univ fun h => OwnAny (F := F) c (l1M h)) ∗ (bigSep Finset.univ fun h => OwnAny (F := F) c (l2aM h)))
    ∗ ((bigSep Finset.univ fun h => OwnAny (F := F) c (l2bM h)) ∗ (bigSep Finset.univ fun h => OwnAny (F := F) c (l3M h))))

/-- The landing arrays are the slots of all copies. -/
theorem lands_slots : Lands (F := F) c ⊢ bigSep Finset.univ fun i => slotAny c i := by
  rw [copies]; unfold Lands
  exact BIClass.sep_mono (BIClass.sep_mono (bigSep_mono fun h _ => any_slots c (l1M h)) (bigSep_mono fun h _ => any_slots3 c (l2aM h)))
    (BIClass.sep_mono (bigSep_mono fun h _ => any_slots3 c (l2bM h)) (bigSep_mono fun h _ => any_slots c (l3M h)))
theorem slots_lands : (bigSep Finset.univ fun i => slotAny (F := F) c i) ⊢ Lands c := by
  rw [copies]; unfold Lands
  exact BIClass.sep_mono (BIClass.sep_mono (bigSep_mono fun h _ => slots_any c (l1M h)) (bigSep_mono fun h _ => slots3_any c (l2aM h)))
    (BIClass.sep_mono (bigSep_mono fun h _ => slots3_any c (l2bM h)) (bigSep_mono fun h _ => slots_any c (l3M h)))

/-- The staging arrays, at any contents. -/
def Stages : sProp 𝕄 :=
  iprop(((bigSep Finset.univ fun h => OwnAny (F := F) c (s1M h)) ∗ (bigSep Finset.univ fun h => OwnAny (F := F) c (s2aM h)))
    ∗ ((bigSep Finset.univ fun h => OwnAny (F := F) c (s2bM h)) ∗ (bigSep Finset.univ fun h => OwnAny (F := F) c (s3M h))))

/-- The staging blocks of the row-ring broadcast, unit by unit in the order of the column ring. -/
theorem stage3_units : (bigSep Finset.univ fun h => OwnAny (F := F) c (s3M h))
    ⊢ iprop(Hi hN (s3Any (F := F) c 0) 0 ∗ Hi hN (s3Any (F := F) c 1) 0 ∗ Hi hN (s3Any (F := F) c 2) 0 ∗ Hi hN (s3Any (F := F) c 3) 0) := by
  rw [Hi_zero, Hi_zero, Hi_zero, Hi_zero]
  rw [← bigSep_sep', ← bigSep_sep', ← bigSep_sep']
  refine bigSep_mono fun h _ => (any_units c (s3M h)).trans ?_
  rw [bigSep_univ_equiv (unitEquiv h c), four]
  exact BI.Entails.refl _

end Scratch

/-! ## Everything back at the end -/

section End

variable (X : Dev nD → Vec F S1536x768 .f32) (Y : Dev nD → Vec F S768x1536 .f32)
variable (c : Dev nD)

theorem own_join {s : Shape} {e : EltTy} (m : Memref sig .tc .vmem s e) (V : Vec F s e) :
    (iprop(Own c m fullShare.right V ∗ Own c m fullShare.left V) : sProp 𝕄) ⊢ OwnAny c m := by
  iintro ⟨Hr, Hl⟩
  iexists V
  iapply (owns_halves (c : Thread nD τ) m fullShare V).2
  isplitl [Hl]; · iexact Hl
  iexact Hr

theorem any_of {s : Shape} {e : EltTy} (m : Memref sig .tc .vmem s e) (V : Vec F s e) : (Own c m fullShare V : sProp 𝕄) ⊢ OwnAny c m := by
  iintro H; iexists V; iexact H

theorem back1 (h : Bool) : (bigSep Finset.univ fun s : Fin 7 => bigSep Finset.univ fun u : Fin 4 => back X Y c (.p1 h s u)) ⊢ OwnAny c (s1M h) := by
  rw [bigSep_univ_at _ (6 : Fin 7)]
  refine (show _ ⊢ bigSep Finset.univ fun u : Fin 4 => back X Y c (.p1 h 6 u) from ?_).trans ((bigSep_mono fun u _ => ?_).trans (units_any c (s1M h)))
  · iintro ⟨H, -⟩; iexact H
  · exact any_of c (unitM (s1M h) u) (v1 X Y h u 6 c)
theorem back2a (h : Bool) : (bigSep Finset.univ fun t : Fin 3 => back X Y c (.p2a h t)) ⊢ OwnAny c (s2aM h) := by
  rw [bigSep_univ_at _ (2 : Fin 3)]
  refine (show _ ⊢ back X Y c (.p2a h 2) from ?_).trans (any_of c (s2aM h) (v2 X Y h 2 c))
  iintro ⟨H, -⟩; iexact H
theorem back2b (h : Bool) : iprop((bigSep Finset.univ fun t : Fin 3 => kept X Y c (.p2b h t)) ∗ (bigSep Finset.univ fun t : Fin 3 => back X Y c (.p2b h t)))
    ⊢ iprop((bigSep Finset.univ fun t : Fin 3 => slotAny c (.p2b h t)) ∗ OwnAny c (s2bM h)) := by
  refine (shift (n := 2) (fun t => kept X Y c (.p2b h t)) (fun t => back X Y c (.p2b h t)) (fun t => slotAny c (.p2b h t))
    (any_of c (slot3M (l2bM h) 2) (v2b X Y h 2 (colFr h c))) fun t => ?_).trans (BIClass.sep_mono (BI.Entails.refl _) (any_of c (s2bM h) (v2b X Y h 0 c)))
  rw [kept_p2b, kshr_p2b h t.castSucc t.isLt, show back X Y c (.p2b h t.succ) = source X Y c (.p2b h t.succ) from rfl, source_p2b X Y c h t.castSucc t.succ rfl]
  exact own_join c (slot3M (l2bM h) t.castSucc) _
theorem back3 (h : Bool) : iprop((bigSep Finset.univ fun t : Fin 7 => bigSep Finset.univ fun u : Fin 4 => kept X Y c (.p3 h t u))
      ∗ (bigSep Finset.univ fun t : Fin 7 => bigSep Finset.univ fun u : Fin 4 => back X Y c (.p3 h t u)))
    ⊢ iprop((bigSep Finset.univ fun t : Fin 7 => bigSep Finset.univ fun u : Fin 4 => slotAny c (.p3 h t u)) ∗ OwnAny c (s3M h)) := by
  refine (shift (n := 6) (fun t => bigSep Finset.univ fun u : Fin 4 => kept X Y c (.p3 h t u)) (fun t => bigSep Finset.univ fun u : Fin 4 => back X Y c (.p3 h t u))
    (fun t => bigSep Finset.univ fun u : Fin 4 => slotAny c (.p3 h t u))
    (bigSep_mono fun u _ => any_of c (slotM (l3M h) 6 u) (v3 X Y h u 6 (rowFr h c))) fun t => ?_).trans
    (BIClass.sep_mono (BI.Entails.refl _) ((bigSep_mono fun u _ => any_of c (unitM (s3M h) u) (v3 X Y h u 0 c)).trans (units_any c (s3M h))))
  rw [← bigSep_sep']
  refine bigSep_mono fun u _ => ?_
  rw [kept_p3, kshr_p3 h t.castSucc u t.isLt, show back X Y c (.p3 h t.succ u) = source X Y c (.p3 h t.succ u) from rfl, source_p3 X Y c h t.castSucc t.succ rfl u]
  exact own_join c (slotM (l3M h) t.castSucc u) _

theorem slots_back : iprop(bigSep Finset.univ (kept X Y c) ∗ bigSep Finset.univ (back X Y c)) ⊢ iprop((bigSep Finset.univ fun i => slotAny c i) ∗ Stages c) := by
  have h2b : iprop((bigSep Finset.univ fun h => bigSep Finset.univ fun t : Fin 3 => kept X Y c (.p2b h t)) ∗ (bigSep Finset.univ fun h => bigSep Finset.univ fun t : Fin 3 => back X Y c (.p2b h t)))
      ⊢ iprop((bigSep Finset.univ fun h => bigSep Finset.univ fun t : Fin 3 => slotAny c (.p2b h t)) ∗ (bigSep Finset.univ fun h => OwnAny c (s2bM h))) := by
    rw [← bigSep_sep', ← bigSep_sep']; exact bigSep_mono fun h _ => back2b X Y c h
  have h3 : iprop((bigSep Finset.univ fun h => bigSep Finset.univ fun t : Fin 7 => bigSep Finset.univ fun u : Fin 4 => kept X Y c (.p3 h t u))
        ∗ (bigSep Finset.univ fun h => bigSep Finset.univ fun t : Fin 7 => bigSep Finset.univ fun u : Fin 4 => back X Y c (.p3 h t u)))
      ⊢ iprop((bigSep Finset.univ fun h => bigSep Finset.univ fun t : Fin 7 => bigSep Finset.univ fun u : Fin 4 => slotAny c (.p3 h t u)) ∗ (bigSep Finset.univ fun h => OwnAny c (s3M h))) := by
    rw [← bigSep_sep', ← bigSep_sep']; exact bigSep_mono fun h _ => back3 X Y c h
  rw [copies (kept X Y c), copies (back X Y c), copies (fun i => slotAny c i)]
  unfold Stages
  iintro ⟨⟨⟨K1, K2a⟩, ⟨K2b, K3⟩⟩, ⟨⟨B1, B2a⟩, ⟨B2b, B3⟩⟩⟩
  ihave H2 := h2b $$ [K2b B2b]
  · isplitl [K2b]; · iexact K2b
    iexact B2b
  icases H2 with ⟨K2b, B2b⟩
  ihave H3 := h3 $$ [K3 B3]
  · isplitl [K3]; · iexact K3
    iexact B3
  icases H3 with ⟨K3, B3⟩
  isplitl [K1 K2a K2b K3]
  · isplitl [K1 K2a]
    · isplitl [K1]
      · iapply (big_mono fun (h : Bool) => big_mono fun (s : Fin 7) => big_mono fun (u : Fin 4) =>
          any_of c (slotM (l1M h) s u) (v1 X Y h u s.val (rowFr h c)))
        iexact K1
      · iapply (big_mono fun (h : Bool) => big_mono fun (t : Fin 3) =>
          any_of c (slot3M (l2aM h) t) (v2 X Y h t.val (colFr h c)))
        iexact K2a
    · isplitl [K2b]; · iexact K2b
      iexact K3
  · isplitl [B1 B2a]
    · isplitl [B1]
      · iapply (big_mono fun (h : Bool) => back1 X Y c h); iexact B1
      · iapply (big_mono fun (h : Bool) => back2a X Y c h); iexact B2a
    · isplitl [B2b]; · iexact B2b
      iexact B3

/-- What was kept and what came back make up the scratch arrays. -/
theorem all_back : iprop(bigSep Finset.univ (kept X Y c) ∗ bigSep Finset.univ (back X Y c)) ⊢ iprop(Lands c ∗ Stages c) :=
  (slots_back X Y c).trans (BIClass.sep_mono (slots_lands c) (BI.Entails.refl _))

end End

end Cert.KernelIdeal.Run
end
-- ==== Proof.Body.lean ====
/-
The whole body of one device: from the barrier to the last wait.
-/
module

public import proofs.«01_k».proof.Proof.Bufs

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1536x768 .f32) (Y : Dev nD → Vec F S768x1536 .f32)
variable (K : Dev nD × CIx → ℕ)

/-! ## Closing the cells -/

/-- A cell past its round closes, its counter at zero. -/
theorem close_cell (ck : Dev nD × CIx) : iprop(ctx X Y K ∗ atPos ER (kcell ck) (0 + 1) ∅ 0) ⊢ (|={Set.univ}=> semVal (kcell ck) 0 : sProp 𝕄) := by
  unfold ctx
  iintro ⟨⟨#Hrec, #Hlev⟩, Hat⟩
  ihave ⟨#HI, #Hr⟩ := (recs_at X Y K ck) $$ Hrec
  imod (Rounds.cell_close ER (Rd X Y) (Set.mem_univ (K ck)) (fun h => h) (R := 0 + 1) (duties_later X Y (kcell ck))) $$ [Hat] with Hz
  · isplitr; · iexact HI
    iexact Hat
  imodintro; iexact Hz

/-- A persistent fact beside a family is beside every member. -/
theorem beside {α : Type} [Fintype α] [DecidableEq α] (R : sProp 𝕄) [BI.Persistent R] {Φ Ψ : α → sProp 𝕄} (h : ∀ i, iprop(R ∗ Φ i) ⊢ Ψ i) :
    iprop(R ∗ bigSep Finset.univ Φ) ⊢ bigSep Finset.univ Ψ := by
  refine (show iprop(R ∗ bigSep Finset.univ Φ) ⊢ iprop((bigSep Finset.univ fun _ : α => R) ∗ bigSep Finset.univ Φ) from by
    iintro ⟨HR, HΦ⟩
    isplitl [HR]
    · iapply (BI.bigSep_of_persistent Finset.univ R); iexact HR
    · iexact HΦ).trans ?_
  rw [← bigSep_sep']
  exact bigSep_mono fun i _ => h i

theorem close_cells (c : Dev nD) (b : Bool) :
    iprop(ctx X Y K ∗ bigSep Finset.univ fun i : Copy => atPos ER (kcell (c, some (b, i))) (0 + 1) ∅ 0)
      ⊢ (|={Set.univ}=> bigSep Finset.univ fun i : Copy => semVal (kcell (c, some (b, i))) 0 : sProp 𝕄) :=
  (beside (ctx X Y K) fun i : Copy => close_cell X Y K (c, some (b, i))).trans (bigSep_fupd _ _)

/-! ## The body -/

/-- The tokens and places a device starts with. -/
def Ghost (c : Dev nD) : sProp 𝕄 :=
  iprop(recs X Y K ∗ (bigSep Finset.univ fun k : Fin 4 => dutyTok ER (barCell (nbrFr k c)) 0 k) ∗ atPos ER (barCell c) 0 ∅ 0
    ∗ (bigSep Finset.univ fun i : Copy => iprop(atPos ER (sendCell c i) 0 ∅ 0 ∗ dutyTok ER (sendCell c i) 0 0 ∗ dutyTok ER (recvCell (i.dst c) i) 0 0))
    ∗ (bigSep Finset.univ fun i : Copy => atPos ER (recvCell c i) 0 ∅ 0))
/-- The credits it waits with. -/
def Creds (c : Dev nD) : sProp 𝕄 :=
  iprop(cred (tallyAt (barCell c) () 4) ∗ bigSep Finset.univ fun i : Copy => cred (tallyAt (recvCell c i) () N))
/-- What a device starts with beside its arrays. -/
def Begin (c : Dev nD) : sProp 𝕄 := iprop((∃ K, Ghost X Y K c) ∗ Creds c ∗ levAts L lv)
/-- The scratch arrays. -/
def Scratch (c : Dev nD) : sProp 𝕄 := iprop(OwnAny (F := F) c bbM ∗ Lands c ∗ Stages c)
/-- Every counter of the device at zero. -/
def Zeros (c : Dev nD) : sProp 𝕄 :=
  iprop(semVal (barCell c) 0 ∗ (bigSep Finset.univ fun i : Copy => semVal (sendCell c i) 0) ∗ (bigSep Finset.univ fun i : Copy => semVal (recvCell c i) 0))

theorem Tok_all (c : Dev nD) :
    iprop((bigSep Finset.univ fun i : Copy => iprop(atPos ER (sendCell c i) 0 ∅ 0 ∗ dutyTok ER (sendCell c i) 0 0 ∗ dutyTok ER (recvCell (i.dst c) i) 0 0))
      ∗ (bigSep Finset.univ fun i : Copy => slotAny (i.dst c) i)) ⊢ bigSep Finset.univ (Tok (F := F) c) := by
  rw [← bigSep_sep']
  refine big_mono fun i => ?_
  unfold Tok
  iintro ⟨⟨Ha, Hb, Hc⟩, Hd⟩
  isplitl [Ha]; · iexact Ha
  isplitl [Hb]; · iexact Hb
  isplitl [Hc]; · iexact Hc
  iexact Hd
theorem Rdy_all (c : Dev nD) :
    iprop((bigSep Finset.univ fun i : Copy => atPos ER (recvCell c i) 0 ∅ 0) ∗ (bigSep Finset.univ fun i : Copy => cred (tallyAt (recvCell c i) () N)))
      ⊢ bigSep Finset.univ (Rdy (F := F) c) := by
  rw [← bigSep_sep']; exact BI.Entails.refl _

/-- The barrier, and the exchange's state after it. -/
theorem wp_enter (c : Dev nD) (p : Pg F) (Q : PUnit → sProp 𝕄) :
    iprop((ctx X Y K ∗ Ghost X Y K c ∗ Creds c ∗ (∃ W, owes (c : Thread nD τ) (O₀ c) W) ∗ Lands c)
      ∗ ((St X Y K c 0 0 0 ∗ atPos ER (barCell c) (0 + 1) ∅ 0) -∗ Wp c p Q)) ⊢ Wp c (barrier c p) Q := by
  unfold Ghost Creds
  iintro ⟨⟨#Hctx, ⟨-, Htb, Hab, Hs, Hr⟩, ⟨Hcb, Hcr⟩, HO, HL⟩, Hk⟩
  ihave HL := (lands_slots c) $$ HL
  iapply (wp_barrier X Y K c)
  isplitl [Htb Hab Hcb HO HL]
  · unfold BarIn
    isplitr; · iexact Hctx
    isplitl [HO]; · iexact HO
    isplitl [Htb]; · iexact Htb
    isplitl [HL]; · iexact HL
    isplitl [Hab]; · iexact Hab
    iexact Hcb
  iintro ⟨HO, Hab, HL⟩
  iapply Hk
  isplitr [Hab]
  · unfold St
    rw [Lo_zero, Lo_zero]
    isplitl [HO Hs Hr Hcr HL]
    · iapply (pool_begin X Y K c)
      isplitr; · iexact Hctx
      isplitl [HO]; · iexact HO
      isplitl [Hs HL]
      · iapply (Tok_all c)
        isplitl [Hs]; · iexact Hs
        iexact HL
      · iapply (Rdy_all c)
        isplitl [Hr]; · iexact Hr
        iexact Hcr
    isplitr; · iempintro
    iempintro
  · iexact Hab

/-- The end of the exchange: everything is back. -/
theorem st_end (c : Dev nD) : iprop(St X Y K c 124 124 124 ∗ atPos ER (barCell c) (0 + 1) ∅ 0)
    ⊢ (|={Set.univ}=> iprop(Ow c 124 ∗ Lands c ∗ Stages c ∗ Zeros c) : sProp 𝕄) := by
  unfold St
  rw [Lo_top pos _ pos_lt, Lo_top pos _ pos_lt]
  iintro ⟨⟨HP, HK, HB⟩, Hab⟩
  ihave HP := (pool_end X Y K c) $$ HP
  icases HP with ⟨#Hctx, HO, HS, HG⟩
  ihave HL := (all_back X Y c) $$ [HK HB]
  · isplitl [HK]; · iexact HK
    iexact HB
  icases HL with ⟨HL, HSt⟩
  imod (close_cell X Y K (c, none)) $$ [Hab] with Hzb
  · isplitr; · iexact Hctx
    iexact Hab
  imod (close_cells X Y K c false) $$ [HS] with Hzs
  · isplitr; · iexact Hctx
    iexact HS
  imod (close_cells X Y K c true) $$ [HG] with Hzr
  · isplitr; · iexact Hctx
    iexact HG
  imodintro
  isplitl [HO]; · iexact HO
  isplitl [HL]; · iexact HL
  isplitl [HSt]; · iexact HSt
  unfold Zeros
  isplitl [Hzb]; · iexact Hzb
  isplitl [Hzs]; · iexact Hzs
  iexact Hzr

theorem wp_done (c : Dev nD) (Q : PUnit → sProp 𝕄) : (|={Set.univ}=> Q ⟨⟩ : sProp 𝕄) ⊢ Wp (F := F) c (.ret ⟨⟩) Q := by
  unfold Wp; rw [wp_ret]

/-- The body: from its blocks of the operands a device arrives at the whole result. -/
theorem wp_model (c : Dev nD) (Q : PUnit → sProp 𝕄) :
    iprop((Begin X Y c ∗ (∃ W, owes (c : Thread nD τ) (O₀ c) W) ∗ Scratch c ∗ Own c aM fullShare (X c) ∗ Own c bM fullShare (Y c) ∗ OwnAny c oM)
      ∗ (((∃ W, owes (c : Thread nD τ) 0 W) ∗ Scratch c ∗ Zeros c ∗ Own c aM fullShare (X c) ∗ Own c bM fullShare (Y c) ∗ Own c oM fullShare (outV X Y c)) -∗ Q ⟨⟩))
      ⊢ Wp c (model c) Q := by
  unfold Begin Scratch model
  iintro ⟨⟨⟨⟨%K, HG⟩, Hcr, #Hlev⟩, HO, ⟨Hbb, HL, HSt⟩, HA, HB, HR⟩, Hk⟩
  ihave #Hctx := (show iprop(Ghost X Y K c ∗ levAts L lv) ⊢ ctx X Y K from by
    unfold Ghost ctx; iintro ⟨⟨#Hr, -⟩, #Hl⟩; isplitr; · iexact Hr
    iexact Hl) $$ [HG]
  · isplitl [HG]; · iexact HG
    iexact Hlev
  iapply (wp_enter X Y K c)
  isplitl [HG Hcr HO HL]
  · isplitr; · iexact Hctx
    isplitl [HG]; · iexact HG
    isplitl [Hcr]; · iexact Hcr
    isplitl [HO]; · iexact HO
    iexact HL
  iintro ⟨HS, Hab⟩
  unfold Stages
  icases HSt with ⟨⟨H1, H2a⟩, ⟨H2b, H3⟩⟩
  ihave H1 := (Entails.of_eq (two fun h => OwnAny (F := F) c (s1M h))) $$ H1
  icases H1 with ⟨H1f, H1t⟩
  ihave H2a := (Entails.of_eq (Hi_zero hN (fun h => OwnAny (F := F) c (s2aM h))).symm) $$ H2a
  ihave H2b := (Entails.of_eq (Hi_zero hN (fun h => OwnAny (F := F) c (s2bM h))).symm) $$ H2b
  ihave H3 := (stage3_units c) $$ H3
  icases H3 with ⟨H30, H31, H32, H33⟩
  iapply (wp_head X Y K c)
  isplitl [HA HB Hbb HR H1f H1t HS]
  · isplitl [HA]; · iexact HA
    isplitl [HB]; · iexact HB
    isplitl [Hbb]; · iexact Hbb
    isplitl [HR]; · iexact HR
    isplitl [H1f]; · iexact H1f
    isplitl [H1t]; · iexact H1t
    iexact HS
  iintro ⟨HB, H⟩
  iapply (wp_ring1 X Y K c)
  isplitl [H]; · iexact H
  iintro ⟨⟨HA, Hbb⟩, HS, HR⟩
  iapply (wp_ring2 X Y K c)
  isplitl [HS HR H2a H2b H33]
  · isplitl [HS]; · iexact HS
    isplitl [HR]; · iexact HR
    isplitl [H2a]; · iexact H2a
    isplitl [H2b]; · iexact H2b
    iexact H33
  iintro ⟨HS, HR, Hp2, Hp3⟩
  iapply (wp_ring2b X Y K c)
  isplitl [HS HR Hp2 Hp3 H30 H31 H32]
  · isplitl [HS]; · iexact HS
    isplitl [HR]; · iexact HR
    isplitl [Hp2]; · iexact Hp2
    isplitl [Hp3]; · iexact Hp3
    isplitl [H30]; · iexact H30
    isplitl [H31]; · iexact H31
    iexact H32
  iintro H
  iapply (wp_ring3 X Y K c)
  isplitl [H]; · iexact H
  iintro ⟨HS, HR⟩
  iapply (wp_relu X Y c)
  isplitl [HR]; · iexact HR
  iintro HR
  iapply (wp_drain X Y K c)
  isplitl [HS]; · iexact HS
  iintro HS
  iapply (wp_done c)
  imod (st_end X Y K c) $$ [HS Hab] with H
  · isplitl [HS]; · iexact HS
    iexact Hab
  icases H with ⟨HO, HL, HSt, HZ⟩
  imodintro
  iapply Hk
  isplitl [HO]
  · unfold Ow; rw [dues_end]; iexact HO
  isplitl [Hbb HL HSt]
  · isplitl [Hbb]; · iexists (k0_pay1 (Y c)); iexact Hbb
    isplitl [HL]; · iexact HL
    unfold Stages; iexact HSt
  isplitl [HZ]; · iexact HZ
  isplitl [HA]; · iexact HA
  isplitl [HB]; · iexact HB
  iexact HR

end Cert.KernelIdeal.Run
end
-- ==== Proof.Deal.lean ====
/-
The launch of the exchange: its cells and duty tokens made, shared among the devices, every token dealt to the device that discharges its duty.
-/
module

public import proofs.«01_k».proof.Proof.Body
public import proofs.«01_k».proof.Proof.Gen.KernelIdeal.Launch

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1536x768 .f32) (Y : Dev nD → Vec F S768x1536 .f32)

/-! ## Cells and duty tokens -/

theorem csem_inj : Function.Injective csem := by
  intro a b h
  rcases a with _ | k <;> rcases b with _ | k'
  · rfl
  · have e : true = isBar (osem k') := congrArg isBar h
    rw [isBar_osem] at e; exact absurd e (by decide)
  · have e : isBar (osem k) = true := congrArg isBar h
    rw [isBar_osem] at e; exact absurd e (by decide)
  · exact congrArg some (osem_inj h)

theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

/-- All cells of the exchange. -/
def allCells : Finset (GSem nD τ sig) := Finset.univ.map ⟨kcell, kcell_inj⟩

/-- A device's duties: its barrier's four, and one for each of its copies' cells. -/
abbrev TIx : Type := Fin 4 ⊕ (Bool × Copy)
def tokOf (ct : Dev nD × TIx) : GSem nD τ sig × ℕ × Fin 4 := match ct.2 with
  | .inl k => (barCell ct.1, 0, k)
  | .inr k => (kcell (ct.1, some k), 0, 0)
theorem tokOf_inj : Function.Injective tokOf := by
  rintro ⟨c, k | k⟩ ⟨c', k' | k'⟩ h
  · have h1 := kcell_inj (a₁ := (c, none)) (a₂ := (c', none)) (congrArg Prod.fst h)
    have h2 : k = k' := congrArg (fun x : GSem nD τ sig × ℕ × Fin 4 => x.2.2) h
    rw [(Prod.mk.inj h1).1, h2]
  · exact absurd (Prod.mk.inj (kcell_inj (a₁ := (c, none)) (a₂ := (c', some k')) (congrArg Prod.fst h))).2 (by simp)
  · exact absurd (Prod.mk.inj (kcell_inj (a₁ := (c, some k)) (a₂ := (c', none)) (congrArg Prod.fst h))).2 (by simp)
  · have h1 := Prod.mk.inj (kcell_inj (a₁ := (c, some k)) (a₂ := (c', some k')) (congrArg Prod.fst h))
    rw [h1.1, Option.some.inj h1.2]
def allToks : Finset (GSem nD τ sig × ℕ × Fin 4) := Finset.univ.map ⟨tokOf, tokOf_inj⟩

/-- A family over a device's cells: the barrier's member and the rest. -/
theorem cells (Φ : CIx → sProp 𝕄) : bigSep Finset.univ Φ = iprop(Φ none ∗ bigSep Finset.univ fun k => Φ (some k)) := by
  rw [show (Finset.univ : Finset CIx) = insert none (Finset.univ.map Function.Embedding.some) from by
    ext k; cases k <;> simp, bigSep_insert (by simp), bigSep_map]
  rfl
theorem cells3 (Φ : CIx → sProp 𝕄) : bigSep Finset.univ Φ
    = iprop(Φ none ∗ (bigSep Finset.univ fun i => Φ (some (false, i))) ∗ bigSep Finset.univ fun i => Φ (some (true, i))) := by
  rw [cells, bigSep_univ_prod (fun k : Bool × Copy => Φ (some k)), two]

/-- The tokens of device `c`'s own cells. -/
def toks (c : Dev nD) : sProp 𝕄 := bigSep Finset.univ fun t : TIx => dutyTok ER (tokOf (c, t)).1 (tokOf (c, t)).2.1 (tokOf (c, t)).2.2
theorem toks_eq (c : Dev nD) : (toks c : sProp 𝕄) = iprop((bigSep Finset.univ fun k : Fin 4 => dutyTok ER (barCell c) 0 k)
    ∗ (bigSep Finset.univ fun i => dutyTok ER (sendCell c i) 0 0) ∗ (bigSep Finset.univ fun i => dutyTok ER (recvCell c i) 0 0)) := by
  unfold toks
  rw [bigSep_univ_sum, bigSep_univ_prod, two]
  rfl
/-- The tokens of the duties device `c` discharges. -/
def payToks (c : Dev nD) : sProp 𝕄 := iprop((bigSep Finset.univ fun k : Fin 4 => dutyTok ER (barCell (nbrFr k c)) 0 k)
    ∗ (bigSep Finset.univ fun i => dutyTok ER (sendCell c i) 0 0) ∗ (bigSep Finset.univ fun i => dutyTok ER (recvCell (i.dst c) i) 0 0))

/-- The neighbours' map as a permutation of the devices. -/
def nbrRing (k : Fin 4) : Dev nD ≃ Dev nD := ⟨nbrFr k, nbr k, nbr_nbrFr k, nbrFr_nbr k⟩

/-- The two indices of a family exchanged. -/
theorem swapped {α β : Type} [Fintype α] [Fintype β] (Φ : α → β → sProp 𝕄) :
    (bigSep Finset.univ fun a => bigSep Finset.univ fun b => Φ a b) = bigSep Finset.univ fun b => bigSep Finset.univ fun a => Φ a b := by
  rw [← bigSep_univ_prod (fun p : α × β => Φ p.1 p.2), bigSep_univ_equiv (Equiv.prodComm β α), bigSep_univ_prod]
  rfl

/-- A family over devices and something else, moved along a permutation of the devices that depends on the latter. -/
theorem around {α : Type} [Fintype α] (e : α → Dev nD ≃ Dev nD) (Φ : Dev nD → α → sProp 𝕄) :
    (bigSep Finset.univ fun c => bigSep Finset.univ fun a => Φ c a) = bigSep Finset.univ fun c => bigSep Finset.univ fun a => Φ (e a c) a := by
  rw [swapped, bigSep_congr (s := Finset.univ) (fun a _ => bigSep_univ_equiv (e a) fun c => Φ c a), swapped]

/-- Every token goes to the device that discharges its duty. -/
theorem toks_around : (bigSep Finset.univ fun c : Dev nD => (toks c : sProp 𝕄)) = bigSep Finset.univ fun c : Dev nD => payToks c := by
  rw [bigSep_congr (s := Finset.univ) (fun c _ => toks_eq c)]
  unfold payToks
  rw [bigSep_sep', bigSep_sep', bigSep_sep', bigSep_sep', around nbrRing (fun c k => dutyTok ER (barCell c) 0 k),
    around Copy.ring (fun c i => dutyTok ER (recvCell c i) 0 0)]
  rfl

/-! ## The launch of the cells -/

/-- What the launch makes for device `c`. -/
def G (c : Dev nD) : sProp 𝕄 := iprop((bigSep Finset.univ fun k => roundState ER (Rd X Y) (kcell (c, k)) 0)
    ∗ (bigSep Finset.univ fun k => iprop(atPos ER (kcell (c, k)) 0 ∅ 0 ∗ reached ER (kcell (c, k)) 0)) ∗ toks c)
/-- What device `c`'s body starts from. -/
def G' (c : Dev nD) : sProp 𝕄 := iprop(∃ K, Ghost X Y K c)

theorem fund_all : BI.own (ER (initOf allCells allToks)) ⊢ (|==> bigSep Finset.univ (G X Y) : sProp 𝕄) := by
  have hX (Φ : GSem nD τ sig → sProp 𝕄) : bigSep allCells Φ = bigSep Finset.univ fun c : Dev nD => bigSep Finset.univ fun k : CIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd X Y) allCells allToks) $$ HX with ⟨Hst, Hr, Hat, Htok⟩
  imodintro
  ihave Hst' := (Entails.of_eq (hX fun g => roundState ER (Rd X Y) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscoped_eq (c : Dev nD) : (unscopedSems0 c : sProp 𝕄) = semVal (barCell c) 0 := by
  unfold unscopedSems0; rw [bigSep_eq_bigSepL_of_eq [SemLoc.reg barS] (by decide +kernel) (by decide)]; rfl

abbrev Own0 (c : Dev nD) : sProp 𝕄 := Pipeline.ownSems0 (Ix := Unit) (Name := ℕ) (U := UU) (Lvl := ℕ) (Val := Elt F) (τ := τ) osem c

theorem own0_eq (c : Dev nD) : (Own0 c : sProp 𝕄) = iprop((bigSep Finset.univ fun i => semVal (sendCell c i) 0) ∗ bigSep Finset.univ fun i => semVal (recvCell c i) 0) := by
  unfold Own0 Pipeline.ownSems0
  rw [bigSep_univ_prod, two]

theorem sems_all (c : Dev nD) : iprop(Own0 c ∗ unscopedSems0 c) ⊢ (bigSep Finset.univ fun k : CIx => semVal (kcell (c, k)) 0 : sProp 𝕄) := by
  rw [unscoped_eq, cells]
  unfold Own0 Pipeline.ownSems0
  iintro ⟨HO, HB⟩
  isplitl [HB]; · iexact HB
  iexact HO

theorem alloc_cells (c : Dev nD) : iprop((bigSep Finset.univ fun k : CIx => semVal (kcell (c, k)) 0) ∗ bigSep Finset.univ fun k : CIx => roundState ER (Rd X Y) (kcell (c, k)) 0)
    ⊢ (|={Set.univ}=> bigSep Finset.univ fun k => iprop(∃ κ : ℕ, cellInv ER (Rd X Y) κ (kcell (c, k))) : sProp 𝕄) := by
  rw [← bigSep_sep']
  exact (bigSep_mono fun k _ => (Rounds.body_intro ER (Rd X Y) (kcell (c, k))).trans inv_alloc).trans (bigSep_fupd _ _)

/-- One device's cells, opened for sharing. -/
def Opened (c : Dev nD) : sProp 𝕄 := iprop((bigSep Finset.univ fun k => iprop(∃ κ : ℕ, cellInv ER (Rd X Y) κ (kcell (c, k))))
    ∗ (bigSep Finset.univ fun k => iprop(atPos ER (kcell (c, k)) 0 ∅ 0 ∗ reached ER (kcell (c, k)) 0)) ∗ toks c)

theorem open_dev (c : Dev nD) : iprop(Own0 c ∗ unscopedSems0 c ∗ G X Y c) ⊢ (|={Set.univ}=> Opened X Y c : sProp 𝕄) := by
  unfold G Opened
  iintro ⟨Hos, Hus, Hst, Hat, Htok⟩
  ihave Hv := (sems_all (F := F) c) $$ [Hos Hus]
  · isplitl [Hos] <;> iassumption
  imod (alloc_cells X Y c) $$ [Hv Hst] with Hinv
  · isplitl [Hv] <;> iassumption
  imodintro
  isplitl [Hinv]; · iexact Hinv
  isplitl [Hat]; · iexact Hat
  iexact Htok

/-- What is device `c`'s alone: its places and its tokens. -/
def Mine (c : Dev nD) : sProp 𝕄 := iprop((bigSep Finset.univ fun k : CIx => atPos ER (kcell (c, k)) 0 ∅ 0) ∗ payToks c)

theorem ghost_of (K : Dev nD × CIx → ℕ) (c : Dev nD) : iprop(recs X Y K ∗ Mine c) ⊢ (G' X Y c : sProp 𝕄) := by
  unfold Mine payToks G' Ghost
  rw [cells3]
  iintro ⟨HR, ⟨HB, HS, HV⟩, TB, TS, TV⟩
  iexists K
  isplitl [HR]; · iexact HR
  isplitl [TB]; · iexact TB
  isplitl [HB]; · iexact HB
  isplitl [HS TS TV]
  · simp only [bigSep_sep']
    isplitl [HS]; · iexact HS
    isplitl [TS]; · iexact TS
    iexact TV
  iexact HV

theorem opened_all : (bigSep Finset.univ fun c : Dev nD => (Opened X Y c : sProp 𝕄))
    ⊢ iprop((bigSep Finset.univ fun ck : Dev nD × CIx => iprop(∃ κ : ℕ, cellInv ER (Rd X Y) κ (kcell ck)))
      ∗ (bigSep Finset.univ fun ck : Dev nD × CIx => reached ER (kcell ck) 0) ∗ bigSep Finset.univ fun c => Mine c) := by
  unfold Opened Mine
  rw [bigSep_sep', bigSep_sep', ← bigSep_univ_prod (fun ck : Dev nD × CIx => iprop(∃ κ : ℕ, cellInv ER (Rd X Y) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄)), toks_around, bigSep_sep']
  iintro ⟨HI, ⟨HA, HR⟩, HT⟩
  isplitl [HI]; · iexact HI
  isplitl [HR]; · iexact HR
  isplitl [HA]; · iexact HA
  iexact HT

theorem share_all : iprop((bigSep Finset.univ fun ck : Dev nD × CIx => iprop(∃ κ : ℕ, cellInv ER (Rd X Y) κ (kcell ck)))
      ∗ (bigSep Finset.univ fun ck : Dev nD × CIx => reached ER (kcell ck) 0) ∗ bigSep Finset.univ fun c => Mine c) ⊢ bigSep Finset.univ (G' X Y) := by
  iintro ⟨HI, #HR, HM⟩
  ihave HK := (BI.bigSep_exists_pi Finset.univ (fun (ck : Dev nD × CIx) (κ : ℕ) => (cellInv ER (Rd X Y) κ (kcell ck) : sProp 𝕄))) $$ HI
  icases HK with ⟨%K, #HI⟩
  iapply (beside (recs X Y K) (ghost_of X Y K))
  isplitr
  · unfold recs; simp only [bigSep_sep']
    isplitl; · iexact HI
    iexact HR
  iexact HM

/-- From all devices' semaphores at zero and the launch's resources to every device's start. -/
theorem glob : (bigSep Finset.univ fun c => iprop(Own0 c ∗ unscopedSems0 c ∗ G X Y c) : sProp 𝕄) ⊢ |={Set.univ}=> bigSep Finset.univ (G' X Y) :=
  ((bigSep_mono fun c _ => open_dev X Y c).trans (bigSep_fupd _ _)).trans (BI.fupd_mono ((opened_all X Y).trans (share_all X Y)))

end Cert.KernelIdeal.Run
end
-- ==== Proof.Debt.lean ====
/-
What the devices owe at launch, the credit it gives, and the pipeline's own waits below it.
-/
module

public import proofs.«01_k».proof.Proof.Deal

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What is owed at launch -/

theorem O₀_eq (d : Dev nD) : O₀ d = dues d 0 + ∑ k : Fin 4, tallyAt (barCell (nbrFr k d)) () 1 := by
  unfold O₀ duesB duesB duesB duesB duesB
  rw [Fin.sum_univ_four]
  show dues d 0 + tallyAt (barCell (nbrFr 3 d)) () 1 + tallyAt (barCell (nbrFr 2 d)) () 1 + tallyAt (barCell (nbrFr 1 d)) () 1 + tallyAt (barCell (nbrFr 0 d)) () 1 = _
  ac_rfl

theorem bar_ne_recv (c d : Dev nD) (i : Copy) : barCell c ≠ recvCell d i := fun h =>
  absurd (Prod.mk.inj (kcell_inj (a₁ := (c, none)) (a₂ := (d, some (true, i))) h)).2 (by simp)

theorem dues_bar (d c : Dev nD) (n : ℕ) : dues d n (barCell c) () = 0 := by
  by_contra h
  obtain ⟨i, -, hi⟩ := dues_pos (Nat.pos_of_ne_zero h)
  exact bar_ne_recv _ _ _ hi

/-- At a barrier a device owes one unit for each neighbour relation it stands in. -/
theorem owed_bar (d c : Dev nD) : O₀ d (barCell c) () = ∑ k : Fin 4, if d = nbr k c then 1 else 0 := by
  rw [O₀_eq, Pi.add_apply, Finsupp.add_apply, dues_bar, Nat.zero_add, Finset.sum_apply, Finsupp.finset_sum_apply]
  refine Finset.sum_congr rfl fun k _ => ?_
  rw [tallyAt_apply]
  by_cases h : d = nbr k c
  · subst h; rw [nbrFr_nbr, if_pos ⟨rfl, rfl⟩, if_pos rfl]
  · rw [if_neg h, if_neg]
    rintro ⟨h', -⟩
    have e : c = nbrFr k d := (Prod.mk.inj (kcell_inj (a₁ := (c, none)) (a₂ := (nbrFr k d, none)) h')).1
    exact h (by rw [e, nbr_nbrFr])

/-- At a receive cell the device the copy comes from owes its arrival. -/
theorem owed_recv (d c : Dev nD) (i : Copy) : O₀ d (recvCell c i) () = if d = i.from c then N else 0 := by
  have hb : ∀ k : Fin 4, (tallyAt (barCell (nbrFr k d)) () 1 : CellTallies nD τ sig Unit) (recvCell c i) () = 0 := fun k => by
    rw [tallyAt_ne_cell (fun h => bar_ne_recv _ _ _ h.symm)]; rfl
  rw [O₀_eq, Pi.add_apply, Finsupp.add_apply, Finset.sum_apply, Finsupp.finset_sum_apply, Finset.sum_eq_zero fun k _ => hb k, Nat.add_zero]
  unfold dues
  rw [Finset.sum_apply, Finsupp.finset_sum_apply, Finset.sum_eq_single i]
  · rw [if_pos (Nat.zero_le _), tallyAt_apply]
    by_cases h : d = i.from c
    · subst h; rw [i.dst_from, if_pos ⟨rfl, rfl⟩, if_pos rfl]
    · rw [if_neg h, if_neg]
      rintro ⟨h', -⟩
      have e : c = i.dst d := (Prod.mk.inj (kcell_inj (a₁ := (c, some (true, i))) (a₂ := (i.dst d, some (true, i))) h')).1
      exact h (by rw [e, i.from_dst])
  · intro j _ hj
    rw [if_pos (Nat.zero_le _), tallyAt_apply, if_neg]
    rintro ⟨h', -⟩
    have e := (Prod.mk.inj (kcell_inj (a₁ := (c, some (true, i))) (a₂ := (j.dst d, some (true, j))) h')).2
    exact hj (Prod.mk.inj (Option.some.inj e)).2.symm
  · exact fun h => absurd (Finset.mem_univ _) h

theorem launch_bar (c : Dev nD) : tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun k _ => (Finset.sum_ite_eq' Finset.univ (nbr k c) fun _ => 1)]
  simp only [Finset.mem_univ, if_true]
  rfl

theorem launch_recv (c : Dev nD) (i : Copy) : tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ (i.from c) fun _ => N,
    if_pos (Finset.mem_univ _)]

def recvSem : Copy ↪ SemLoc sig := ⟨fun i => osem (true, i), fun i j h => (Prod.mk.inj (osem_inj h)).2⟩

/-- The launch's credit holds what the body waits with. -/
theorem creds (c : Dev nD) : (Pipeline.launchCred O₀ c : sProp 𝕄) ⊢ Creds c := by
  unfold Pipeline.launchCred Creds
  rw [bigSep_univ_at _ (SemLoc.reg barS), show tallyOn ((c.tc : Thread nD τ), SemLoc.reg barS) (launchCredit (Pipeline.owing O₀) 0 ((c.tc : Thread nD τ), SemLoc.reg barS))
    = (tallyAt (barCell c) () 4 : CellTallies nD τ sig Unit) from launch_bar c]
  refine BIClass.sep_mono (BI.Entails.refl _) ?_
  have hs : Finset.univ.map recvSem ⊆ Finset.univ.erase (SemLoc.reg barS : SemLoc sig) := fun s hs => by
    obtain ⟨i, -, rfl⟩ := Finset.mem_map.mp hs
    exact Finset.mem_erase.mpr ⟨fun h => bar_ne_recv c c i (congrArg (fun s => ((c : Thread nD τ), s)) h).symm, Finset.mem_univ _⟩
  refine (bigSep_subset hs).trans ?_
  rw [bigSep_map]
  exact bigSep_mono fun i _ => Entails.of_eq (congrArg cred (launch_recv c i))

/-! ## The pipeline's own waits -/

theorem O₀_pos {c : Dev nD} {g : GSem nD τ sig} {u : Unit} (h : 0 < O₀ c g u) : ∃ d, (∃ i : Copy, g = recvCell d i) ∨ g = barCell d := by
  by_cases h1 : 0 < dues c 0 g u
  · obtain ⟨i, -, hi⟩ := dues_pos h1
    exact ⟨_, Or.inl ⟨i, hi⟩⟩
  · rw [O₀_eq, Pi.add_apply, Finsupp.add_apply, Nat.eq_zero_of_not_pos h1, Nat.zero_add, Finset.sum_apply, Finsupp.finset_sum_apply] at h
    obtain ⟨k, -, hk⟩ := Finset.exists_ne_zero_of_sum_ne_zero (Nat.pos_iff_ne_zero.mp h)
    rw [tallyAt_apply] at hk
    by_cases hg : g = barCell (nbrFr k c) ∧ u = ()
    · exact ⟨_, Or.inr hg.1⟩
    · exact absurd (if_neg hg) hk

theorem mayWait_stage (c : Dev nD) (q : DmaSem sig) (hq : ∀ i : Copy, q ≠ i.rsem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨d, ⟨i, rfl⟩ | rfl⟩ := O₀_pos hg <;> exact Finset.mem_singleton_self _)
      (fun p hp => by
        rw [Finset.mem_singleton.mp hp]
        exact Nat.le_of_eq (lv_other c (.dma q) rfl fun i h => hq i (SemLoc.dma.inj h)))
      (fun g u hg => by
        obtain ⟨d, ⟨i, rfl⟩ | rfl⟩ := O₀_pos hg
        · cases u; rw [lv_recv]; omega
        · cases u; rw [lv_bar]; omega)
  · rw [MayWait_zero]; iintro -; iempintro

end Cert.KernelIdeal.Run
end
-- ==== Proof.Run.lean ====
/-
The pipeline's data for one device: what its one point finds and leaves, and the body's run between them.
-/
module

public import proofs.«01_k».proof.Proof.Flat
public import proofs.«01_k».proof.Proof.Debt

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The scratch arrays -/

/-- A whole buffer with what it holds. -/
abbrev Holds (c : Dev nD) (b : Ref sig .tc) (V : b.ty.Contents (Elt F)) : sProp 𝕄 := iprop(∃ f : Buf (Elt F) ((c : Thread nD τ).loc b), ⌜f = V⌝ ∗ ((c : Thread nD τ).loc b) ↦{fullShare} f)

theorem own_whole (c : Dev nD) (b : Ref sig .tc) (V : b.ty.Contents (Elt F)) :
    (owns (Ix := Unit) (Name := ℕ) (U := UU) (Lvl := ℕ) (c : Thread nD τ) (Memref.whole b) fullShare V : sProp 𝕄) = Holds c b V := by
  unfold owns; simp only [Memref.view_whole, View.read_whole, View.set_whole]

/-- A whole buffer at some contents. -/
abbrev Some0 (c : Dev nD) (b : Ref sig .tc) : sProp 𝕄 := iprop(∃ f : Buf (Elt F) ((c : Thread nD τ).loc b), ((c : Thread nD τ).loc b) ↦{fullShare} f)

/-- A whole buffer owned at some contents. -/
abbrev Any0 (c : Dev nD) (b : Ref sig .tc) : sProp 𝕄 := iprop(∃ V : b.ty.Contents (Elt F), owns (c : Thread nD τ) (Memref.whole b) fullShare V)

theorem any_whole (c : Dev nD) (b : Ref sig .tc) : (Any0 (F := F) c b : sProp 𝕄) = Some0 c b := by
  refine BI.equiv_iff.mp ⟨?_, ?_⟩
  · show Any0 (F := F) c b ⊢ Some0 c b
    iintro ⟨%V, H⟩
    ihave H' := (Entails.of_eq (own_whole c b V)) $$ H
    icases H' with ⟨%f, -, H'⟩
    iexists f; iexact H'
  · show Some0 c b ⊢ Any0 (F := F) c b
    iintro ⟨%f, H⟩
    iexists f
    iapply (Entails.of_eq (own_whole c b f).symm)
    iexists f
    isplitr
    · ipureintro; rfl
    · iexact H

theorem sorted_in (P : ℕ → sProp 𝕄) : iprop(P 0 ∗ (((P 1 ∗ P 3) ∗ (P 5 ∗ P 7)) ∗ ((P 9 ∗ P 11) ∗ (P 13 ∗ P 15))) ∗ (((P 2 ∗ P 4) ∗ (P 6 ∗ P 8)) ∗ ((P 10 ∗ P 12) ∗ (P 14 ∗ P 16))))
    ⊢ iprop(P 0 ∗ P 1 ∗ P 2 ∗ P 3 ∗ P 4 ∗ P 5 ∗ P 6 ∗ P 7 ∗ P 8 ∗ P 9 ∗ P 10 ∗ P 11 ∗ P 12 ∗ P 13 ∗ P 14 ∗ P 15 ∗ P 16) := by
  iintro ⟨H0, ⟨⟨⟨H1, H3⟩, ⟨H5, H7⟩⟩, ⟨⟨H9, H11⟩, ⟨H13, H15⟩⟩⟩, ⟨⟨⟨H2, H4⟩, ⟨H6, H8⟩⟩, ⟨⟨H10, H12⟩, ⟨H14, H16⟩⟩⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem sorted_out (P : ℕ → sProp 𝕄) : iprop(P 0 ∗ P 1 ∗ P 2 ∗ P 3 ∗ P 4 ∗ P 5 ∗ P 6 ∗ P 7 ∗ P 8 ∗ P 9 ∗ P 10 ∗ P 11 ∗ P 12 ∗ P 13 ∗ P 14 ∗ P 15 ∗ P 16)
    ⊢ iprop(P 0 ∗ (((P 1 ∗ P 3) ∗ (P 5 ∗ P 7)) ∗ ((P 9 ∗ P 11) ∗ (P 13 ∗ P 15))) ∗ (((P 2 ∗ P 4) ∗ (P 6 ∗ P 8)) ∗ ((P 10 ∗ P 12) ∗ (P 14 ∗ P 16)))) := by
  iintro ⟨H0, H1, H2, H3, H4, H5, H6, H7, H8, H9, H10, H11, H12, H13, H14, H15, H16⟩
  isplitl [H0]; · iexact H0
  isplitl [H1 H3 H5 H7 H9 H11 H13 H15]
  · isplitl [H1 H3 H5 H7]
    · isplitl [H1 H3]
      · isplitl [H1]; · iexact H1
        iexact H3
      · isplitl [H5]; · iexact H5
        iexact H7
    · isplitl [H9 H11]
      · isplitl [H9]; · iexact H9
        iexact H11
      · isplitl [H13]; · iexact H13
        iexact H15
  · isplitl [H2 H4 H6 H8]
    · isplitl [H2 H4]
      · isplitl [H2]; · iexact H2
        iexact H4
      · isplitl [H6]; · iexact H6
        iexact H8
    · isplitl [H10 H12]
      · isplitl [H10]; · iexact H10
        iexact H12
      · isplitl [H14]; · iexact H14
        iexact H16
/-- The scratch arrays in the order of their declaration. -/
theorem sorted (P : ℕ → sProp 𝕄) : iprop(P 0 ∗ (((P 1 ∗ P 3) ∗ (P 5 ∗ P 7)) ∗ ((P 9 ∗ P 11) ∗ (P 13 ∗ P 15))) ∗ (((P 2 ∗ P 4) ∗ (P 6 ∗ P 8)) ∗ ((P 10 ∗ P 12) ∗ (P 14 ∗ P 16))))
    = iprop(P 0 ∗ P 1 ∗ P 2 ∗ P 3 ∗ P 4 ∗ P 5 ∗ P 6 ∗ P 7 ∗ P 8 ∗ P 9 ∗ P 10 ∗ P 11 ∗ P 12 ∗ P 13 ∗ P 14 ∗ P 15 ∗ P 16) := BI.equiv_iff.mp ⟨sorted_in P, sorted_out P⟩

/-- The scratch arrays are the pipeline's remaining buffers. -/
theorem scratch_eq (c : Dev nD) : (Scratch c : sProp 𝕄) = Pipeline.scopedRest cfg0.spec c := by
  rw [scopedRest0_eq]
  unfold Scratch Lands Stages
  simp only [two]
  show iprop(Any0 (F := F) c cc0_scratch0 ∗ (((Any0 (F := F) c cc0_scratch1 ∗ Any0 (F := F) c cc0_scratch3) ∗ (Any0 (F := F) c cc0_scratch5 ∗ Any0 (F := F) c cc0_scratch7)) ∗ ((Any0 (F := F) c cc0_scratch9 ∗ Any0 (F := F) c cc0_scratch11) ∗ (Any0 (F := F) c cc0_scratch13 ∗ Any0 (F := F) c cc0_scratch15))) ∗ (((Any0 (F := F) c cc0_scratch2 ∗ Any0 (F := F) c cc0_scratch4) ∗ (Any0 (F := F) c cc0_scratch6 ∗ Any0 (F := F) c cc0_scratch8)) ∗ ((Any0 (F := F) c cc0_scratch10 ∗ Any0 (F := F) c cc0_scratch12) ∗ (Any0 (F := F) c cc0_scratch14 ∗ Any0 (F := F) c cc0_scratch16)))) = iprop(Some0 (F := F) c cc0_scratch0 ∗ Some0 (F := F) c cc0_scratch1 ∗ Some0 (F := F) c cc0_scratch2 ∗ Some0 (F := F) c cc0_scratch3 ∗ Some0 (F := F) c cc0_scratch4 ∗ Some0 (F := F) c cc0_scratch5 ∗ Some0 (F := F) c cc0_scratch6 ∗ Some0 (F := F) c cc0_scratch7 ∗ Some0 (F := F) c cc0_scratch8 ∗ Some0 (F := F) c cc0_scratch9 ∗ Some0 (F := F) c cc0_scratch10 ∗ Some0 (F := F) c cc0_scratch11 ∗ Some0 (F := F) c cc0_scratch12 ∗ Some0 (F := F) c cc0_scratch13 ∗ Some0 (F := F) c cc0_scratch14 ∗ Some0 (F := F) c cc0_scratch15 ∗ Some0 (F := F) c cc0_scratch16)
  simp only [any_whole]
  exact sorted fun n => Some0 c ([cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14, cc0_scratch15, cc0_scratch16].getD n cc0_scratch0)

/-! ## The pipeline's data -/

variable (m : (ℓ : Loc nD τ sig) → Buf (Elt F) ℓ) (ρ : Dev nD → PrngReg)

/-- The memory at launch. -/
def s₁ : MemSt nD τ sig (Elt F) := ⟨m, fun _ => 0, ρ⟩

/-- Device `c`'s block of `A`, as staged. -/
def aAt (c : Dev nD) : Vec F S1536x768 .f32 := (win0_0.blk (0 : Fin 1)).view.read (Elt F) (m ((c : Thread nD τ).loc main_arg0))
/-- Device `c`'s block of `B`, as staged. -/
def bAt (c : Dev nD) : Vec F S768x1536 .f32 := (win0_1.blk (0 : Fin 1)).view.read (Elt F) (m ((c : Thread nD τ).loc main_arg1))

/-- What the body leaves beside the arrays. -/
def Φ₁ (c : Dev nD) : sProp 𝕄 := iprop(Scratch c ∗ Zeros c)
/-- What it finds. -/
def Φ₀ (c : Dev nD) : sProp 𝕄 := iprop(Begin (aAt m) (bAt m) c ∗ Scratch c)

def dats (_ : Fin 1) (c : Dev nD) : Dat τ (Elt F) Unit ℕ UU ℕ cfg0 c where
  A w := (s₁ m ρ).mem ((cfg0.win w).arr.view.loc (c : Thread nD τ))
  after w _ := match w with
    | ⟨0, _⟩ => aAt m c
    | ⟨1, _⟩ => bAt m c
    | ⟨2, _⟩ => outV (aAt m) (bAt m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem windows (Φ : Fin cfg0.W → sProp 𝕄) : bigSep Finset.univ Φ = iprop(Φ (0 : Fin 3) ∗ Φ (1 : Fin 3) ∗ Φ (2 : Fin 3)) := bigSep_W0 Φ
theorem fetch_0 : (cfg0.win (0 : Fin 3)).fetch t₀ = true := rfl
theorem fetch_1 : (cfg0.win (1 : Fin 3)).fetch t₀ = true := rfl

/-- What the pipeline hands the body. -/
def Pre (c : Dev nD) : sProp 𝕄 := iprop(Φ₀ m c ∗ (dats m ρ 0 c).owesAt () t₀.castSucc
  ∗ (∃ d, Holds c cc0_stg0_0 ((dats m ρ 0 c).before (0 : Fin 3) t₀ d)) ∗ (∃ d, Holds c cc0_stg1_0 ((dats m ρ 0 c).before (1 : Fin 3) t₀ d))
  ∗ (∃ d, Holds c cc0_stg2_0 ((dats m ρ 0 c).before (2 : Fin 3) t₀ d)))
/-- What the body hands back. -/
def Post (c : Dev nD) : sProp 𝕄 := iprop(Φ₁ c ∗ (dats m ρ 0 c).owesAt () t₀.succ
  ∗ Holds c cc0_stg0_0 (aAt m c) ∗ Holds c cc0_stg1_0 (bAt m c) ∗ Holds c cc0_stg2_0 (outV (aAt m) (bAt m) c))

theorem before_0 (c : Dev nD) (d) : (dats m ρ 0 c).before (0 : Fin 3) t₀ d = aAt m c := by unfold Dat.before; rw [if_pos fetch_0]; rfl
theorem before_1 (c : Dev nD) (d) : (dats m ρ 0 c).before (1 : Fin 3) t₀ d = bAt m c := by unfold Dat.before; rw [if_pos fetch_1]; rfl

theorem owes_in (c : Dev nD) : (dats m ρ 0 c).owesAt () t₀.castSucc ⊢ (iprop(∃ W, owes (c : Thread nD τ) (O₀ c) W) : sProp 𝕄) := by
  unfold Dat.owesAt Pipeline.owesWithin
  iintro ⟨%W, %hW, HO⟩
  iexists W
  iexact HO
theorem owes_out (c : Dev nD) : (iprop(∃ W, owes (c : Thread nD τ) 0 W) : sProp 𝕄) ⊢ (dats m ρ 0 c).owesAt () t₀.succ := by
  unfold Dat.owesAt Pipeline.owesWithin
  iintro ⟨%W, HO⟩
  iexists W
  isplitr
  · ipureintro; exact fun _ _ => Or.inl trivial
  iexact HO

theorem body_core (c : Dev nD) : Pre m ρ c ⊢ Wp c (model c) fun _ => Post m ρ c := by
  unfold Pre Φ₀
  iintro ⟨⟨HB, HS⟩, HO, ⟨%d0, H0⟩, ⟨%d1, H1⟩, ⟨%d2, H2⟩⟩
  ihave HO := (owes_in m ρ c) $$ HO
  ihave H0 := (Entails.of_eq (show Holds c cc0_stg0_0 ((dats m ρ 0 c).before (0 : Fin 3) t₀ d0) = Own c aM fullShare (aAt m c) from by rw [before_0, ← own_whole])) $$ H0
  ihave H1 := (Entails.of_eq (show Holds c cc0_stg1_0 ((dats m ρ 0 c).before (1 : Fin 3) t₀ d1) = Own c bM fullShare (bAt m c) from by rw [before_1, ← own_whole])) $$ H1
  ihave H2 := (Entails.of_eq (own_whole c cc0_stg2_0 ((dats m ρ 0 c).before (2 : Fin 3) t₀ d2)).symm) $$ H2
  ihave H2 := (any_of (c := c) oM ((dats m ρ 0 c).before (2 : Fin 3) t₀ d2)) $$ H2
  iapply (wp_model (aAt m) (bAt m) c)
  isplitl [HB HS HO H0 H1 H2]
  · isplitl [HB]; · iexact HB
    isplitl [HO]; · iexact HO
    isplitl [HS]; · iexact HS
    isplitl [H0]; · iexact H0
    isplitl [H1]; · iexact H1
    iexact H2
  · iintro ⟨HO, HS, HZ, H0, H1, H2⟩
    unfold Post Φ₁
    isplitl [HS HZ]
    · isplitl [HS]; · iexact HS
      iexact HZ
    isplitl [HO]; · iapply (owes_out m ρ c); iexact HO
    isplitl [H0]; · iapply (Entails.of_eq (own_whole c cc0_stg0_0 (aAt m c))); iexact H0
    isplitl [H1]; · iapply (Entails.of_eq (own_whole c cc0_stg1_0 (bAt m c))); iexact H1
    iapply (Entails.of_eq (own_whole c cc0_stg2_0 (outV (aAt m) (bAt m) c))); iexact H2

set_option maxRecDepth 100000 in
theorem body_run (c : Dev nD) : Pre m ρ c ⊢ wp frame (wpE (defs₀ (F := F)) 𝒱₀ c none) Set.univ (bodyAt0 (F := F) t₀) (fun _ => Post m ρ c) := by
  rw [body_eq]
  refine (body_core m ρ c).trans ?_
  simp only [wp_deviceId]
  exact BI.Entails.refl _

theorem phi_in (c : Dev nD) : (dats m ρ 0 c).Φ t₀.castSucc = Φ₀ m c := rfl
theorem phi_out (c : Dev nD) : (dats m ρ 0 c).Φ t₀.succ = Φ₁ c := rfl
theorem after_0 (c : Dev nD) : (dats m ρ 0 c).after (0 : Fin 3) t₀ = aAt m c := rfl
theorem after_1 (c : Dev nD) : (dats m ρ 0 c).after (1 : Fin 3) t₀ = bAt m c := rfl
attribute [local irreducible] outV in
theorem after_2 (c : Dev nD) : (dats m ρ 0 c).after (2 : Fin 3) t₀ = outV (aAt m) (bAt m) c := rfl

/-- The pipeline's obligation, from a run of the program its one point calls. -/
theorem obligation_of (c : Dev nD) (p : Prog (TpuEff nD τ sig (Elt F) Λ₀ .tc) PUnit)
    (hp : (defs₀ (F := F)) .tc cfg0.body (cfg0.bodyArgs t₀ (cfg0.slots t₀)) = p)
    (h : Pre m ρ c ⊢ wp frame (wpE (defs₀ (F := F)) 𝒱₀ c none) Set.univ p (fun _ => Post m ρ c)) :
    BodyObligation (dats m ρ 0 c) (defs₀ (F := F)) 𝒱₀ () Set.univ := fun t => by
  rw [fin_N t, hp, windows, windows]
  simp only [own_whole]
  rw [phi_in, phi_out, after_0, after_1, after_2]
  exact h

set_option maxRecDepth 100000 in
/-- The body meets the pipeline's obligation. -/
theorem body_obligation (c : Dev nD) : BodyObligation (dats m ρ 0 c) (defs₀ (F := F)) 𝒱₀ () Set.univ :=
  obligation_of m ρ c (bodyAt0 t₀) rfl (body_run m ρ c)

end Cert.KernelIdeal.Run
end
-- ==== Proof.Main.lean ====
/-
The run of the whole mesh: the launch theorem at the exchange's resources, data and obligations.
-/
module

public import proofs.«01_k».proof.Proof.Run
public import Idealize.ShloMosaic.Lib.Pipeline.CollectiveSegs

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem where
  isScoped := by decide +kernel
  inj := osem_inj
  disj := by decide +kernel

theorem stage_ne_rsem : ∀ (w : Fin cfg0.W) (s : Fin (cfg0.win w).nbuf) (i : Copy), (cfg0.win w).sem s ≠ i.rsem := by decide +kernel

theorem share_eq (c : Dev nD) (w : Fin cfg0.W) : (dats m ρ 0 c).share w = fullShare := by unfold Dat.share; split <;> rfl

/-- The resource of the launch: the pipeline's cells and the exchange's. -/
def u₀ : UU := (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (aAt m) (bAt m) c)
      ⊢ |={Set.univ}=> iprop(Begin (aAt m) (bAt m) c ∗ emp) := by
  iintro ⟨-, Hlev, Hcr, -, HG⟩
  ihave Hc := (creds (F := F) c) $$ Hcr
  imodintro
  unfold Begin G'
  isplitl
  · isplitl [HG]; · iexact HG
    isplitl [Hc]; · iexact Hc
    iexact Hlev
  · iempintro

theorem phi0_intro (c : Dev nD) :
    iprop(Begin (aAt m) (bAt m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, ← scratch_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Own0 c ∗ Pipeline.scopedRest cfg0.spec c) := by
  rw [show (dats m ρ 0 c).Φ (Fin.last cfg0.N) = Φ₁ c from rfl, ← scratch_eq, own0_eq, unscoped_eq]
  unfold Φ₁ Zeros
  iintro ⟨Hr, HB, HS, HV⟩
  isplitl [HB]; · iexact HB
  isplitl [HS HV]
  · isplitl [HS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_ne_rsem w s) _ (by
      rcases t with ⟨_ | _, ht⟩
      · exact Or.inl rfl
      · exact Or.inr rfl)

/-- Window `w`'s array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- On all 32 devices, for any float values, from any memory with zero counters: every weakly fair execution ends, every
    array holding what the pipeline's data say and every counter at zero. -/
theorem run_main : θ_run defs (onTc (τ := τ) (main (F := F))) (s₁ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (aAt m) (bAt m)) (G' := G' (aAt m) (bAt m)) (u₀ := u₀)
    (hu₀ := by
      unfold u₀
      iintro Hu
      ihave H := (ownU_pair _ _) $$ Hu
      icases H with ⟨HP, HX⟩
      imod (fund_all (aAt m) (bAt m)) $$ HX with HG
      imodintro
      isplitl [HP] <;> iassumption)
    (hglob := glob (aAt m) (bAt m))
    (hA := fun _ _ => rfl) (hpf := fun _ k => k.elim0)
    (X := Begin (aAt m) (bAt m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays hold what they held. -/
theorem finalA_0 (c : Dev nD) : finalA m ρ c (0 : Fin 3) = m ((c : Thread nD τ).loc main_arg0) :=
  (dats m ρ 0 c).arrAt_in (0 : Fin 3) rfl _
theorem finalA_1 (c : Dev nD) : finalA m ρ c (1 : Fin 3) = m ((c : Thread nD τ).loc main_arg1) :=
  (dats m ρ 0 c).arrAt_in (1 : Fin 3) rfl _

end Cert.KernelIdeal.Run
end
-- ==== Proof.Frames.lean ====
/-
The frame claims: the run of the whole mesh read at the argument arrays and at the counters, at bits and at the
ideal values, and the reference's run on its one device.
-/
module

public import proofs.«01_k».proof.Defs
public import proofs.«01_k».proof.Proof.Same
public import proofs.«01_k».proof.Proof.Main
public import proofs.«01_k».proof.Proof.Gen.ReferenceIdeal.Run

@[expose] public section

noncomputable section

namespace Cert.Proof

open Idealize.ShloMosaic Idealize.SL.Sem

variable {F : FTy → Type} [FloatOps F]

/-- The frame at any float values, of the idealization's program. -/
theorem frame_any (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c (0 : Fin 3)).trans (Cert.KernelIdeal.Run.finalA_0 m ρ c),
    (h.1 c (1 : Fin 3)).trans (Cert.KernelIdeal.Run.finalA_1 m ρ c)⟩, h.2⟩) (Cert.KernelIdeal.Run.run_main m ρ)

theorem frame_ideal : Cert.quiescent_KernelIdeal := fun m ρ _ => frame_any m ρ

set_option maxRecDepth 100000 in
theorem frame_kernel : Cert.quiescent_Kernel := fun m ρ _ => by
  rw [same_defs]
  exact frame_any (F := Bits) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

end Cert.Proof

end
-- ==== Proof.Result.lean ====
/-
The arrays after the run: the windows are whole arrays, so the result array holds what the device computed.
-/
module

public import proofs.«01_k».proof.Proof.Main

@[expose] public section

noncomputable section

namespace Cert.KernelIdeal.Run

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

/-- The window of the first argument is the whole of it, -/
theorem aAt_eq (c : Dev nD) : aAt m c = m ((c : Thread nD τ).loc main_arg0) :=
  have hz : (fun a => (win0_0.index (0 : Fin 1)) a * main_arg0.ty.shape.size a) = fun _ => 0 := funext fun a => by fin_cases a <;> decide
  Memref.read_access_unit_zero (Elt F) main_arg0 hz (fun a => by fin_cases a <;> decide) (m ((c : Thread nD τ).loc main_arg0))
/-- that of the second as well, -/
theorem bAt_eq (c : Dev nD) : bAt m c = m ((c : Thread nD τ).loc main_arg1) :=
  have hz : (fun a => (win0_1.index (0 : Fin 1)) a * main_arg1.ty.shape.size a) = fun _ => 0 := funext fun a => by fin_cases a <;> decide
  Memref.read_access_unit_zero (Elt F) main_arg1 hz (fun a => by fin_cases a <;> decide) (m ((c : Thread nD τ).loc main_arg1))

attribute [local irreducible] outV in
theorem finalA_2_read (c : Dev nD) : (win0_2.blk (0 : Fin 1)).view.read (Elt F) (finalA m ρ c (2 : Fin 3)) = outV (aAt m) (bAt m) c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

attribute [local irreducible] outV in
/-- and the result array ends holding what the device computed. -/
theorem finalA_2 (c : Dev nD) : finalA m ρ c (2 : Fin 3) = outV (aAt m) (bAt m) c :=
  have hz : (fun a => (win0_2.index (0 : Fin 1)) a * main_v1.ty.shape.size a) = fun _ => 0 := funext fun a => by fin_cases a <;> decide
  (Memref.read_access_unit_zero (Elt F) main_v1 hz (fun a => by fin_cases a <;> decide) (finalA m ρ c (2 : Fin 3))).symm.trans (finalA_2_read m ρ c)

end Cert.KernelIdeal.Run
end
-- ==== Proof.Math.lean ====
/-
The exchange read as sums over the extended reals: every element of the result is the positive part of the sum,
over the 32 devices, of their partial products.
-/
module

public import proofs.«01_k».proof.Proof.Values
public import Idealize.ShloMosaic.Lib.Pointwise

@[expose] public section

noncomputable section

namespace Cert.KernelIdeal.Run

open Cert.KernelIdeal Cert.KernelIdeal.Gen
open Idealize.ShloMosaic Idealize.ShloMosaic.TcCoe

variable (X : Dev nD → Vec Ideal S1536x768 .f32) (Y : Dev nD → Vec Ideal S768x1536 .f32)

/-! ## The operations at an element -/

/-- Dropping the unit axis of `unsq V` gives `V` back. -/
theorem cast_unsq (V : Vec Ideal S48x768 .bf16) : shapeCast S48x768 (unsq V) shapeCasts_S1x48x768_S48x768 = V :=
  funext fun i => congrArg V (Equiv.symm_apply_apply _ i)

theorem pay_add (a : Vec Ideal S48x768 .f32) (b : Vec Ideal S48x768 .bf16) (i : S48x768.Idx) :
    k0_pay8 a (unsq b) i = a i + b i ∧ k0_pay86 a (unsq b) i = a i + b i ∧ k0_pay97 a (unsq b) i = a i + b i
      ∧ k0_pay103 a (unsq b) i = a i + b i ∧ k0_pay105 a (unsq b) i = a i + b i ∧ k0_pay106 a (unsq b) i = a i + b i := by
  unfold k0_pay8 k0_pay86 k0_pay97 k0_pay105 k0_pay106 k0_pay104 k0_pay103
  simp only [shapeCast_self]
  have e : a i + shapeCast S48x768 (unsq b) shapeCasts_S1x48x768_S48x768 i = a i + b i := congrArg (a i + ·) (congrFun (cast_unsq b) i)
  exact ⟨e, e, e, e, e, e⟩

theorem pay_cast (a : Vec Ideal S48x768 .f32) (b : Vec Ideal S48x768 .bf16) (i : S48x768.Idx) :
    k0_pay95 a i = a i ∧ k0_pay111 (unsq b) i = b i ∧ k0_pay112 (unsq b) i = b i := by
  unfold k0_pay95 k0_pay111 k0_pay112
  simp only [shapeCast_self]
  exact ⟨rfl, congrFun (cast_unsq b) i, congrFun (cast_unsq b) i⟩

theorem pay_pos (b : Vec Ideal S48x768 .bf16) (i : S48x768.Idx) : k0_pay123 (unsq b) i = max (b i) (0 : EReal) := by
  unfold k0_pay123
  rw [← congrFun (cast_unsq b) i, ← Ideal.ofBits_zero_f32]
  rfl

theorem pay_pos_half (a : Vec Ideal S192x768 .f32) (i : S192x768.Idx) : k0_pay183 a i = max (a i) (0 : EReal) := by
  unfold k0_pay183
  simp only [shapeCast_self]
  show max (a i) (Ideal.ofBits .f32 0x00000000#32) = _
  rw [Ideal.ofBits_zero_f32]

/-- Device `c`'s partial product at an element of the result. -/
def part (c : Dev nD) (x : S1536x1536.Idx) : EReal := ∑ k : Fin 768, X c (ix2 (x 0) k) * Y c (ix2 k (x 1))

theorem dotV_apply (c : Dev nD) (j : Fin 8) (i : S192x1536.Idx) : dotV X Y c j i = part X Y c ((oRect j).emb i) := by
  unfold dotV k0_pay2 k0_pay1
  simp only [shapeCast_self]
  show Ideal.matmul _ _ _ _ i = _
  rw [Ideal.matmul_apply₁ _ rfl rfl]
  show Ideal.ofBits .f32 0x00000000#32 + _ = _
  rw [Ideal.ofBits_zero_f32, zero_add]
  unfold part
  refine Finset.sum_congr rfl fun k _ => ?_
  show X c ((aRect j).emb (Shape.Idx.norm _)) * Y c (Shape.Idx.norm _) = _
  refine congrArg₂ (· * ·) (congrArg (X c) ?_) (congrArg (Y c) ?_)
  · funext a
    fin_cases a
    · exact Fin.ext rfl
    · exact Fin.ext (show 0 + 1 * k.val = k.val by omega)
  · funext a
    fin_cases a
    · exact Fin.ext rfl
    · exact Fin.ext (show (i 1).val = 0 + 1 * (i 1).val by omega)

/-- Every device's. -/
def total (x : S1536x1536.Idx) : EReal := ∑ d : Dev nD, part X Y d x

theorem dotT_apply (c : Dev nD) (j : Fin 8) (u : Fin 4) (h : Bool) (i : S48x768.Idx) :
    dotT X Y c j u h i = part X Y c ((tRect j u h).emb i) := by
  unfold dotT
  rw [dotV_apply]
  congr 1
  funext a
  fin_cases a
  · exact Fin.ext (show 192 * j.val + 1 * (48 * u.val + 1 * (i 0).val) = 192 * j.val + 48 * u.val + 1 * (i 0).val by omega)
  · exact Fin.ext (show 0 + 1 * ((if h then 768 else 0) + 1 * (i 1).val) = (if h then 768 else 0) + 1 * (i 1).val by omega)

/-! ## The row rings -/

/-- `e` steps back along the row ring, -/
abbrev rowBack (h : Bool) (e : ℕ) (c : Dev nD) : Dev nD := (rowFr h)^[e] c
/-- and along the column ring. -/
abbrev colBack (h : Bool) (e : ℕ) (c : Dev nD) : Dev nD := (colFr h)^[e] c

theorem blkN_rowFr (h : Bool) (c : Dev nD) (n : ℕ) : blkN h (rowFr h c) n = blkN h c (n + 1) := by
  have key : ∀ n : ℕ, Fin.ofNat 8 (n + 1) = Fin.ofNat 8 n + 1 := fun n => Fin.ext (by simp [Fin.ofNat, Fin.val_add])
  have := j1_next h (rowFr h c) (Fin.ofNat 8 n) _ (key n)
  rw [rowTo_rowFr] at this
  exact this.symm
theorem unitN_colFr (h : Bool) (c : Dev nD) (n : ℕ) : unitN h (colFr h c) n = unitN h c (n + 1) := by
  have key : ∀ n : ℕ, Fin.ofNat 4 (n + 1) = Fin.ofNat 4 n + 1 := fun n => Fin.ext (by simp [Fin.ofNat, Fin.val_add])
  have := unitAt_colTo h (colFr h c) (Fin.ofNat 4 n) _ (key n)
  rw [colTo_colFr] at this
  exact this.symm
theorem jOwn_colFr (h : Bool) (c : Dev nD) : jOwn h (colFr h c) = jOwn h c := jOwn_colTo (!h) h c 7

/-- A tile of block `j`, unit `u`, half `h`, and an element of it. -/
abbrev at' (j : Fin 8) (u : Fin 4) (h : Bool) (i : S48x768.Idx) : S1536x1536.Idx := (tRect j u h).emb i

theorem v1_apply (h : Bool) (u : Fin 4) (i : S48x768.Idx) (s : ℕ) : ∀ c : Dev nD,
    v1 X Y h u s c i = ∑ e ∈ Finset.range (s + 1), part X Y (rowBack h e c) (at' (blkN h c s) u h i) := by
  induction s with
  | zero =>
    intro c
    rw [Finset.sum_range_one]
    unfold v1 k0_pay3
    simp only [shapeCast_self]
    show dotH X Y c (blkAt h c 0) h ((uRect u).emb i) = _
    rw [← dotT_apply]
    show dotV X Y c _ _ = dotV X Y c _ _
    congr 1
    funext a
    fin_cases a
    · exact Fin.ext (show 0 + 1 * (48 * u.val + 1 * (i 0).val) = 48 * u.val + 1 * (i 0).val by omega)
    · exact Fin.ext (show (if h then 768 else 0) + 1 * (0 + 1 * (i 1).val) = (if h then 768 else 0) + 1 * (i 1).val by omega)
  | succ s ih =>
    intro c
    rw [Finset.sum_range_succ', add_comm (Finset.sum _ _)]
    unfold v1
    rw [(pay_add _ _ i).1, dotT_apply, ih, blkN_rowFr]
    rfl

/-- The row's sum of a tile: over the eight places. -/
theorem out1_apply (h : Bool) (u : Fin 4) (i : S48x768.Idx) (c : Dev nD) :
    out1 X Y h u c i = ∑ e ∈ Finset.range 8, part X Y (rowBack h e c) (at' (jOwn h c) u h i) := by
  rw [Finset.sum_range_succ', add_comm (Finset.sum _ _)]
  unfold out1
  rw [(pay_add _ _ i).2.1, dotT_apply, v1_apply, blkN_rowFr]
  rfl

/-! ## The column rings -/

/-- The sum of a row, from the device `c` back. -/
abbrev rowSum (h : Bool) (c : Dev nD) (x : S1536x1536.Idx) : EReal := ∑ e ∈ Finset.range 8, part X Y (rowBack h e c) x

theorem v2_apply (h : Bool) (i : S48x768.Idx) (t : ℕ) : ∀ c : Dev nD,
    v2 X Y h t c i = ∑ s ∈ Finset.range (t + 1), rowSum X Y h (colBack h s c) (at' (jOwn h c) (unitN h c t) h i) := by
  induction t with
  | zero =>
    intro c
    rw [Finset.sum_range_one]
    unfold v2
    rw [(pay_cast _ (v2 X Y h 0 c) i).1, out1_apply]
    rfl
  | succ t ih =>
    intro c
    rw [Finset.sum_range_succ', add_comm (Finset.sum _ _)]
    unfold v2
    rw [(pay_add _ _ i).2.2.1, out1_apply, ih, unitN_colFr, jOwn_colFr]
    rfl

/-- How many steps back along the column ring, and then along the row ring, lead from `c` to `d`. -/
def stepsTo (h : Bool) (c d : Dev nD) : Fin 4 × Fin 8 := match h with
  | false => (rowNo c - rowNo d, kOf (colNo c) - kOf (colNo d))
  | true => (rowNo d - rowNo c, kOf (colNo d) - kOf (colNo c))
theorem stepsTo_spec (h : Bool) (c d : Dev nD) : rowBack h (stepsTo h c d).2.val (colBack h (stepsTo h c d).1.val c) = d := by
  revert h c d; decide +kernel
/-- Four steps of the column ring and eight of the row ring meet every device once. -/
theorem torus_bij (h : Bool) (c : Dev nD) : Function.Bijective fun p : Fin 4 × Fin 8 => rowBack h p.2.val (colBack h p.1.val c) :=
  (Fintype.bijective_iff_surjective_and_card _).2 ⟨fun d => ⟨stepsTo h c d, stepsTo_spec h c d⟩, by decide⟩

theorem torus_sum (h : Bool) (c : Dev nD) (x : S1536x1536.Idx) : ∑ s ∈ Finset.range 4, rowSum X Y h (colBack h s c) x = total X Y x := by
  unfold total
  rw [← (torus_bij h c).sum_comp (fun d => part X Y d x), Fintype.sum_prod_type, Finset.sum_range]
  exact Finset.sum_congr rfl fun s _ => Finset.sum_range _

theorem last_apply (h : Bool) (i : S48x768.Idx) (c : Dev nD) :
    out1 X Y h (unitAt h c 3) c i + v2 X Y h 2 (colFr h c) i = total X Y (at' (jOwn h c) (unitAt h c 3) h i) := by
  rw [← torus_sum X Y h c, Finset.sum_range_succ', add_comm (Finset.sum _ _), out1_apply, v2_apply, unitN_colFr, jOwn_colFr]
  rfl

theorem tot_apply (h : Bool) (i : S48x768.Idx) (c : Dev nD) : tot X Y h c i = total X Y (at' (jOwn h c) (unitAt h c 3) h i) := by
  unfold tot
  rw [(pay_add _ _ i).2.2.2.1, last_apply]

/-! ## The broadcasts -/

theorem v2b_apply (h : Bool) (i : S48x768.Idx) (t : ℕ) : ∀ c : Dev nD,
    v2b X Y h t c i = total X Y (at' (jOwn h c) (unitN h c (t + 3)) h i) := by
  induction t with
  | zero =>
    intro c
    unfold v2b
    rw [(pay_add _ _ i).2.2.2.2.1, last_apply]
    rfl
  | succ t ih =>
    intro c
    unfold v2b
    rw [ih, unitN_colFr, jOwn_colFr, show t + 1 + 3 = t + 3 + 1 by omega]

theorem ofNat4 (p : Fin 4) : Fin.ofNat 4 (p.val + 3 + 1) = p := by revert p; decide
theorem ofNat8 (p : Fin 7) : Fin.ofNat 8 (p.val + 7 + 1) = p.castSucc := by revert p; decide

theorem v2b_recv (h : Bool) (i : S48x768.Idx) (p : Fin 4) (c : Dev nD) :
    v2b X Y h p.val (colFr h c) i = total X Y (at' (jOwn h c) (unitAt h c p) h i) := by
  rw [v2b_apply, unitN_colFr, jOwn_colFr]
  unfold unitN
  rw [ofNat4]

theorem ownT_apply (h : Bool) (i : S48x768.Idx) (u : Fin 4) (c : Dev nD) : ownT X Y h c u i = total X Y (at' (jOwn h c) u h i) := by
  unfold ownT
  split
  · next e => rw [tot_apply, ← e, unitAt_posOf]
  · rw [(pay_cast (fun _ => 0) _ i).2.2, v2b_recv, unitAt_posOf]

theorem s3_apply (h : Bool) (i : S48x768.Idx) (p : Fin 4) (c : Dev nD) : s3 X Y h c p i = total X Y (at' (jOwn h c) (unitAt h c p) h i) := by
  unfold s3
  split
  · next e => subst e; rw [(pay_add _ _ i).2.2.2.2.2, last_apply]
  · rw [(pay_cast (fun _ => 0) _ i).2.1, v2b_recv]

theorem v3_apply (h : Bool) (u : Fin 4) (i : S48x768.Idx) (t : ℕ) : ∀ c : Dev nD,
    v3 X Y h u t c i = total X Y (at' (blkN h c (t + 7)) u h i) := by
  induction t with
  | zero =>
    intro c
    unfold v3
    rw [s3_apply, unitAt_posOf]
    rfl
  | succ t ih =>
    intro c
    unfold v3
    rw [ih, blkN_rowFr, show t + 1 + 7 = t + 7 + 1 by omega]

theorem endT_recv (h : Bool) (u : Fin 4) (i : S48x768.Idx) (t : Fin 7) (c : Dev nD) :
    endT X Y c (j3 h c t) u h i = max (total X Y (at' (j3 h c t) u h i)) 0 := by
  rw [endT_j3, pay_pos, v3_apply, blkN_rowFr]
  unfold blkN
  rw [ofNat8]
  rfl

/-- Every block is the kept one or one that the broadcast brings. -/
theorem blk_cases (h : Bool) (c : Dev nD) (j : Fin 8) : j = jOwn h c ∨ ∃ t, j = j3 h c t := by
  obtain ⟨e, he⟩ := Finite.surjective_of_injective (blkAt_inj h c) j
  subst he
  rcases Fin.eq_castSucc_or_eq_last e with ⟨t, ht⟩ | ht
  · exact .inr ⟨t, by rw [ht]; rfl⟩
  · exact .inl (by rw [ht]; rfl)

/-! ## The whole result -/

theorem endO_tile (c : Dev nD) (j : Fin 8) (u : Fin 4) (h : Bool) (i : S48x768.Idx) : endO X Y c (at' j u h i) = endT X Y c j u h i := by
  unfold endO
  exact Rect.glue_emb (fun p : Fin 8 × Fin 4 × Bool => tRect p.1 p.2.1 p.2.2) tRect_cover tRect_disj
    (fun p => endT X Y c p.1 p.2.1 p.2.2) (j, u, h) i

theorem tile_of (x : S1536x1536.Idx) : ∃ j u h i, x = at' j u h i := by
  have hx := (Finset.ext_iff.mp tRect_cover x).2 (Finset.mem_univ _)
  obtain ⟨p, -, hp⟩ := Finset.mem_biUnion.mp hx
  rw [← Rect.map_emb_univ] at hp
  obtain ⟨i, -, hi⟩ := Finset.mem_map.mp hp
  exact ⟨p.1, p.2.1, p.2.2, i, hi.symm⟩

end Cert.KernelIdeal.Run
end
-- ==== Proof.Whole.lean ====
/-
The kept half blocks, the whole result, and the sum over the devices as one product of the whole arrays.
-/
module

public import proofs.«01_k».proof.Proof.Math
public import Idealize.ShloMosaic.Lib.Layout

@[expose] public section

noncomputable section

namespace Cert.KernelIdeal.Run

open Cert.KernelIdeal Cert.KernelIdeal.Gen
open Idealize.ShloMosaic Idealize.ShloMosaic.TcCoe

variable (X : Dev nD → Vec Ideal S1536x768 .f32) (Y : Dev nD → Vec Ideal S768x1536 .f32)

theorem at_mem (j : Fin 8) (u : Fin 4) (h : Bool) (i : S48x768.Idx) : at' j u h i ∈ (hRect j h).set := by
  rw [LoadRect.mem_set]
  intro a
  have h0 : (i 0).val < 48 := (i 0).isLt
  have h1 : (i 1).val < 768 := (i 1).isLt
  have hu := u.isLt
  fin_cases a
  · exact ⟨48 * u.val + (i 0).val, show _ < 192 by omega, show 192 * j.val + 48 * u.val + 1 * (i 0).val = 192 * j.val + 1 * (48 * u.val + (i 0).val) by omega⟩
  · exact ⟨(i 1).val, show _ < 768 from h1, rfl⟩

theorem pos_pos (a : EReal) : max (max a 0) 0 = max a 0 := max_eq_left (le_max_right _ _)

/-- Taking the positive part of what the rings leave gives the positive part of the total, -/
theorem endO_pos (c : Dev nD) (x : S1536x1536.Idx) : max (endO X Y c x) (0 : EReal) = max (total X Y x) 0 := by
  obtain ⟨j, u, h, i, rfl⟩ := tile_of x
  rw [endO_tile]
  rcases blk_cases h c j with rfl | ⟨t, rfl⟩
  · rw [endT_own, ownT_apply]
  · rw [endT_recv, pos_pos]
/-- and outside the two kept half blocks it has been taken. -/
theorem endO_rest (c : Dev nD) (x : S1536x1536.Idx) (hx : ∀ h, x ∉ (hRect (jOwn h c) h).set) : endO X Y c x = max (total X Y x) 0 := by
  obtain ⟨j, u, h, i, rfl⟩ := tile_of x
  rw [endO_tile]
  rcases blk_cases h c j with rfl | ⟨t, rfl⟩
  · exact absurd (at_mem _ u h i) (hx h)
  · rw [endT_recv]

/-- Storing the positive part of a half block into it. -/
theorem overlay_pos (j : Fin 8) (h : Bool) (V : Vec Ideal S1536x1536 .f32) (x : S1536x1536.Idx) :
    (hRect j h).overlay V (k0_pay183 fun i => V ((hRect j h).emb i)) x = if x ∈ (hRect j h).set then max (V x) (0 : EReal) else V x := by
  split
  · next hx =>
    rw [← Rect.map_emb_univ] at hx
    obtain ⟨i, -, rfl⟩ := Finset.mem_map.mp hx
    rw [Rect.overlay_emb, pay_pos_half]
  · next hx => rw [Rect.overlay_of_not_mem _ _ _ hx]

/-- What every device writes: the positive part of the sum of the 32 partial products. -/
theorem outV_apply (c : Dev nD) (x : S1536x1536.Idx) : outV X Y c x = max (total X Y x) (0 : EReal) := by
  have hP : endP X Y c x = if x ∈ (hRect (jOwn false c) false).set then max (endO X Y c x) (0 : EReal) else endO X Y c x :=
    overlay_pos _ _ _ _
  have hO : outV X Y c x = if x ∈ (hRect (jOwn true c) true).set then max (endP X Y c x) (0 : EReal) else endP X Y c x :=
    overlay_pos _ _ _ _
  rw [hO, hP]
  by_cases h1 : x ∈ (hRect (jOwn true c) true).set <;> by_cases h0 : x ∈ (hRect (jOwn false c) false).set
  · rw [if_pos h1, if_pos h0, pos_pos, endO_pos]
  · rw [if_pos h1, if_neg h0, endO_pos]
  · rw [if_neg h1, if_pos h0, endO_pos]
  · rw [if_neg h1, if_neg h0]
    exact endO_rest X Y c x fun h => by cases h <;> assumption

/-! ## Against one product of the whole arrays -/

/-- The partial products of the blocks of `A` and `B` sum to the whole product's element. -/
theorem total_block (A : Vec Ideal ⟨2, ![1536, 24576]⟩ .f32) (B : Vec Ideal ⟨2, ![24576, 1536]⟩ .f32) (x : S1536x1536.Idx) :
    total (fun c => Layout.block ⟨2, ![1536, 768]⟩ ⟨2, ![1536, 24576]⟩ 1 32 c A) (fun c => Layout.block ⟨2, ![768, 1536]⟩ ⟨2, ![24576, 1536]⟩ 0 32 c B) x
      = ∑ k : Fin 24576, (A (ix2 (x 0) k) * B (ix2 k (x 1)) : EReal) := by
  unfold total part
  have e := (finProdFinEquiv (m := 32) (n := 768)).sum_comp fun k : Fin 24576 => (A (ix2 (x 0) k) * B (ix2 k (x 1)) : EReal)
  rw [Fintype.sum_prod_type] at e
  refine Eq.trans ?_ e
  refine Finset.sum_congr rfl fun d _ => Finset.sum_congr rfl fun k _ => ?_
  refine congrArg₂ (· * ·) (congrArg A ?_) (congrArg B ?_)
  · funext a
    fin_cases a
    · rfl
    · exact Fin.ext (show d.val * 768 + k.val = k.val + 768 * d.val by omega)
  · funext a
    fin_cases a
    · exact Fin.ext (show d.val * 768 + k.val = k.val + 768 * d.val by omega)
    · rfl

end Cert.KernelIdeal.Run
end
-- ==== Proof.Algebraic.lean ====
/-
The value claim: over the extended reals every device's result is the positive part of the product of the whole
arrays, which is what the reference computes.
-/
module

public import proofs.«01_k».proof.Defs
public import proofs.«01_k».proof.Proof.Result
public import proofs.«01_k».proof.Proof.Whole
public import proofs.«01_k».proof.Proof.Gen.ReferenceIdeal.Run

@[expose] public section

noncomputable section

namespace Cert.Proof

open Idealize.ShloMosaic Idealize.ShloMosaic.TcCoe Idealize.SL.Sem

/-- The reference's result at an element. -/
theorem reference_apply (A : FVec Ideal Cert.ReferenceIdeal.S1536x24576 .f32) (B : FVec Ideal Cert.ReferenceIdeal.S24576x1536 .f32)
    (x : Cert.ReferenceIdeal.S1536x1536.Idx) :
    maximumf (Host.dotGeneral Cert.ReferenceIdeal.dot_S1536x24576_S24576x1536_S1536x1536_1_0_0_1_n_n none A B)
        (broadcastInDim Cert.ReferenceIdeal.S1536x1536 ![] Cert.ReferenceIdeal.Gen.bcast_S_S1536x1536 (constant Cert.ReferenceIdeal.S_ .f32 0x00000000#32)) x
      = max (∑ k : Fin 24576, (A (ix2 (x 0) k) * B (ix2 k (x 1)) : EReal)) 0 := by
  pointwise

open Cert.KernelIdeal Cert.KernelIdeal.Run in
/-- What a device writes, from its blocks of the whole arrays. -/
theorem outV_block (X : Dev nD → Vec Ideal S1536x768 .f32) (Y : Dev nD → Vec Ideal S768x1536 .f32)
    (A : FVec Ideal Cert.ReferenceIdeal.S1536x24576 .f32) (B : FVec Ideal Cert.ReferenceIdeal.S24576x1536 .f32)
    (hX : ∀ c, X c = Layout.block ⟨2, ![1536, 768]⟩ ⟨2, ![1536, 24576]⟩ 1 32 c A)
    (hY : ∀ c, Y c = Layout.block ⟨2, ![768, 1536]⟩ ⟨2, ![24576, 1536]⟩ 0 32 c B) (c : Dev nD) :
    outV X Y c = maximumf (Host.dotGeneral Cert.ReferenceIdeal.dot_S1536x24576_S24576x1536_S1536x1536_1_0_0_1_n_n none A B)
        (broadcastInDim Cert.ReferenceIdeal.S1536x1536 ![] Cert.ReferenceIdeal.Gen.bcast_S_S1536x1536 (constant Cert.ReferenceIdeal.S_ .f32 0x00000000#32)) := by
  funext x
  rw [outV_apply, reference_apply, funext hX, funext hY, total_block]

attribute [local irreducible] Cert.KernelIdeal.Run.outV in
theorem algebraic : Cert.algebraic_KernelIdeal_ReferenceIdeal := fun m g m' g' _ hm =>
  ⟨_, (θ_run Cert.KernelIdeal.defs _ _).mono (fun _ h c => ⟨((h.1 c (2 : Fin 3)).trans (Cert.KernelIdeal.Run.finalA_2 m g c)).trans
        (outV_block _ _ _ _ (fun d => (Cert.KernelIdeal.Run.aAt_eq m d).trans (hm d).1) (fun d => (Cert.KernelIdeal.Run.bAt_eq m d).trans (hm d).2) c),
      (h.1 c (0 : Fin 3)).trans (Cert.KernelIdeal.Run.finalA_0 m g c), (h.1 c (1 : Fin 3)).trans (Cert.KernelIdeal.Run.finalA_1 m g c)⟩)
    (Cert.KernelIdeal.Run.run_main m g),
    (θ_run Cert.ReferenceIdeal.defs _ _).mono (fun _ h => h 0) (Cert.ReferenceIdeal.Value.run m' g')⟩

end Cert.Proof

end
-- ==== Proof.lean ====
/-
The proof of `Cert.Claim`: the frames of the kernel, of the ideal kernel and of the reference (Proof/Frames.lean), that
the ideal program is the kernel, and that kernel and reference compute the same function over the extended reals
(Proof/Algebraic.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts, frame_kernel, frame_ideal, frame_reference, trivial, algebraic⟩

end Cert.Proof

end
